-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scores [hPre_finite_scores : Cert.Pre_finite_scores.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_scores [hPre_finite_scores : Cert.Pre_finite_scores.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_scores [hKernel3Ideal : Cert.Kernel3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scores m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_scores [hReference3Ideal : Cert.Reference3Ideal.Facts] [hPre_finite_scores : Cert.Pre_finite_scores.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scores m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel3_Kernel3Ideal : Prop :=
  True

def algebraic_Kernel3Ideal_Reference3Ideal_pre_finite_scores [hKernel3Ideal : Cert.Kernel3Ideal.Facts] [hReference3Ideal : Cert.Reference3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scores m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v114) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)) (v4 : (c : Dev Cert.Kernel4Ideal.nD) → Buf (Elt Ideal) ((c.tc : Thread Cert.Kernel4Ideal.nD Cert.Kernel4Ideal.τ).loc Cert.Kernel4Ideal.main_v7_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_v7_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_v21) = v2 c
          ∧ r.2.mem ((c.tc : Thread Cert.Reference4Ideal.nD Cert.Reference4Ideal.τ).loc Cert.Reference4Ideal.main_v22) = v3 c
          ∧ r.2.mem ((c.tc : Thread Cert.Reference4Ideal.nD Cert.Reference4Ideal.τ).loc Cert.Reference4Ideal.main_v23) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v34) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel2_Kernel2Ideal : Prop :=
  True

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel2 : Cert.Kernel2.Facts) (hKernel2Ideal : Cert.Kernel2Ideal.Facts) (hReference2Ideal : Cert.Reference2Ideal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Kernel3Ideal_pre_finite_scores (hKernel3Ideal := hKernel3Ideal) (hPre_finite_scores := hPre_finite_scores)
    ∧ quiescent_Reference3Ideal (hReference3Ideal := hReference3Ideal)
    ∧ quiescent_Reference3Ideal_pre_finite_scores (hReference3Ideal := hReference3Ideal) (hPre_finite_scores := hPre_finite_scores)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal_pre_finite_scores (hKernel3Ideal := hKernel3Ideal) (hReference3Ideal := hReference3Ideal) (hPre_finite_scores := hPre_finite_scores)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel2_Kernel2Ideal
-- ==== Pre_finite_scores.lean ====
abbrev S32768x1024 : Shape := ⟨2, ![32768, 1024]⟩
abbrev S32768x256 : Shape := ⟨2, ![32768, 256]⟩
abbrev S16x2048 : Shape := ⟨2, ![16, 2048]⟩
abbrev S16 : Shape := ⟨1, ![16]⟩
abbrev S_ : Shape := ⟨0, ![]⟩
abbrev S32768x128 : Shape := ⟨2, ![32768, 128]⟩

class Facts : Prop where
  bcast_S_S32768x1024 : S_.BroadcastsInDim S32768x1024 (![] : Fin 0 → Fin S32768x1024.rank)
  slices_S32768x256_S32768x128_0_0 : S32768x256.Slices ![0, 0] S32768x128
  bcast_S_S32768x128 : S_.BroadcastsInDim S32768x128 (![] : Fin 0 → Fin S32768x128.rank)
  bcast_S_S16 : S_.BroadcastsInDim S16 (![] : Fin 0 → Fin S16.rank)

variable [Facts]

def fn {F : FTy → Type} [FloatOps F] (main_arg0 : FVec F S32768x1024 .bf16) (main_arg1 : FVec F S32768x256 .bf16) (main_arg2 : IVec S16x2048 32) (main_arg3 : FVec F S16 .f32) : IVec S32768x1024 1 × IVec S32768x128 1 × IVec S16 1 :=
  let main_v0 : FVec F S32768x1024 .bf16 := Host.absf main_arg0
  let main_cst : FVec F S_ .bf16 := constant S_ .bf16 0x7F80#16
  let main_v1 : FVec F S32768x1024 .bf16 := broadcastInDim S32768x1024 ![] bcast_S_S32768x1024 main_cst
  let main_v2 : IVec S32768x1024 1 := cmpf .olt main_v0 main_v1
  let main_v3 : FVec F S32768x128 .bf16 := (extractStridedSlice S32768x128 ![0, 0] · slices_S32768x256_S32768x128_0_0) main_arg1
  let main_v4 : FVec F S32768x128 .bf16 := Host.absf main_v3
  let main_cst_0 : FVec F S_ .bf16 := constant S_ .bf16 0x7F80#16
  let main_v5 : FVec F S32768x128 .bf16 := broadcastInDim S32768x128 ![] bcast_S_S32768x128 main_cst_0
  let main_v6 : IVec S32768x128 1 := cmpf .olt main_v4 main_v5
  let main_v7 : FVec F S16 .f32 := Host.absf main_arg3
  let main_cst_1 : FVec F S_ .f32 := constant S_ .f32 0x7F800000#32
  let main_v8 : FVec F S16 .f32 := broadcastInDim S16 ![] bcast_S_S16 main_cst_1
  let main_v9 : IVec S16 1 := cmpf .olt main_v7 main_v8
  (main_v2, main_v6, main_v9)
-- ==== Kernel.lean ====
abbrev S32768x1024 : Shape := ⟨2, ![32768, 1024]⟩
abbrev S4096x2048 : Shape := ⟨2, ![4096, 2048]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S256x1024 : Shape := ⟨2, ![256, 1024]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S1024x256 : Shape := ⟨2, ![1024, 256]⟩

abbrev nBuf : Space → Nat
  | .hbm => 16
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S4096x2048, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S32768x1024 : Shape := ⟨2, ![32768, 1024]⟩
abbrev S4096x2048 : Shape := ⟨2, ![4096, 2048]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16x2048x4x256 : Shape := ⟨4, ![16, 2048, 4, 256]⟩
abbrev S4096x1024 : Shape := ⟨2, ![4096, 1024]⟩
abbrev S16x256x4x256 : Shape := ⟨4, ![16, 256, 4, 256]⟩
abbrev S16x4x2048x256 : Shape := ⟨4, ![16, 4, 2048, 256]⟩
abbrev S_ : Shape := ⟨0, ![]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 99
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S4096x2048, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .f32⟩
  | .hbm, ⟨9, _⟩ => ⟨S32768x1024, .f32⟩
  | .hbm, ⟨10, _⟩ => ⟨S16x2048x4x256, .f32⟩
  | .hbm, ⟨11, _⟩ => ⟨S4096x2048, .f32⟩
  | .hbm, ⟨12, _⟩ => ⟨S4096x1024, .f32⟩
  | .hbm, ⟨13, _⟩ => ⟨S4096x1024, .f32⟩
  | .hbm, ⟨14, _⟩ => ⟨S16x256x4x256, .f32⟩
  | .hbm, ⟨15, _⟩ => ⟨S16x256x4x256, .f32⟩
  | .hbm, ⟨16, _⟩ => ⟨S16x4x2048x256, .f32⟩
  | .hbm, ⟨17, _⟩ => ⟨S_, .f32⟩
  | .hbm, ⟨18, _⟩ => ⟨S16x4x2048, .f32⟩
  | .hbm, ⟨19, _⟩ => ⟨S_, .f32⟩
  | .hbm, ⟨20, _⟩ => ⟨S16x4x2048, .f32⟩
  | .hbm, ⟨21, _⟩ => ⟨S16x4x2048, .f32⟩
  | .hbm, ⟨22, _⟩ => ⟨S16x4x2048x1, .f32⟩
  | .hbm, ⟨23, _⟩ => ⟨S16x4x2048x256, .f32⟩
  | .hbm, ⟨24, _⟩ => ⟨S16x4x2048x256, .f32⟩
  | .hbm, ⟨25, _⟩ => ⟨S16x4x2048x256, .f32⟩
  | .hbm, ⟨26, _⟩ => ⟨S_, .f32⟩
  | .hbm, ⟨27, _⟩ => ⟨S16x4x2048, .f32⟩
  | .hbm, ⟨28, _⟩ => ⟨S16x4x2048x1, .f32⟩
  | .hbm, ⟨29, _⟩ => ⟨S16x4x2048x256, .f32⟩
  | .hbm, ⟨30, _⟩ => ⟨S16x4x2048x256, .f32⟩
  | .hbm, ⟨31, _⟩ => ⟨S16x4x256x2048, .f32⟩
  | .hbm, ⟨32, _⟩ => ⟨S16x2048x4x256, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S32768x1, .f32⟩
  | .hbm, ⟨63, _⟩ => ⟨S32768x1024, .f32⟩
  | .hbm, ⟨64, _⟩ => ⟨S32768x1024, .f32⟩
  | .hbm, ⟨65, _⟩ => ⟨S1x1024, .f32⟩
  | .hbm, ⟨66, _⟩ => ⟨S32768x1024, .f32⟩
  | .hbm, ⟨67, _⟩ => ⟨S32768x1024, .f32⟩
  | .hbm, ⟨68, _⟩ => ⟨S32768x5632, .f32⟩
  | .hbm, ⟨69, _⟩ => ⟨S32768x2816, .f32⟩
  | .hbm, ⟨70, _⟩ => ⟨S32768x2816, .f32⟩
  | .hbm, ⟨71, _⟩ => ⟨S32768x2816, .f32⟩
  | .hbm, ⟨72, _⟩ => ⟨S32768x2816, .f32⟩
  | .hbm, ⟨73, _⟩ => ⟨S_, .f32⟩
  | .hbm, ⟨74, _⟩ => ⟨S32768x2816, .f32⟩
  | .hbm, ⟨75, _⟩ => ⟨S32768x2816, .f32⟩
  | .hbm, ⟨76, _⟩ => ⟨S_, .f32⟩
  | .hbm, ⟨77, _⟩ => ⟨S32768x2816, .f32⟩
  | .hbm, ⟨78, _⟩ => ⟨S32768x2816, .f32⟩
  | .hbm, ⟨79, _⟩ => ⟨S32768x2816, .f32⟩
  | .hbm, ⟨80, _⟩ => ⟨S32768x2816, .f32⟩
  | .hbm, ⟨81, _⟩ => ⟨S32768x1024, .f32⟩
  | .hbm, ⟨82, _⟩ => ⟨S32768x1024, .f32⟩
  | .hbm, ⟨83, _⟩ => ⟨S_, .f32⟩
  | .hbm, ⟨84, _⟩ => ⟨S32768, .f32⟩
  | .hbm, ⟨85, _⟩ => ⟨S32768x1, .f32⟩
  | .hbm, ⟨86, _⟩ => ⟨S_, .f32⟩
  | .hbm, ⟨87, _⟩ => ⟨S32768x1, .f32⟩
  | .hbm, ⟨88, _⟩ => ⟨S32768x1, .f32⟩
  | .hbm, ⟨89, _⟩ => ⟨S_, .f32⟩
  | .hbm, ⟨90, _⟩ => ⟨S32768x1, .f32⟩
  | .hbm, ⟨91, _⟩ => ⟨S32768x1, .f32⟩
  | .hbm, ⟨92, _⟩ => ⟨S32768x1, .f32⟩
  | .hbm, ⟨93, _⟩ => ⟨S32768x1024, .f32⟩
  | .hbm, ⟨94, _⟩ => ⟨S32768x1024, .f32⟩
  | .hbm, ⟨95, _⟩ => ⟨S1x1024, .f32⟩
  | .hbm, ⟨96, _⟩ => ⟨S32768x1024, .f32⟩
  | .hbm, ⟨97, _⟩ => ⟨S32768x1024, .f32⟩
  | .hbm, ⟨98, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_8 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== Kernel3.lean ====
abbrev S32768x1024 : Shape := ⟨2, ![32768, 1024]⟩
abbrev S32768x256 : Shape := ⟨2, ![32768, 256]⟩
abbrev S16x2048 : Shape := ⟨2, ![16, 2048]⟩
abbrev S16 : Shape := ⟨1, ![16]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S32768x1 : Shape := ⟨2, ![32768, 1]⟩
abbrev S128x1024 : Shape := ⟨2, ![128, 1024]⟩
abbrev S128x256 : Shape := ⟨2, ![128, 256]⟩
abbrev S128x1 : Shape := ⟨2, ![128, 1]⟩
abbrev S4x256x128 : Shape := ⟨3, ![4, 256, 128]⟩
abbrev S4x128x128 : Shape := ⟨3, ![4, 128, 128]⟩
abbrev S128x128 : Shape := ⟨2, ![128, 128]⟩
abbrev S1x128x128 : Shape := ⟨3, ![1, 128, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S1x1 : Shape := ⟨2, ![1, 1]⟩

abbrev nBuf : Space → Nat
  | .hbm => 28
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S32768x256, .bf16⟩
  | .hbm, ⟨2, _⟩ => ⟨S16x2048, .i32⟩
  | .hbm, ⟨3, _⟩ => ⟨S16, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1x32, .f32⟩
  | .hbm, ⟨19, _⟩ => ⟨S4x32, .f32⟩
  | .hbm, ⟨20, _⟩ => ⟨S128, .f32⟩
  | .hbm, ⟨21, _⟩ => ⟨S1x128, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S32768x1, .i32⟩
  | .hbm, ⟨27, _⟩ => ⟨S32768x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x1, .i32⟩
  | .local _ .vmem, ⟨5, _⟩ => ⟨S128x1, .i32⟩
  | .local _ .vmem, ⟨6, _⟩ => ⟨S1x128, .f32⟩
  | .local _ .vmem, ⟨7, _⟩ => ⟨S1x128, .f32⟩
  | .local _ .vmem, ⟨8, _⟩ => ⟨S128x1024, .bf16⟩
  | .local _ .vmem, ⟨9, _⟩ => ⟨S128x1024, .bf16⟩
  | .local _ .vmem, ⟨10, _⟩ => ⟨S4x256x128, .bf16⟩
  | .local _ .vmem, ⟨11, _⟩ => ⟨S4x256x128, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S32768x1024 : Shape := ⟨2, ![32768, 1024]⟩
abbrev S32768x256 : Shape := ⟨2, ![32768, 256]⟩
abbrev S16x2048 : Shape := ⟨2, ![16, 2048]⟩
abbrev S16 : Shape := ⟨1, ![16]⟩
abbrev S32 : Shape := ⟨1, ![32]⟩
abbrev S_ : Shape := ⟨0, ![]⟩
abbrev S16x2048x1 : Shape := ⟨3, ![16, 2048, 1]⟩
abbrev S1x1x32 : Shape := ⟨3, ![1, 1, 32]⟩
abbrev S16x2048x32 : Shape := ⟨3, ![16, 2048, 32]⟩
abbrev S16x2048x1x32 : Shape := ⟨4, ![16, 2048, 1, 32]⟩
abbrev S32768x128 : Shape := ⟨2, ![32768, 128]⟩
abbrev S16x2048x16x64 : Shape := ⟨4, ![16, 2048, 16, 64]⟩
abbrev S16x2048x16x32 : Shape := ⟨4, ![16, 2048, 16, 32]⟩
abbrev S16x2048x2x64 : Shape := ⟨4, ![16, 2048, 2, 64]⟩
abbrev S16x2048x2x32 : Shape := ⟨4, ![16, 2048, 2, 32]⟩
abbrev S16x16x128x2x8x64 : Shape := ⟨6, ![16, 16, 128, 2, 8, 64]⟩
abbrev S16x16x128x2x64 : Shape := ⟨5, ![16, 16, 128, 2, 64]⟩
abbrev S16x17x128x2x64 : Shape := ⟨5, ![16, 17, 128, 2, 64]⟩
abbrev S16x16x256x2x64 : Shape := ⟨5, ![16, 16, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x1x2x8x1x1 : Shape := ⟨6, ![1, 1, 2, 8, 1, 1]⟩
abbrev S1x16x1x1x1x1 : Shape := ⟨6, ![1, 16, 1, 1, 1, 1]⟩
abbrev S16x16x2x256x128x8 : Shape := ⟨6, ![16, 16, 2, 256, 128, 8]⟩
abbrev S16x16x2x8x128x256 : Shape := ⟨6, ![16, 16, 2, 8, 128, 256]⟩
abbrev S1x1x1x1x1x256 : Shape := ⟨6, ![1, 1, 1, 1, 1, 256]⟩
abbrev S1x16x1x1x1x256 : Shape := ⟨6, ![1, 16, 1, 1, 1, 256]⟩
abbrev S1x1x1x1x128x256 : Shape := ⟨6, ![1, 1, 1, 1, 128, 256]⟩
abbrev S1x16x1x1x128x256 : Shape := ⟨6, ![1, 16, 1, 1, 128, 256]⟩
abbrev S16x16x2x8x128 : Shape := ⟨5, ![16, 16, 2, 8, 128]⟩
abbrev S16x16x2x8x128x1 : Shape := ⟨6, ![16, 16, 2, 8, 128, 1]⟩
abbrev S16x16x2x64x8x128 : Shape := ⟨6, ![16, 16, 2, 64, 8, 128]⟩

abbrev nBuf : Space → Nat
  | .hbm => 139
  | .vmem => 0
  | .smem => 0
  | _ => 0

abbrev hbmTy0_0 (i : Nat) : BufTy := match i % 128 with
  | 0 => ⟨S32768x1024, .bf16⟩
  | 1 => ⟨S32768x256, .bf16⟩
  | 2 => ⟨S16x2048, .i32⟩
  | 3 => ⟨S16, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S16x2048, .f32⟩
  | 19 => ⟨S16x2048x1, .f32⟩
  | 20 => ⟨S1x1x32, .f32⟩
  | 21 => ⟨S16x2048x32, .f32⟩
  | 22 => ⟨S16x2048x32, .f32⟩
  | 23 => ⟨S16x2048x32, .f32⟩
  | 24 => ⟨S16x2048x32, .f32⟩
  | 25 => ⟨S16x2048x1x32, .f32⟩
  | 26 => ⟨S16x2048x32, .f32⟩
  | 27 => ⟨S16x2048x1x32, .f32⟩
  | 28 => ⟨S32768x256, .f32⟩
  | 29 => ⟨S32768x128, .f32⟩
  | 30 => ⟨S32768x128, .f32⟩
  | 31 => ⟨S32768x1024, .f32⟩
  | 32 => ⟨S16x2048x16x64, .f32⟩
  | 33 => ⟨S16x2048x16x32, .f32⟩
  | 34 => ⟨S16x2048x16x32, .f32⟩
  | 35 => ⟨S16x2048x16x32, .f32⟩
  | 36 => ⟨S16x2048x16x32, .f32⟩
  | 37 => ⟨S16x2048x16x32, .f32⟩
  | 38 => ⟨S16x2048x16x32, .f32⟩
  | 39 => ⟨S16x2048x16x32, .f32⟩
  | 40 => ⟨S16x2048x16x32, .f32⟩
  | 41 => ⟨S16x2048x16x32, .f32⟩
  | 42 => ⟨S16x2048x16x32, .f32⟩
  | 43 => ⟨S16x2048x16x32, .f32⟩
  | 44 => ⟨S16x2048x16x32, .f32⟩
  | 45 => ⟨S16x2048x16x64, .f32⟩
  | 46 => ⟨S16x2048x2x64, .f32⟩
  | 47 => ⟨S16x2048x2x32, .f32⟩
  | 48 => ⟨S16x2048x2x32, .f32⟩
  | 49 => ⟨S16x2048x2x32, .f32⟩
  | 50 => ⟨S16x2048x2x32, .f32⟩
  | 51 => ⟨S16x2048x2x32, .f32⟩
  | 52 => ⟨S16x2048x2x32, .f32⟩
  | 53 => ⟨S16x2048x2x32, .f32⟩
  | 54 => ⟨S16x2048x2x32, .f32⟩
  | 55 => ⟨S16x2048x2x32, .f32⟩
  | 56 => ⟨S16x2048x2x32, .f32⟩
  | 57 => ⟨S16x2048x2x32, .f32⟩
  | 58 => ⟨S16x2048x2x32, .f32⟩
  | 59 => ⟨S16x2048x2x64, .f32⟩
  | 60 => ⟨S16x2048x2x64, .f32⟩
  | 61 => ⟨S16x16x128x2x8x64, .f32⟩
  | 62 => ⟨S16x16x128x2x64, .f32⟩
  | 63 => ⟨S16x16x128x2x64, .f32⟩
  | 64 => ⟨S_, .i32⟩
  | 65 => ⟨S_, .f32⟩
  | 66 => ⟨S16x17x128x2x64, .f32⟩
  | 67 => ⟨S16x16x128x2x64, .f32⟩
  | 68 => ⟨S16x16x256x2x64, .f32⟩
  | 69 => ⟨S_, .i32⟩
  | 70 => ⟨S_, .f32⟩
  | 71 => ⟨S16x17x128x2x64, .f32⟩
  | 72 => ⟨S16x16x128x2x64, .f32⟩
  | 73 => ⟨S16x16x256x2x64, .f32⟩
  | 74 => ⟨S128, .i32⟩
  | 75 => ⟨S128x1, .i32⟩
  | 76 => ⟨S256, .i32⟩
  | 77 => ⟨S1x256, .i32⟩
  | 78 => ⟨S_, .i32⟩
  | 79 => ⟨S128x1, .i32⟩
  | 80 => ⟨S128x1, .i32⟩
  | 81 => ⟨S128x256, .i32⟩
  | 82 => ⟨S128x256, .i32⟩
  | 83 => ⟨S128x256, .i32⟩
  | 84 => ⟨S_, .i32⟩
  | 85 => ⟨S128x256, .i32⟩
  | 86 => ⟨S128x256, .i1⟩
  | 87 => ⟨S_, .i32⟩
  | 88 => ⟨S128x256, .i32⟩
  | 89 => ⟨S128x256, .i1⟩
  | 90 => ⟨S128x256, .i1⟩
  | 91 => ⟨S1x1x2x8x1x1, .f32⟩
  | 92 => ⟨S16, .i32⟩
  | 93 => ⟨S1x16x1x1x1x1, .i32⟩
  | 94 => ⟨S16x16x2x256x128x8, .f32⟩
  | 95 => ⟨S16x16x2x8x128x256, .f32⟩
  | 96 => ⟨S_, .f32⟩
  | 97 => ⟨S16x16x2x8x128x256, .f32⟩
  | 98 => ⟨S16x16x2x8x128x256, .f32⟩
  | 99 => ⟨S_, .i32⟩
  | 100 => ⟨S1x16x1x1x1x1, .i32⟩
  | 101 => ⟨S1x16x1x1x1x1, .i1⟩
  | 102 => ⟨S_, .i32⟩
  | 103 => ⟨S1x256, .i32⟩
  | 104 => ⟨S1x256, .i1⟩
  | 105 => ⟨S1x1x1x1x1x256, .i1⟩
  | 106 => ⟨S1x16x1x1x1x256, .i1⟩
  | 107 => ⟨S1x16x1x1x1x256, .i1⟩
  | 108 => ⟨S1x16x1x1x1x256, .i1⟩
  | 109 => ⟨S1x1x1x1x128x256, .i1⟩
  | 110 => ⟨S1x16x1x1x128x256, .i1⟩
  | 111 => ⟨S1x16x1x1x128x256, .i1⟩
  | 112 => ⟨S1x16x1x1x128x256, .i1⟩
  | 113 => ⟨S_, .f32⟩
  | 114 => ⟨S_, .f32⟩
  | 115 => ⟨S16x16x2x8x128x256, .i1⟩
  | 116 => ⟨S16x16x2x8x128x256, .f32⟩
  | 117 => ⟨S16x16x2x8x128x256, .f32⟩
  | 118 => ⟨S_, .f32⟩
  | 119 => ⟨S16x16x2x8x128, .f32⟩
  | 120 => ⟨S16x16x2x8x128x1, .f32⟩
  | 121 => ⟨S16x16x2x8x128x1, .f32⟩
  | 122 => ⟨S16x16x2x8x128x1, .f32⟩
  | 123 => ⟨S16x16x2x8x128x256, .f32⟩
  | 124 => ⟨S16x16x2x8x128x256, .f32⟩
  | 125 => ⟨S16x16x2x8x128x256, .f32⟩
  | 126 => ⟨S_, .f32⟩
  | 127 => ⟨S16x16x2x8x128, .f32⟩
  | _ => ⟨S32768x1024, .bf16⟩

abbrev hbmTy0_1 (i : Nat) : BufTy := match i % 128 with
  | 0 => ⟨S16x16x2x8x128x1, .f32⟩
  | 1 => ⟨S16x16x2x8x128x1, .f32⟩
  | 2 => ⟨S16x16x2x8x128x1, .f32⟩
  | 3 => ⟨S16x16x2x8x128x1, .f32⟩
  | 4 => ⟨S16x16x2x8x128x1, .f32⟩
  | 5 => ⟨S16x16x2x8x128x256, .f32⟩
  | 6 => ⟨S16x16x2x8x128x256, .f32⟩
  | 7 => ⟨S16x16x2x64x8x128, .f32⟩
  | 8 => ⟨S16x16x128x2x8x64, .f32⟩
  | 9 => ⟨S32768x1024, .f32⟩
  | 10 => ⟨S32768x1024, .bf16⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_c : Ref sig .tc := ⟨.hbm, 64, rfl⟩
abbrev main_call0_v0 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_c_3 : Ref sig .tc := ⟨.hbm, 69, rfl⟩
abbrev main_call1_v0 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_c_4 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_c_5 : Ref sig .tc := ⟨.hbm, 84, rfl⟩
abbrev main_v71 : Ref sig .tc := ⟨.hbm, 85, rfl⟩
abbrev main_v72 : Ref sig .tc := ⟨.hbm, 86, rfl⟩
abbrev main_c_6 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_7 : Ref sig .tc := ⟨.hbm, 96, rfl⟩
abbrev main_v81 : Ref sig .tc := ⟨.hbm, 97, rfl⟩
abbrev main_v82 : Ref sig .tc := ⟨.hbm, 98, rfl⟩
abbrev main_c_8 : Ref sig .tc := ⟨.hbm, 99, rfl⟩
abbrev main_v83 : Ref sig .tc := ⟨.hbm, 100, rfl⟩
abbrev main_v84 : Ref sig .tc := ⟨.hbm, 101, rfl⟩
abbrev main_c_9 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_cst_10 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_v95 : Ref sig .tc := ⟨.hbm, 117, rfl⟩
abbrev main_cst_11 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_12 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x5384 : Shape := ⟨2, ![1024, 5384]⟩
abbrev S1024x8 : Shape := ⟨2, ![1024, 8]⟩
abbrev S_ : Shape := ⟨0, ![]⟩
abbrev S1024x128 : Shape := ⟨2, ![1024, 128]⟩
abbrev S1024x4096 : Shape := ⟨2, ![1024, 4096]⟩
abbrev S1024x1280 : Shape := ⟨2, ![1024, 1280]⟩
abbrev S1024x5504 : Shape := ⟨2, ![1024, 5504]⟩
abbrev S1x1024 : Shape := ⟨2, ![1, 1024]⟩
abbrev S32768x2048 : Shape := ⟨2, ![32768, 2048]⟩
abbrev S32768x256 : Shape := ⟨2, ![32768, 256]⟩
abbrev S32768x128 : Shape := ⟨2, ![32768, 128]⟩
abbrev S512x1024 : Shape := ⟨2, ![512, 1024]⟩
abbrev S512x2048 : Shape := ⟨2, ![512, 2048]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1024x2048 : Shape := ⟨2, ![1024, 2048]⟩
abbrev S1024x1024 : Shape := ⟨2, ![1024, 1024]⟩
abbrev S1024x256 : Shape := ⟨2, ![1024, 256]⟩

abbrev nBuf : Space → Nat
  | .hbm => 17
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5384, .f32⟩
  | .hbm, ⟨3, _⟩ => ⟨S1024x8, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x4096, .f32⟩
  | .hbm, ⟨8, _⟩ => ⟨S1024x1280, .f32⟩
  | .hbm, ⟨9, _⟩ => ⟨S1024x5504, .f32⟩
  | .hbm, ⟨10, _⟩ => ⟨S1024x5504, .bf16⟩
  | .hbm, ⟨11, _⟩ => ⟨S1x1024, .f32⟩
  | .hbm, ⟨12, _⟩ => ⟨S32768x2048, .bf16⟩
  | .hbm, ⟨13, _⟩ => ⟨S32768x2048, .bf16⟩
  | .hbm, ⟨14, _⟩ => ⟨S32768x1024, .bf16⟩
  | .hbm, ⟨15, _⟩ => ⟨S32768x256, .bf16⟩
  | .hbm, ⟨16, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5504, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S512x256, .bf16⟩
  | .local _ .vmem, ⟨11, _⟩ => ⟨S512x256, .bf16⟩
  | .local _ .vmem, ⟨12, _⟩ => ⟨S512x128, .f32⟩
  | .local _ .vmem, ⟨13, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5504 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x1024 : Shape := ⟨2, ![32768, 1024]⟩
abbrev S1024 : Shape := ⟨1, ![1024]⟩
abbrev S1024x5384 : Shape := ⟨2, ![1024, 5384]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5384 : Shape := ⟨2, ![32768, 5384]⟩
abbrev S32768x2048 : Shape := ⟨2, ![32768, 2048]⟩
abbrev S32768x8 : Shape := ⟨2, ![32768, 8]⟩
abbrev S32768x256 : Shape := ⟨2, ![32768, 256]⟩
abbrev S32768x128 : Shape := ⟨2, ![32768, 128]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5384, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x5384, .f32⟩
  | .hbm, ⟨20, _⟩ => ⟨S32768x2048, .f32⟩
  | .hbm, ⟨21, _⟩ => ⟨S32768x2048, .f32⟩
  | .hbm, ⟨22, _⟩ => ⟨S32768x8, .f32⟩
  | .hbm, ⟨23, _⟩ => ⟨S32768x1024, .f32⟩
  | .hbm, ⟨24, _⟩ => ⟨S32768x256, .f32⟩
  | .hbm, ⟨25, _⟩ => ⟨S32768x2048, .bf16⟩
  | .hbm, ⟨26, _⟩ => ⟨S32768x2048, .bf16⟩
  | .hbm, ⟨27, _⟩ => ⟨S32768x1024, .bf16⟩
  | .hbm, ⟨28, _⟩ => ⟨S32768x256, .bf16⟩
  | .hbm, ⟨29, _⟩ => ⟨S_, .i32⟩
  | .hbm, ⟨30, _⟩ => ⟨S_, .f32⟩
  | .hbm, ⟨31, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel5.lean ====
abbrev S32768x1024 : Shape := ⟨2, ![32768, 1024]⟩
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 15
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S2048x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1024x1024, .bf16⟩
  | .hbm, ⟨13, _⟩ => ⟨S32768x1024, .f32⟩
  | .hbm, ⟨14, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S32768x1024 : Shape := ⟨2, ![32768, 1024]⟩
abbrev S2048x1024 : Shape := ⟨2, ![2048, 1024]⟩
abbrev S1024 : Shape := ⟨1, ![1024]⟩
abbrev S1024x1024 : Shape := ⟨2, ![1024, 1024]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S32768x1024, .f32⟩
  | .hbm, ⟨8, _⟩ => ⟨S32768x1024, .f32⟩
  | .hbm, ⟨9, _⟩ => ⟨S32768x2048, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S1x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x2048 : Shape := ⟨2, ![1024, 2048]⟩
abbrev S1x1024 : Shape := ⟨2, ![1, 1024]⟩
abbrev S4096x2048 : Shape := ⟨2, ![4096, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x2048, .bf16⟩
  | .hbm, ⟨5, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x2048, .bf16⟩
  | .local _ .vmem, ⟨5, _⟩ => ⟨S256x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2048, .f32⟩
  | .hbm, ⟨20, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel2.lean ====
abbrev S32768x2048 : Shape := ⟨2, ![32768, 2048]⟩
abbrev S32768x128 : Shape := ⟨2, ![32768, 128]⟩
abbrev S4x2048 : Shape := ⟨2, ![4, 2048]⟩
abbrev S4 : Shape := ⟨1, ![4]⟩
abbrev S1024 : Shape := ⟨1, ![1024]⟩
abbrev S8 : Shape := ⟨1, ![8]⟩
abbrev S_ : Shape := ⟨0, ![]⟩
abbrev S128 : Shape := ⟨1, ![128]⟩
abbrev S1x128 : Shape := ⟨2, ![1, 128]⟩
abbrev S1x1024 : Shape := ⟨2, ![1, 1024]⟩
abbrev S32768x1024 : Shape := ⟨2, ![32768, 1024]⟩
abbrev S128x2048 : Shape := ⟨2, ![128, 2048]⟩
abbrev S128x128 : Shape := ⟨2, ![128, 128]⟩
abbrev S128x1024 : Shape := ⟨2, ![128, 1024]⟩
abbrev S136x2048 : Shape := ⟨2, ![136, 2048]⟩
abbrev S4x256x256 : Shape := ⟨3, ![4, 256, 256]⟩
abbrev S8x256 : Shape := ⟨2, ![8, 256]⟩
abbrev S8x128 : Shape := ⟨2, ![8, 128]⟩
abbrev S8x2048 : Shape := ⟨2, ![8, 2048]⟩
abbrev S128x256 : Shape := ⟨2, ![128, 256]⟩
abbrev S1x256 : Shape := ⟨2, ![1, 256]⟩
abbrev S128x1 : Shape := ⟨2, ![128, 1]⟩
abbrev S1x1 : Shape := ⟨2, ![1, 1]⟩
abbrev S1x256x256 : Shape := ⟨3, ![1, 256, 256]⟩
abbrev S256x256 : Shape := ⟨2, ![256, 256]⟩
abbrev S1 : Shape := ⟨1, ![1]⟩
abbrev S256 : Shape := ⟨1, ![256]⟩

abbrev nBuf : Space → Nat
  | .hbm => 14
  | .vmem => 15
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x128, .f32⟩
  | .hbm, ⟨3, _⟩ => ⟨S4x2048, .f32⟩
  | .hbm, ⟨4, _⟩ => ⟨S4, .f32⟩
  | .hbm, ⟨5, _⟩ => ⟨S4, .f32⟩
  | .hbm, ⟨6, _⟩ => ⟨S1024, .f32⟩
  | .hbm, ⟨7, _⟩ => ⟨S8, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S1x1024, .f32⟩
  | .hbm, ⟨13, _⟩ => ⟨S32768x1024, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x128, .f32⟩
  | .local _ .vmem, ⟨5, _⟩ => ⟨S128x128, .f32⟩
  | .local _ .vmem, ⟨6, _⟩ => ⟨S4x2048, .f32⟩
  | .local _ .vmem, ⟨7, _⟩ => ⟨S1x128, .f32⟩
  | .local _ .vmem, ⟨8, _⟩ => ⟨S1x1024, .f32⟩
  | .local _ .vmem, ⟨9, _⟩ => ⟨S128x1024, .bf16⟩
  | .local _ .vmem, ⟨10, _⟩ => ⟨S128x1024, .bf16⟩
  | .local _ .vmem, ⟨11, _⟩ => ⟨S136x2048, .f32⟩
  | .local _ .vmem, ⟨12, _⟩ => ⟨S4x256x256, .f32⟩
  | .local _ .vmem, ⟨13, _⟩ => ⟨S8x256, .f32⟩
  | .local _ .vmem, ⟨14, _⟩ => ⟨S8x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S32768x2048 : Shape := ⟨2, ![32768, 2048]⟩
abbrev S32768x128 : Shape := ⟨2, ![32768, 128]⟩
abbrev S4x2048 : Shape := ⟨2, ![4, 2048]⟩
abbrev S4 : Shape := ⟨1, ![4]⟩
abbrev S1024 : Shape := ⟨1, ![1024]⟩
abbrev S32768x1024 : Shape := ⟨2, ![32768, 1024]⟩
abbrev S32768x4 : Shape := ⟨2, ![32768, 4]⟩
abbrev S16x2048x2048 : Shape := ⟨3, ![16, 2048, 2048]⟩
abbrev S_ : Shape := ⟨0, ![]⟩
abbrev S16x2051x2048 : Shape := ⟨3, ![16, 2051, 2048]⟩
abbrev S1x2048 : Shape := ⟨2, ![1, 2048]⟩
abbrev S2048 : Shape := ⟨1, ![2048]⟩
abbrev S1x1x2048 : Shape := ⟨3, ![1, 1, 2048]⟩
abbrev S16x2048x1024 : Shape := ⟨3, ![16, 2048, 1024]⟩
abbrev S16x2048x4x256 : Shape := ⟨4, ![16, 2048, 4, 256]⟩
abbrev S16x2048x4 : Shape := ⟨3, ![16, 2048, 4]⟩
abbrev S1x1x4 : Shape := ⟨3, ![1, 1, 4]⟩
abbrev S128x128 : Shape := ⟨2, ![128, 128]⟩
abbrev S16x4x256x256 : Shape := ⟨4, ![16, 4, 256, 256]⟩
abbrev S16x4x256 : Shape := ⟨3, ![16, 4, 256]⟩
abbrev S16x4 : Shape := ⟨2, ![16, 4]⟩
abbrev S16x16x128x4x256 : Shape := ⟨5, ![16, 16, 128, 4, 256]⟩
abbrev S16x16x4x128x256 : Shape := ⟨5, ![16, 16, 4, 128, 256]⟩
abbrev S16x16x128x4 : Shape := ⟨4, ![16, 16, 128, 4]⟩
abbrev S16x16x4x128 : Shape := ⟨4, ![16, 16, 4, 128]⟩
abbrev S1x16x4x128x256 : Shape := ⟨5, ![1, 16, 4, 128, 256]⟩
abbrev S16x4x128x256 : Shape := ⟨4, ![16, 4, 128, 256]⟩
abbrev S1x16x4x128 : Shape := ⟨4, ![1, 16, 4, 128]⟩
abbrev S16x4x128 : Shape := ⟨3, ![16, 4, 128]⟩
abbrev S16x4x1 : Shape := ⟨3, ![16, 4, 1]⟩
abbrev S16x4x128x1 : Shape := ⟨4, ![16, 4, 128, 1]⟩
abbrev S16x4x1x128 : Shape := ⟨4, ![16, 4, 1, 128]⟩
abbrev S16x4x128x128 : Shape := ⟨4, ![16, 4, 128, 128]⟩
abbrev S16x4x1x1 : Shape := ⟨4, ![16, 4, 1, 1]⟩
abbrev S16x2048x4x1 : Shape := ⟨4, ![16, 2048, 4, 1]⟩
abbrev S4x256 : Shape := ⟨2, ![4, 256]⟩
abbrev S1x1x4x256 : Shape := ⟨4, ![1, 1, 4, 256]⟩

abbrev nBuf : Space → Nat
  | .hbm => 276
  | .vmem => 0
  | .smem => 0
  | _ => 0

abbrev hbmTy0_0 (i : Nat) : BufTy := match i % 128 with
  | 0 => ⟨S32768x2048, .bf16⟩
  | 1 => ⟨S32768x2048, .bf16⟩
  | 2 => ⟨S32768x128, .f32⟩
  | 3 => ⟨S4x2048, .f32⟩
  | 4 => ⟨S4, .f32⟩
  | 5 => ⟨S4, .f32⟩
  | 6 => ⟨S1024, .f32⟩
  | 7 => ⟨S32768x1024, .bf16⟩
  | 8 => ⟨S32768x1024, .f32⟩
  | 9 => ⟨S32768x4, .f32⟩
  | 10 => ⟨S32768x4, .f32⟩
  | 11 => ⟨S32768x2048, .f32⟩
  | 12 => ⟨S16x2048x2048, .f32⟩
  | 13 => ⟨S_, .i32⟩
  | 14 => ⟨S_, .f32⟩
  | 15 => ⟨S16x2051x2048, .f32⟩
  | 16 => ⟨S1x2048, .f32⟩
  | 17 => ⟨S2048, .f32⟩
  | 18 => ⟨S16x2048x2048, .f32⟩
  | 19 => ⟨S1x1x2048, .f32⟩
  | 20 => ⟨S16x2048x2048, .f32⟩
  | 21 => ⟨S16x2048x2048, .f32⟩
  | 22 => ⟨S_, .f32⟩
  | 23 => ⟨S16x2048x2048, .f32⟩
  | 24 => ⟨S16x2048x2048, .f32⟩
  | 25 => ⟨S1x2048, .f32⟩
  | 26 => ⟨S2048, .f32⟩
  | 27 => ⟨S16x2048x2048, .f32⟩
  | 28 => ⟨S1x1x2048, .f32⟩
  | 29 => ⟨S16x2048x2048, .f32⟩
  | 30 => ⟨S16x2048x2048, .f32⟩
  | 31 => ⟨S16x2048x2048, .f32⟩
  | 32 => ⟨S1x2048, .f32⟩
  | 33 => ⟨S2048, .f32⟩
  | 34 => ⟨S16x2048x2048, .f32⟩
  | 35 => ⟨S1x1x2048, .f32⟩
  | 36 => ⟨S16x2048x2048, .f32⟩
  | 37 => ⟨S16x2048x2048, .f32⟩
  | 38 => ⟨S16x2048x2048, .f32⟩
  | 39 => ⟨S1x2048, .f32⟩
  | 40 => ⟨S2048, .f32⟩
  | 41 => ⟨S16x2048x2048, .f32⟩
  | 42 => ⟨S1x1x2048, .f32⟩
  | 43 => ⟨S16x2048x2048, .f32⟩
  | 44 => ⟨S16x2048x2048, .f32⟩
  | 45 => ⟨S16x2048x2048, .f32⟩
  | 46 => ⟨S16x2048x2048, .f32⟩
  | 47 => ⟨S16x2048x2048, .f32⟩
  | 48 => ⟨S_, .f32⟩
  | 49 => ⟨S16x2048x2048, .f32⟩
  | 50 => ⟨S16x2048x2048, .f32⟩
  | 51 => ⟨S_, .f32⟩
  | 52 => ⟨S16x2048x2048, .f32⟩
  | 53 => ⟨S16x2048x2048, .f32⟩
  | 54 => ⟨S16x2048x2048, .f32⟩
  | 55 => ⟨S16x2048x1024, .f32⟩
  | 56 => ⟨S16x2048x1024, .f32⟩
  | 57 => ⟨S16x2048x4x256, .f32⟩
  | 58 => ⟨S16x2048x4x256, .f32⟩
  | 59 => ⟨S_, .f32⟩
  | 60 => ⟨S16x2048x4x256, .f32⟩
  | 61 => ⟨S16x2048x4x256, .f32⟩
  | 62 => ⟨S16x2048x4x256, .f32⟩
  | 63 => ⟨S16x2048x4, .f32⟩
  | 64 => ⟨S1x1x4, .f32⟩
  | 65 => ⟨S16x2048x4, .f32⟩
  | 66 => ⟨S16x2048x4, .f32⟩
  | 67 => ⟨S16x2048x4, .f32⟩
  | 68 => ⟨S_, .f32⟩
  | 69 => ⟨S16x2048x4, .f32⟩
  | 70 => ⟨S16x2048x4, .f32⟩
  | 71 => ⟨S16x2048x4, .f32⟩
  | 72 => ⟨S16x2048x4, .f32⟩
  | 73 => ⟨S16x2048x4, .i1⟩
  | 74 => ⟨S16x2048x4, .f32⟩
  | 75 => ⟨S16x2048x4, .f32⟩
  | 76 => ⟨S16x2048x4, .f32⟩
  | 77 => ⟨S16x2048x4, .f32⟩
  | 78 => ⟨S16x2048x4, .f32⟩
  | 79 => ⟨S16x2048x4, .f32⟩
  | 80 => ⟨S16x2048x4, .f32⟩
  | 81 => ⟨S16x2048x4, .f32⟩
  | 82 => ⟨S16x2048x4, .f32⟩
  | 83 => ⟨S16x2048x4, .f32⟩
  | 84 => ⟨S1x1x4, .f32⟩
  | 85 => ⟨S16x2048x4, .f32⟩
  | 86 => ⟨S16x2048x4, .f32⟩
  | 87 => ⟨S_, .i1⟩
  | 88 => ⟨S128x128, .i1⟩
  | 89 => ⟨S128x128, .i32⟩
  | 90 => ⟨S_, .i32⟩
  | 91 => ⟨S128x128, .i32⟩
  | 92 => ⟨S128x128, .i32⟩
  | 93 => ⟨S128x128, .i32⟩
  | 94 => ⟨S128x128, .i1⟩
  | 95 => ⟨S_, .i1⟩
  | 96 => ⟨S128x128, .i1⟩
  | 97 => ⟨S128x128, .i1⟩
  | 98 => ⟨S_, .f32⟩
  | 99 => ⟨S16x4x256x256, .f32⟩
  | 100 => ⟨S_, .f32⟩
  | 101 => ⟨S16x4x256, .f32⟩
  | 102 => ⟨S_, .f32⟩
  | 103 => ⟨S16x4, .f32⟩
  | 104 => ⟨S16x16x128x4x256, .f32⟩
  | 105 => ⟨S16x16x4x128x256, .f32⟩
  | 106 => ⟨S16x16x128x4x256, .f32⟩
  | 107 => ⟨S16x16x4x128x256, .f32⟩
  | 108 => ⟨S16x16x128x4x256, .f32⟩
  | 109 => ⟨S16x16x4x128x256, .f32⟩
  | 110 => ⟨S16x16x128x4, .f32⟩
  | 111 => ⟨S16x16x4x128, .f32⟩
  | 112 => ⟨S16x16x128x4, .f32⟩
  | 113 => ⟨S16x16x4x128, .f32⟩
  | 114 => ⟨S_, .f32⟩
  | 115 => ⟨S16x16x4x128x256, .f32⟩
  | 116 => ⟨S_, .i32⟩
  | 117 => ⟨S16x16x4x128x256, .f32⟩
  | 118 => ⟨S16x16x4x128x256, .f32⟩
  | 119 => ⟨S16x16x4x128x256, .f32⟩
  | 120 => ⟨S16x16x4x128, .f32⟩
  | 121 => ⟨S16x16x4x128, .f32⟩
  | 122 => ⟨S128x128, .i1⟩
  | 123 => ⟨S_, .i32⟩
  | 124 => ⟨S16x4x256x256, .f32⟩
  | 125 => ⟨S16x4x256, .f32⟩
  | 126 => ⟨S16x4, .f32⟩
  | 127 => ⟨S16x16x4x128x256, .f32⟩
  | _ => ⟨S32768x2048, .bf16⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S1x16x4x128x256, .f32⟩
  | 7 => ⟨S16x4x128x256, .f32⟩
  | 8 => ⟨S_, .i32⟩
  | 9 => ⟨S_, .i32⟩
  | 10 => ⟨S_, .i32⟩
  | 11 => ⟨S_, .i32⟩
  | 12 => ⟨S1x16x4x128x256, .f32⟩
  | 13 => ⟨S16x4x128x256, .f32⟩
  | 14 => ⟨S_, .i32⟩
  | 15 => ⟨S_, .i32⟩
  | 16 => ⟨S_, .i32⟩
  | 17 => ⟨S_, .i32⟩
  | 18 => ⟨S1x16x4x128x256, .f32⟩
  | 19 => ⟨S16x4x128x256, .f32⟩
  | 20 => ⟨S_, .i32⟩
  | 21 => ⟨S_, .i32⟩
  | 22 => ⟨S_, .i32⟩
  | 23 => ⟨S1x16x4x128, .f32⟩
  | 24 => ⟨S16x4x128, .f32⟩
  | 25 => ⟨S_, .i32⟩
  | 26 => ⟨S_, .i32⟩
  | 27 => ⟨S_, .i32⟩
  | 28 => ⟨S1x16x4x128, .f32⟩
  | 29 => ⟨S16x4x128, .f32⟩
  | 30 => ⟨S_, .f32⟩
  | 31 => ⟨S_, .f32⟩
  | 32 => ⟨S16x4x128, .f32⟩
  | 33 => ⟨S16x4x1, .f32⟩
  | 34 => ⟨S16x4x128, .f32⟩
  | 35 => ⟨S16x4x128, .f32⟩
  | 36 => ⟨S16x4x128x1, .f32⟩
  | 37 => ⟨S16x4x1x128, .f32⟩
  | 38 => ⟨S16x4x128x128, .f32⟩
  | 39 => ⟨S16x4x128x128, .f32⟩
  | 40 => ⟨S16x4x128x128, .f32⟩
  | 41 => ⟨S16x4x1x128, .f32⟩
  | 42 => ⟨S16x4x128x128, .f32⟩
  | 43 => ⟨S16x4x128x128, .f32⟩
  | 44 => ⟨S_, .f32⟩
  | 45 => ⟨S_, .f32⟩
  | 46 => ⟨S16x4x128x128, .i1⟩
  | 47 => ⟨S16x4x128x128, .f32⟩
  | 48 => ⟨S16x4x128x128, .f32⟩
  | 49 => ⟨S_, .f32⟩
  | 50 => ⟨S16x4x128, .f32⟩
  | 51 => ⟨S16x4x128, .f32⟩
  | 52 => ⟨S16x4x128x128, .f32⟩
  | 53 => ⟨S16x4x128x1, .f32⟩
  | 54 => ⟨S16x4x128x128, .f32⟩
  | 55 => ⟨S16x4x128x128, .f32⟩
  | 56 => ⟨S16x4x128x128, .f32⟩
  | 57 => ⟨S16x4x128x128, .f32⟩
  | 58 => ⟨S16x4x128, .f32⟩
  | 59 => ⟨S16x4x128, .f32⟩
  | 60 => ⟨S16x4x128x1, .f32⟩
  | 61 => ⟨S16x4x128x256, .f32⟩
  | 62 => ⟨S16x4x128x256, .f32⟩
  | 63 => ⟨S16x4x128x256, .f32⟩
  | 64 => ⟨S16x4x128x256, .f32⟩
  | 65 => ⟨S16x4x128x256, .f32⟩
  | 66 => ⟨S16x4x128, .f32⟩
  | 67 => ⟨S16x4x128, .f32⟩
  | 68 => ⟨S_, .f32⟩
  | 69 => ⟨S16x4x128, .f32⟩
  | 70 => ⟨S16x4x128, .f32⟩
  | 71 => ⟨S16x4x128, .f32⟩
  | 72 => ⟨S16x4x128, .f32⟩
  | 73 => ⟨S16x4x128, .f32⟩
  | 74 => ⟨S16x4x128, .f32⟩
  | 75 => ⟨S16x4x128x1, .f32⟩
  | 76 => ⟨S16x4x128x256, .f32⟩
  | 77 => ⟨S16x4x128x256, .f32⟩
  | 78 => ⟨S16x4x1, .f32⟩
  | 79 => ⟨S16x4, .f32⟩
  | 80 => ⟨S16x4x1, .f32⟩
  | 81 => ⟨S16x4x128, .f32⟩
  | 82 => ⟨S16x4x128, .f32⟩
  | 83 => ⟨S16x4x128, .f32⟩
  | 84 => ⟨S16x4, .f32⟩
  | 85 => ⟨S_, .f32⟩
  | 86 => ⟨S16x4, .f32⟩
  | 87 => ⟨S16x4, .f32⟩
  | 88 => ⟨S16x4, .f32⟩
  | 89 => ⟨S16x4, .f32⟩
  | 90 => ⟨S16x4, .f32⟩
  | 91 => ⟨S16x4x1, .f32⟩
  | 92 => ⟨S16x4x128, .f32⟩
  | 93 => ⟨S16x4x128, .f32⟩
  | 94 => ⟨S16x4x128, .f32⟩
  | 95 => ⟨S16x4x1x1, .f32⟩
  | 96 => ⟨S16x4x256x256, .f32⟩
  | 97 => ⟨S16x4x256x256, .f32⟩
  | 98 => ⟨S16x4x128x1, .f32⟩
  | 99 => ⟨S16x4x128x256, .f32⟩
  | 100 => ⟨S16x4x128x256, .f32⟩
  | 101 => ⟨S16x4x256x256, .f32⟩
  | 102 => ⟨S16x4x256x256, .f32⟩
  | 103 => ⟨S16x4x1, .f32⟩
  | 104 => ⟨S16x4x256, .f32⟩
  | 105 => ⟨S16x4x256, .f32⟩
  | 106 => ⟨S16x4x256, .f32⟩
  | 107 => ⟨S16x4x256, .f32⟩
  | 108 => ⟨S1x16x4x128x256, .f32⟩
  | 109 => ⟨S_, .i32⟩
  | 110 => ⟨S_, .i32⟩
  | 111 => ⟨S_, .i32⟩
  | 112 => ⟨S_, .i32⟩
  | 113 => ⟨S16x16x4x128x256, .f32⟩
  | 114 => ⟨S_, .i32⟩
  | 115 => ⟨S_, .i32⟩
  | 116 => ⟨S16x16x128x4x256, .f32⟩
  | 117 => ⟨S16x2048x4x256, .f32⟩
  | 118 => ⟨S16x2048x4x256, .f32⟩
  | 119 => ⟨S_, .f32⟩
  | 120 => ⟨S16x2048x4, .f32⟩
  | 121 => ⟨S16x2048x4x1, .f32⟩
  | 122 => ⟨S_, .f32⟩
  | 123 => ⟨S16x2048x4x1, .f32⟩
  | 124 => ⟨S16x2048x4x1, .f32⟩
  | 125 => ⟨S_, .f32⟩
  | 126 => ⟨S16x2048x4x1, .f32⟩
  | 127 => ⟨S16x2048x4x1, .f32⟩
  | _ => ⟨S32768x2048, .bf16⟩

abbrev hbmTy0_2 (i : Nat) : BufTy := match i % 128 with
  | 0 => ⟨S16x2048x4x1, .f32⟩
  | 1 => ⟨S16x2048x4x256, .f32⟩
  | 2 => ⟨S16x2048x4x256, .f32⟩
  | 3 => ⟨S4x256, .f32⟩
  | 4 => ⟨S1x1x4x256, .f32⟩
  | 5 => ⟨S16x2048x4x256, .f32⟩
  | 6 => ⟨S16x2048x4x256, .f32⟩
  | 7 => ⟨S32768x1024, .bf16⟩
  | 8 => ⟨S32768x1024, .f32⟩
  | 9 => ⟨S32768x1024, .f32⟩
  | 10 => ⟨S32768x1024, .f32⟩
  | 11 => ⟨S_, .f32⟩
  | 12 => ⟨S32768x1024, .f32⟩
  | 13 => ⟨S32768x1024, .f32⟩
  | 14 => ⟨S_, .f32⟩
  | 15 => ⟨S32768x1024, .f32⟩
  | 16 => ⟨S32768x1024, .f32⟩
  | 17 => ⟨S32768x1024, .f32⟩
  | 18 => ⟨S32768x1024, .f32⟩
  | 19 => ⟨S32768x1024, .bf16⟩
  | _ => ⟨S32768x2048, .bf16⟩

abbrev hbmTy (i : Nat) : BufTy := match i / 128 with
  | 0 => hbmTy0_0 i
  | 1 => hbmTy0_1 i
  | 2 => hbmTy0_2 i
  | _ => ⟨S32768x2048, .bf16⟩

abbrev bufTy : (tb : Table) → Fin (tcTables nBuf tb) → BufTy
  | .hbm, ⟨i, _⟩ => hbmTy i
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_1 : Ref sig .tc := ⟨.hbm, 87, rfl⟩
abbrev main_v55 : Ref sig .tc := ⟨.hbm, 88, rfl⟩
abbrev main_call3_v0 : Ref sig .tc := ⟨.hbm, 89, rfl⟩
abbrev main_call3_c : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_c_0 : Ref sig .tc := ⟨.hbm, 95, rfl⟩
abbrev main_call3_v5 : Ref sig .tc := ⟨.hbm, 96, rfl⟩
abbrev main_v56 : Ref sig .tc := ⟨.hbm, 97, rfl⟩
abbrev main_cst_2 : Ref sig .tc := ⟨.hbm, 98, rfl⟩
abbrev main_v57 : Ref sig .tc := ⟨.hbm, 99, rfl⟩
abbrev main_cst_3 : Ref sig .tc := ⟨.hbm, 100, rfl⟩
abbrev main_v58 : Ref sig .tc := ⟨.hbm, 101, rfl⟩
abbrev main_cst_4 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_5 : Ref sig .tc := ⟨.hbm, 114, rfl⟩
abbrev main_v70 : Ref sig .tc := ⟨.hbm, 115, rfl⟩
abbrev main_c_6 : Ref sig .tc := ⟨.hbm, 116, rfl⟩
abbrev main_v71_0 : Ref sig .tc := ⟨.hbm, 117, rfl⟩
abbrev main_v71_1 : Ref sig .tc := ⟨.hbm, 118, rfl⟩
abbrev main_v71_2 : Ref sig .tc := ⟨.hbm, 119, rfl⟩
abbrev main_v71_3 : Ref sig .tc := ⟨.hbm, 120, rfl⟩
abbrev main_v71_4 : Ref sig .tc := ⟨.hbm, 121, rfl⟩
abbrev main_v71_5 : Ref sig .tc := ⟨.hbm, 122, rfl⟩
abbrev main_v71_6 : Ref sig .tc := ⟨.hbm, 123, rfl⟩
abbrev main_v71_7 : Ref sig .tc := ⟨.hbm, 124, rfl⟩
abbrev main_v71_8 : Ref sig .tc := ⟨.hbm, 125, rfl⟩
abbrev main_v71_9 : Ref sig .tc := ⟨.hbm, 126, rfl⟩
abbrev main_v71_10 : Ref sig .tc := ⟨.hbm, 127, rfl⟩
abbrev main_while0c_c_22 : Ref sig .tc := ⟨.hbm, 128, rfl⟩
abbrev main_while0c_v99 : Ref sig .tc := ⟨.hbm, 129, rfl⟩
abbrev main_while0b_call4_c : Ref sig .tc := ⟨.hbm, 130, rfl⟩
abbrev main_while0b_call4_c_0 : Ref sig .tc := ⟨.hbm, 131, rfl⟩
abbrev main_while0b_call4_c_1 : Ref sig .tc := ⟨.hbm, 132, rfl⟩
abbrev main_while0b_call4_c_2 : Ref sig .tc := ⟨.hbm, 133, rfl⟩
abbrev main_while0b_call4_v0 : Ref sig .tc := ⟨.hbm, 134, rfl⟩
abbrev main_while0b_v99 : Ref sig .tc := ⟨.hbm, 135, rfl⟩
abbrev main_while0b_call5_c : Ref sig .tc := ⟨.hbm, 136, rfl⟩
abbrev main_while0b_call5_c_0 : Ref sig .tc := ⟨.hbm, 137, rfl⟩
abbrev main_while0b_call5_c_1 : Ref sig .tc := ⟨.hbm, 138, rfl⟩
abbrev main_while0b_call5_c_2 : Ref sig .tc := ⟨.hbm, 139, rfl⟩
abbrev main_while0b_call5_v0 : Ref sig .tc := ⟨.hbm, 140, rfl⟩
abbrev main_while0b_v100 : Ref sig .tc := ⟨.hbm, 141, rfl⟩
abbrev main_while0b_call6_c : Ref sig .tc := ⟨.hbm, 142, rfl⟩
abbrev main_while0b_call6_c_0 : Ref sig .tc := ⟨.hbm, 143, rfl⟩
abbrev main_while0b_call6_c_1 : Ref sig .tc := ⟨.hbm, 144, rfl⟩
abbrev main_while0b_call6_c_2 : Ref sig .tc := ⟨.hbm, 145, rfl⟩
abbrev main_while0b_call6_v0 : Ref sig .tc := ⟨.hbm, 146, rfl⟩
abbrev main_while0b_v101 : Ref sig .tc := ⟨.hbm, 147, rfl⟩
abbrev main_while0b_call7_c : Ref sig .tc := ⟨.hbm, 148, rfl⟩
abbrev main_while0b_call7_c_0 : Ref sig .tc := ⟨.hbm, 149, rfl⟩
abbrev main_while0b_call7_c_1 : Ref sig .tc := ⟨.hbm, 150, rfl⟩
abbrev main_while0b_call7_v0 : Ref sig .tc := ⟨.hbm, 151, rfl⟩
abbrev main_while0b_v102 : Ref sig .tc := ⟨.hbm, 152, rfl⟩
abbrev main_while0b_call8_c : Ref sig .tc := ⟨.hbm, 153, rfl⟩
abbrev main_while0b_call8_c_0 : Ref sig .tc := ⟨.hbm, 154, rfl⟩
abbrev main_while0b_call8_c_1 : Ref sig .tc := ⟨.hbm, 155, rfl⟩
abbrev main_while0b_call8_v0 : Ref sig .tc := ⟨.hbm, 156, rfl⟩
abbrev main_while0b_v103 : Ref sig .tc := ⟨.hbm, 157, rfl⟩
abbrev main_while0b_call9_call0_cst : Ref sig .tc := ⟨.hbm, 158, rfl⟩
abbrev main_while0b_call9_call0_v0 : Ref sig .tc := ⟨.hbm, 159, rfl⟩
abbrev main_while0b_v104 : Ref sig .tc := ⟨.hbm, 160, rfl⟩
abbrev main_while0b_v105 : Ref sig .tc := ⟨.hbm, 161, rfl⟩
abbrev main_while0b_v106 : Ref sig .tc := ⟨.hbm, 162, rfl⟩
abbrev main_while0b_v107 : Ref sig .tc := ⟨.hbm, 163, rfl⟩
abbrev main_while0b_v108 : Ref sig .tc := ⟨.hbm, 164, rfl⟩
abbrev main_while0b_v109 : Ref sig .tc := ⟨.hbm, 165, rfl⟩
abbrev main_while0b_v110 : Ref sig .tc := ⟨.hbm, 166, rfl⟩
abbrev main_while0b_v111 : Ref sig .tc := ⟨.hbm, 167, rfl⟩
abbrev main_while0b_v112 : Ref sig .tc := ⟨.hbm, 168, rfl⟩
abbrev main_while0b_v113 : Ref sig .tc := ⟨.hbm, 169, rfl⟩
abbrev main_while0b_v114 : Ref sig .tc := ⟨.hbm, 170, rfl⟩
abbrev main_while0b_v115 : Ref sig .tc := ⟨.hbm, 171, rfl⟩
abbrev main_while0b_cst_22 : Ref sig .tc := ⟨.hbm, 172, rfl⟩
abbrev main_while0b_call10_v0 : Ref sig .tc := ⟨.hbm, 173, rfl⟩
abbrev main_while0b_call10_v1 : Ref sig .tc := ⟨.hbm, 174, rfl⟩
abbrev main_while0b_call10_v2 : Ref sig .tc := ⟨.hbm, 175, rfl⟩
abbrev main_while0b_v116 : Ref sig .tc := ⟨.hbm, 176, rfl⟩
abbrev main_while0b_cst_23 : Ref sig .tc := ⟨.hbm, 177, rfl⟩
abbrev main_while0b_v117 : Ref sig .tc := ⟨.hbm, 178, rfl⟩
abbrev main_while0b_v118 : Ref sig .tc := ⟨.hbm, 179, rfl⟩
abbrev main_while0b_v119 : Ref sig .tc := ⟨.hbm, 180, rfl⟩
abbrev main_while0b_v120 : Ref sig .tc := ⟨.hbm, 181, rfl⟩
abbrev main_while0b_v121 : Ref sig .tc := ⟨.hbm, 182, rfl⟩
abbrev main_while0b_v122 : Ref sig .tc := ⟨.hbm, 183, rfl⟩
abbrev main_while0b_v123 : Ref sig .tc := ⟨.hbm, 184, rfl⟩
abbrev main_while0b_v124 : Ref sig .tc := ⟨.hbm, 185, rfl⟩
abbrev main_while0b_v125 : Ref sig .tc := ⟨.hbm, 186, rfl⟩
abbrev main_while0b_v126 : Ref sig .tc := ⟨.hbm, 187, rfl⟩
abbrev main_while0b_v127 : Ref sig .tc := ⟨.hbm, 188, rfl⟩
abbrev main_while0b_v128 : Ref sig .tc := ⟨.hbm, 189, rfl⟩
abbrev main_while0b_v129 : Ref sig .tc := ⟨.hbm, 190, rfl⟩
abbrev main_while0b_v130 : Ref sig .tc := ⟨.hbm, 191, rfl⟩
abbrev main_while0b_v131 : Ref sig .tc := ⟨.hbm, 192, rfl⟩
abbrev main_while0b_v132 : Ref sig .tc := ⟨.hbm, 193, rfl⟩
abbrev main_while0b_v133 : Ref sig .tc := ⟨.hbm, 194, rfl⟩
abbrev main_while0b_v134 : Ref sig .tc := ⟨.hbm, 195, rfl⟩
abbrev main_while0b_cst_24 : Ref sig .tc := ⟨.hbm, 196, rfl⟩
abbrev main_while0b_v135 : Ref sig .tc := ⟨.hbm, 197, rfl⟩
abbrev main_while0b_v136 : Ref sig .tc := ⟨.hbm, 198, rfl⟩
abbrev main_while0b_v137 : Ref sig .tc := ⟨.hbm, 199, rfl⟩
abbrev main_while0b_v138 : Ref sig .tc := ⟨.hbm, 200, rfl⟩
abbrev main_while0b_v139 : Ref sig .tc := ⟨.hbm, 201, rfl⟩
abbrev main_while0b_v140 : Ref sig .tc := ⟨.hbm, 202, rfl⟩
abbrev main_while0b_v141 : Ref sig .tc := ⟨.hbm, 203, rfl⟩
abbrev main_while0b_v142 : Ref sig .tc := ⟨.hbm, 204, rfl⟩
abbrev main_while0b_v143 : Ref sig .tc := ⟨.hbm, 205, rfl⟩
abbrev main_while0b_v144 : Ref sig .tc := ⟨.hbm, 206, rfl⟩
abbrev main_while0b_v145 : Ref sig .tc := ⟨.hbm, 207, rfl⟩
abbrev main_while0b_v146 : Ref sig .tc := ⟨.hbm, 208, rfl⟩
abbrev main_while0b_v147 : Ref sig .tc := ⟨.hbm, 209, rfl⟩
abbrev main_while0b_v148 : Ref sig .tc := ⟨.hbm, 210, rfl⟩
abbrev main_while0b_v149 : Ref sig .tc := ⟨.hbm, 211, rfl⟩
abbrev main_while0b_v150 : Ref sig .tc := ⟨.hbm, 212, rfl⟩
abbrev main_while0b_cst_25 : Ref sig .tc := ⟨.hbm, 213, rfl⟩
abbrev main_while0b_v151 : Ref sig .tc := ⟨.hbm, 214, rfl⟩
abbrev main_while0b_v152 : Ref sig .tc := ⟨.hbm, 215, rfl⟩
abbrev main_while0b_v153 : Ref sig .tc := ⟨.hbm, 216, rfl⟩
abbrev main_while0b_v154 : Ref sig .tc := ⟨.hbm, 217, rfl⟩
abbrev main_while0b_v155 : Ref sig .tc := ⟨.hbm, 218, rfl⟩
abbrev main_while0b_v156 : Ref sig .tc := ⟨.hbm, 219, rfl⟩
abbrev main_while0b_v157 : Ref sig .tc := ⟨.hbm, 220, rfl⟩
abbrev main_while0b_v158 : Ref sig .tc := ⟨.hbm, 221, rfl⟩
abbrev main_while0b_v159 : Ref sig .tc := ⟨.hbm, 222, rfl⟩
abbrev main_while0b_v160 : Ref sig .tc := ⟨.hbm, 223, rfl⟩
abbrev main_while0b_v161 : Ref sig .tc := ⟨.hbm, 224, rfl⟩
abbrev main_while0b_v162 : Ref sig .tc := ⟨.hbm, 225, rfl⟩
abbrev main_while0b_v163 : Ref sig .tc := ⟨.hbm, 226, rfl⟩
abbrev main_while0b_v164 : Ref sig .tc := ⟨.hbm, 227, rfl⟩
abbrev main_while0b_v165 : Ref sig .tc := ⟨.hbm, 228, rfl⟩
abbrev main_while0b_v166 : Ref sig .tc := ⟨.hbm, 229, rfl⟩
abbrev main_while0b_v167 : Ref sig .tc := ⟨.hbm, 230, rfl⟩
abbrev main_while0b_v168 : Ref sig .tc := ⟨.hbm, 231, rfl⟩
abbrev main_while0b_v169 : Ref sig .tc := ⟨.hbm, 232, rfl⟩
abbrev main_while0b_v170 : Ref sig .tc := ⟨.hbm, 233, rfl⟩
abbrev main_while0b_v171 : Ref sig .tc := ⟨.hbm, 234, rfl⟩
abbrev main_while0b_v172 : Ref sig .tc := ⟨.hbm, 235, rfl⟩
abbrev main_while0b_call11_v0 : Ref sig .tc := ⟨.hbm, 236, rfl⟩
abbrev main_while0b_call11_c : Ref sig .tc := ⟨.hbm, 237, rfl⟩
abbrev main_while0b_call11_c_0 : Ref sig .tc := ⟨.hbm, 238, rfl⟩
abbrev main_while0b_call11_c_1 : Ref sig .tc := ⟨.hbm, 239, rfl⟩
abbrev main_while0b_call11_c_2 : Ref sig .tc := ⟨.hbm, 240, rfl⟩
abbrev main_while0b_v173 : Ref sig .tc := ⟨.hbm, 241, rfl⟩
abbrev main_while0b_c_26 : Ref sig .tc := ⟨.hbm, 242, rfl⟩
abbrev main_while0b_v174 : Ref sig .tc := ⟨.hbm, 243, rfl⟩
abbrev main_v72 : Ref sig .tc := ⟨.hbm, 244, rfl⟩
abbrev main_v73 : Ref sig .tc := ⟨.hbm, 245, rfl⟩
abbrev main_v74 : Ref sig .tc := ⟨.hbm, 246, rfl⟩
abbrev main_cst_7 : Ref sig .tc := ⟨.hbm, 247, rfl⟩
abbrev main_v75 : Ref sig .tc := ⟨.hbm, 248, rfl⟩
abbrev main_v76 : Ref sig .tc := ⟨.hbm, 249, rfl⟩
abbrev main_cst_8 : Ref sig .tc := ⟨.hbm, 250, rfl⟩
abbrev main_v77 : Ref sig .tc := ⟨.hbm, 251, rfl⟩
abbrev main_v78 : Ref sig .tc := ⟨.hbm, 252, rfl⟩
abbrev main_cst_9 : Ref sig .tc := ⟨.hbm, 253, rfl⟩
abbrev main_v79 : Ref sig .tc := ⟨.hbm, 254, rfl⟩
abbrev main_v80 : Ref sig .tc := ⟨.hbm, 255, rfl⟩
abbrev main_v81 : Ref sig .tc := ⟨.hbm, 256, rfl⟩
abbrev main_v82 : Ref sig .tc := ⟨.hbm, 257, rfl⟩
abbrev main_v83 : Ref sig .tc := ⟨.hbm, 258, rfl⟩
abbrev main_v84 : Ref sig .tc := ⟨.hbm, 259, rfl⟩
abbrev main_v85 : Ref sig .tc := ⟨.hbm, 260, rfl⟩
abbrev main_v86 : Ref sig .tc := ⟨.hbm, 261, rfl⟩
abbrev main_v87 : Ref sig .tc := ⟨.hbm, 262, rfl⟩
abbrev main_v88 : Ref sig .tc := ⟨.hbm, 263, rfl⟩
abbrev main_v89 : Ref sig .tc := ⟨.hbm, 264, rfl⟩
abbrev main_v90 : Ref sig .tc := ⟨.hbm, 265, rfl⟩
abbrev main_v91 : Ref sig .tc := ⟨.hbm, 266, rfl⟩
abbrev main_cst_10 : Ref sig .tc := ⟨.hbm, 267, rfl⟩
abbrev main_v92 : Ref sig .tc := ⟨.hbm, 268, rfl⟩
abbrev main_v93 : Ref sig .tc := ⟨.hbm, 269, rfl⟩
abbrev main_cst_11 : Ref sig .tc := ⟨.hbm, 270, rfl⟩
abbrev main_v94 : Ref sig .tc := ⟨.hbm, 271, rfl⟩
abbrev main_v95 : Ref sig .tc := ⟨.hbm, 272, rfl⟩
abbrev main_v96 : Ref sig .tc := ⟨.hbm, 273, rfl⟩
abbrev main_v97 : Ref sig .tc := ⟨.hbm, 274, rfl⟩
abbrev main_v98 : Ref sig .tc := ⟨.hbm, 275, rfl⟩

abbrev nD : Nat := 1
abbrev τ : Topo := Topo.v7x

variable {F : FTy → Type} [FloatOps F]

abbrev main_while0_count : Scf.Loop 32 := ⟨0#32, 16#32, 1#32⟩
-- ==== Proof.XattnSpec.lean ====
/- The memory cross-attention and the feed-forward layer of one row, as functions of extended reals. -/
module

public import Idealize.ShloMosaic.PureOps.Ideal.Laws
public import Mathlib.Algebra.BigOperators.Fin

@[expose] public section

noncomputable section

namespace Cert.Xattn

open Idealize.ShloMosaic

/-- A row normalised by its root mean square, then weighted. -/
def rms (v g : Fin 1024 → EReal) (j : Fin 1024) : EReal :=
  v j * Ideal.rsqrt (Ideal.div (∑ k, v k * v k) (Ideal.ofBits FTy.f32 0x44800000#32) + Ideal.ofBits FTy.f32 0x358637BD#32) * g j

/-- The weight of key `i` before it is divided by the sum of the weights. -/
def expo (q : Fin 256 → EReal) (k : Fin 256 → Fin 256 → EReal) (i : Fin 256) : EReal :=
  Ideal.exp (∑ d, q d * k i d - (Finset.univ : Finset (Fin 256)).fold max (Ideal.ofBits FTy.f32 0xFF800000#32) fun x => ∑ d, q d * k x d)

/-- Softmax attention of one query over 256 keys: one entry of the weighted sum of the values. -/
def attn (q : Fin 256 → EReal) (k : Fin 256 → Fin 256 → EReal) (v : Fin 256 → EReal) : EReal :=
  ∑ i, Ideal.div (expo q k i) (∑ x, expo q k x) * v i

/-- The row after the attention's output projection is added to it. -/
def mid (h o : Fin 1024 → EReal) (wo : Fin 1024 → Fin 1024 → EReal) (gx : Fin 1024 → EReal) (j : Fin 1024) : EReal :=
  h j + rms (fun j => ∑ k, o k * wo k j) gx j

/-- One hidden unit of the feed-forward layer: its gate is column `i`, its other factor column `2816 + i`. -/
def act (u : Fin 1024 → EReal) (w : Fin 1024 → Fin 5632 → EReal) (i : Fin 2816) : EReal :=
  (∑ k, u k * w k ⟨i.val, by omega⟩) * Ideal.logistic (∑ k, u k * w k ⟨i.val, by omega⟩) * ∑ k, u k * w k ⟨2816 + i.val, by omega⟩

/-- The row after the feed-forward layer is added to it. -/
def out (h2 gf : Fin 1024 → EReal) (w : Fin 1024 → Fin 5632 → EReal) (d : Fin 2816 → Fin 1024 → EReal) (gp : Fin 1024 → EReal)
    (j : Fin 1024) : EReal :=
  h2 j + rms (fun j => ∑ i, act (rms h2 gf) w i * d i j) gp j

/-- The share of 256 consecutive hidden units in one entry of the feed-forward layer. -/
def part (u : Fin 1024 → EReal) (w : Fin 1024 → Fin 5632 → EReal) (d : Fin 2816 → EReal) (c : ℕ) : EReal :=
  ∑ x : Fin 256, if h : c + x.val < 2816 then act u w ⟨c + x.val, h⟩ * d ⟨c + x.val, h⟩ else 0

/-- A sum over the hidden units is the sum of the shares of the eleven blocks of 256. -/
theorem sum_parts (u : Fin 1024 → EReal) (w : Fin 1024 → Fin 5632 → EReal) (d : Fin 2816 → EReal) :
    ∑ i, act u w i * d i
      = part u w d 0 + part u w d 256 + part u w d 512 + part u w d 768 + part u w d 1024 + part u w d 1280
        + part u w d 1536 + part u w d 1792 + part u w d 2048 + part u w d 2304 + part u w d 2560 := by
  have e : ∑ i, act u w i * d i = ∑ p : Fin 11 × Fin 256, act u w (finProdFinEquiv p) * d (finProdFinEquiv p) :=
    (Equiv.sum_comp (finProdFinEquiv (m := 11) (n := 256)) fun i => act u w i * d i).symm
  have h : ∀ q : Fin 11, (∑ x : Fin 256, act u w (finProdFinEquiv (q, x)) * d (finProdFinEquiv (q, x)))
      = part u w d (256 * q.val) := by
    intro q
    refine Finset.sum_congr rfl fun x _ => ?_
    have hx : 256 * q.val + x.val < 2816 := by omega
    rw [dif_pos hx]
    have : (finProdFinEquiv (q, x) : Fin 2816) = ⟨256 * q.val + x.val, hx⟩ := Fin.ext (by simp [finProdFinEquiv]; omega)
    rw [this]
  rw [e, Fintype.sum_prod_type]
  simp only [h]
  rw [Fin.sum_univ_eq_sum_range (fun q => part u w d (256 * q)) 11]
  simp only [Finset.sum_range_succ, Finset.sum_range_zero, zero_add, Nat.reduceMul]

end Cert.Xattn

end
-- ==== Proof.XattnKernel.lean ====
/- What one grid point of the attention and feed-forward kernel computes, entry by entry. -/
module

public import proofs.«01_k».proof.Proof.Gen.KernelIdeal.Value
public import proofs.«01_k».proof.Proof.XattnSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Xattn

open Idealize.ShloMosaic Idealize.ShloMosaic.TcCoe Idealize.SL.Sem
open Idealize.ShloMosaic.Pipeline (Dat)
open Cert.KernelIdeal Cert.KernelIdeal.Gen

/-- The attention's row of 1024: column `j` belongs to the head of columns `j / 256 * 256` onwards. -/
abbrev hcol (j : Fin 1024) (d : Fin 256) : Fin 1024 := ⟨j.val / 256 * 256 + d.val, by omega⟩

/-- The four heads' results of the block, side by side. -/
def heads (q : Vec Ideal S256x1024 .bf16) (kv : Vec Ideal S256x2048 .bf16) : Vec Ideal S256x1024 .bf16 :=
  fun y => attn (fun d => q (ix2 (y 0) (hcol (y 1) d))) (fun i d => kv (ix2 i ⟨(y 1).val / 256 * 256 + d.val, by have := (y 1).isLt; simp at this; omega⟩))
    (fun i => kv (ix2 i ⟨1024 + (y 1).val, by have := (y 1).isLt; simp at this; omega⟩))

theorem pay2_apply (q k v : Vec Ideal S256x256 .bf16) (a b : Fin 256) : k0_pay2 q k v (ix2 a b)
    = attn (fun d => q (ix2 a d)) (fun i d => k (ix2 i d)) (fun i => v (ix2 i b)) := by
  pointwise [k0_pay2, attn, expo]

theorem pay3_apply (q k v : Vec Ideal S256x256 .bf16) (a b : Fin 256) : k0_pay4 (k0_pay3 q k v) (ix2 a b)
    = attn (fun d => q (ix2 a d)) (fun i d => k (ix2 i d)) (fun i => v (ix2 i b)) := by
  pointwise [k0_pay4, k0_pay3, attn, expo]

theorem pay5_apply (q k v : Vec Ideal S256x256 .bf16) (a b : Fin 256) : k0_pay5 q k v (ix2 a b)
    = attn (fun d => q (ix2 a d)) (fun i d => k (ix2 i d)) (fun i => v (ix2 i b)) := by
  pointwise [k0_pay5, attn, expo]

theorem pay7_apply (q k v : Vec Ideal S256x256 .bf16) (a b : Fin 256) : k0_pay7 (k0_pay6 q k) v (ix2 a b)
    = attn (fun d => q (ix2 a d)) (fun i d => k (ix2 i d)) (fun i => v (ix2 i b)) := by
  pointwise [k0_pay7, k0_pay6, attn, expo]

theorem heads_at (q : Vec Ideal S256x1024 .bf16) (kv : Vec Ideal S256x2048 .bf16) (a : Fin 256) (b : Fin 1024) (h : ℕ) (hb : b.val / 256 * 256 = h)
    (hh : h + 256 ≤ 1024) (c : ℕ) (hc : 1024 + b.val = c) :
    heads q kv (ix2 a b) = attn (fun d => q (ix2 a ⟨h + d.val, by omega⟩)) (fun i d => kv (ix2 i ⟨h + d.val, by omega⟩))
      (fun i => kv (ix2 i ⟨c, by omega⟩)) := by
  subst hb hc; rfl

/-- The scratch buffer, read back whole, holds the four heads side by side. -/
theorem scratch_eq (q : Vec Ideal S256x1024 .bf16) (kv : Vec Ideal S256x2048 .bf16) :
    (View.whole cc0_scratch0).readCov
      [⟨Rect.unit ![0, 768] ![256, 256] inb_S256x1024_S256x256_0_768,
          k0_pay7 (k0_pay6 (View.ld q (Rect.unit ![0, 768] ![256, 256] inb_S256x1024_S256x256_0_768))
              (View.ld kv (Rect.unit ![0, 768] ![256, 256] inb_S256x2048_S256x256_0_768)))
            (View.ld kv (Rect.unit ![0, 1792] ![256, 256] inb_S256x2048_S256x256_0_1792))⟩,
        ⟨Rect.unit ![0, 512] ![256, 256] inb_S256x1024_S256x256_0_512,
          k0_pay5 (View.ld q (Rect.unit ![0, 512] ![256, 256] inb_S256x1024_S256x256_0_512))
            (View.ld kv (Rect.unit ![0, 512] ![256, 256] inb_S256x2048_S256x256_0_512))
            (View.ld kv (Rect.unit ![0, 1536] ![256, 256] inb_S256x2048_S256x256_0_1536))⟩,
        ⟨Rect.unit ![0, 256] ![256, 256] inb_S256x1024_S256x256_0_256,
          k0_pay4 (k0_pay3 (View.ld q (Rect.unit ![0, 256] ![256, 256] inb_S256x1024_S256x256_0_256))
              (View.ld kv (Rect.unit ![0, 256] ![256, 256] inb_S256x2048_S256x256_0_256))
              (View.ld kv (Rect.unit ![0, 1280] ![256, 256] inb_S256x2048_S256x256_0_1280)))⟩,
        ⟨Rect.unit ![0, 0] ![256, 256] inb_S256x1024_S256x256_0_0,
          k0_pay2 (View.ld q (Rect.unit ![0, 0] ![256, 256] inb_S256x1024_S256x256_0_0))
            (View.ld kv (Rect.unit ![0, 0] ![256, 256] inb_S256x2048_S256x256_0_0))
            (View.ld kv (Rect.unit ![0, 1024] ![256, 256] inb_S256x2048_S256x256_0_1024))⟩]
      (Rect.unit ![0, 0] ![256, 1024] inb_S256x1024_S256x1024_0_0).toLoadRect
    = heads q kv := by
  rw [View.readCov_eq_canon']
  have hc := fun L y h1 h2 => View.canon_append_of_piecesOf (Val := Elt Ideal) (s := S256x1024) (e := .bf16) (heads q kv) [] L h1 y h2
  simp only [List.append_nil] at hc
  funext j
  have hj : (Rect.unit ![0, 0] ![256, 1024] inb_S256x1024_S256x1024_0_0).toLoadRect.idx j = j := by
    funext a; apply Fin.ext; fin_cases a <;> simp [LoadRect.idx]
  rw [hj]
  refine hc _ _ ⟨fun x => ?_, fun x => ?_, fun x => ?_, fun x => ?_, trivial⟩ (View.cover_of_tiledL (s := S256x1024) _ ![256, 256] (by sl_kernel_rfl) j)
  all_goals obtain ⟨a, b, rfl⟩ : ∃ a b : Fin 256, x = ix2 a b := ⟨x 0, x 1, by funext i; fin_cases i <;> rfl⟩
  · refine (pay7_apply _ _ _ a b).trans ?_
    rw [show (Rect.unit (s := S256x1024) ![0, 768] ![256, 256] inb_S256x1024_S256x256_0_768).emb (ix2 a b) = ix2 a ⟨768 + b.val, by omega⟩ from by
      funext i; apply Fin.ext; fin_cases i <;> simp [Rect.emb_apply, Rect.off_unit, Rect.stride_unit]]
    rw [heads_at q kv a _ 768 (by show (768 + b.val) / 256 * 256 = 768; omega) (by omega) (1792 + b.val) (by show 1024 + (768 + b.val) = 1792 + b.val; omega)]
    pointwise []
  · refine (pay5_apply _ _ _ a b).trans ?_
    rw [show (Rect.unit (s := S256x1024) ![0, 512] ![256, 256] inb_S256x1024_S256x256_0_512).emb (ix2 a b) = ix2 a ⟨512 + b.val, by omega⟩ from by
      funext i; apply Fin.ext; fin_cases i <;> simp [Rect.emb_apply, Rect.off_unit, Rect.stride_unit]]
    rw [heads_at q kv a _ 512 (by show (512 + b.val) / 256 * 256 = 512; omega) (by omega) (1536 + b.val) (by show 1024 + (512 + b.val) = 1536 + b.val; omega)]
    pointwise []
  · refine (pay3_apply _ _ _ a b).trans ?_
    rw [show (Rect.unit (s := S256x1024) ![0, 256] ![256, 256] inb_S256x1024_S256x256_0_256).emb (ix2 a b) = ix2 a ⟨256 + b.val, by omega⟩ from by
      funext i; apply Fin.ext; fin_cases i <;> simp [Rect.emb_apply, Rect.off_unit, Rect.stride_unit]]
    rw [heads_at q kv a _ 256 (by show (256 + b.val) / 256 * 256 = 256; omega) (by omega) (1280 + b.val) (by show 1024 + (256 + b.val) = 1280 + b.val; omega)]
    pointwise []
  · refine (pay2_apply _ _ _ a b).trans ?_
    rw [show (Rect.unit (s := S256x1024) ![0, 0] ![256, 256] inb_S256x1024_S256x256_0_0).emb (ix2 a b) = ix2 a ⟨0 + b.val, by omega⟩ from by
      funext i; apply Fin.ext; fin_cases i <;> simp [Rect.emb_apply, Rect.off_unit, Rect.stride_unit]]
    rw [heads_at q kv a _ 0 (by show (0 + b.val) / 256 * 256 = 0; omega) (by omega) (1024 + b.val) (by show 1024 + (0 + b.val) = 1024 + b.val; omega)]
    pointwise []

section Tail
variable (o : Vec Ideal S256x1024 .bf16) (wo : Vec Ideal S1024x1024 .bf16) (h : Vec Ideal S256x1024 .f32) (gx gf gp : Vec Ideal S1x1024 .f32)
  (W : Vec Ideal S1024x5632 .bf16) (D : Vec Ideal S2816x1024 .bf16)

theorem pay8_apply (a : Fin 256) (b : Fin 1024) : k0_pay8 o wo h gx (ix2 a b)
    = mid (fun j => h (ix2 a j)) (fun j => o (ix2 a j)) (fun k j => wo (ix2 k j)) (fun j => gx (ix2 0 j)) b := by
  pointwise [k0_pay8, mid, rms]

theorem pay9_apply (a : Fin 256) (b : Fin 1024) : k0_pay10 (k0_pay9 o wo h gx gf) (ix2 a b)
    = rms (fun j => k0_pay8 o wo h gx (ix2 a j)) (fun j => gf (ix2 0 j)) b := by
  simp only [k0_pay10, k0_pay9]
  generalize k0_pay8 o wo h gx = z
  pointwise [rms]

/-- The share of 256 hidden units in one entry, from the blocks of the gate, up and down weights. -/
def share (X : Vec Ideal S256x1024 .bf16) (Wg Wu : Vec Ideal S1024x256 .bf16) (Dn : Vec Ideal S256x1024 .bf16) (a : Fin 256) (b : Fin 1024) : EReal :=
  ∑ x : Fin 256, ((∑ k : Fin 1024, X (ix2 a k) * Wg (ix2 k x)) * Ideal.logistic (∑ k : Fin 1024, X (ix2 a k) * Wg (ix2 k x))
    * ∑ k : Fin 1024, X (ix2 a k) * Wu (ix2 k x)) * Dn (ix2 x b)

/-- Blocks cut out of the two weight arrays give the share of the hidden units `c` to `c + 255`. -/
theorem share_part (X : Vec Ideal S256x1024 .bf16) (a : Fin 256) (b : Fin 1024) (c c' : ℕ) (hc : c + 256 ≤ 2816) (hc' : 2816 + c = c') (h1 h2 h3) :
    share X (View.ld W (Rect.unit ![0, c] ![1024, 256] h1)) (View.ld W (Rect.unit ![0, c'] ![1024, 256] h2))
        (View.ld D (Rect.unit ![c, 0] ![256, 1024] h3)) a b
      = part (fun j => X (ix2 a j)) (fun k j => W (ix2 k j)) (fun i => D (ix2 i b)) c := by
  subst hc'
  refine Finset.sum_congr rfl fun x _ => ?_
  rw [dif_pos (show c + x.val < 2816 by omega)]
  simp only [act]
  have e1 : ∀ k : Fin 1024, View.ld W (Rect.unit ![0, c] ![1024, 256] h1) (ix2 k x) = W (ix2 k ⟨c + x.val, by omega⟩) := fun k => by
    refine congrArg W ?_
    funext i; apply Fin.ext; fin_cases i <;> simp [LoadRect.idx_apply, Rect.off_unit, Rect.stride_unit]
  have e2 : ∀ k : Fin 1024, View.ld W (Rect.unit ![0, 2816 + c] ![1024, 256] h2) (ix2 k x) = W (ix2 k ⟨2816 + (c + x.val), by omega⟩) := fun k => by
    refine congrArg W ?_
    funext i; apply Fin.ext; fin_cases i <;> simp [LoadRect.idx_apply, Rect.off_unit, Rect.stride_unit, Nat.add_assoc]
  have e3 : View.ld D (Rect.unit ![c, 0] ![256, 1024] h3) (ix2 x b) = D (ix2 ⟨c + x.val, by omega⟩ b) := by
    refine congrArg D ?_
    funext i; apply Fin.ext; fin_cases i <;> simp [LoadRect.idx_apply, Rect.off_unit, Rect.stride_unit]
  simp only [e1, e2, e3]

variable (X : FVec Ideal S256x1024 .bf16) (u z p : FVec Ideal S256x1024 .f32)
  (g0 u0 g1 u1 g2 u2 : Vec Ideal S1024x256 .bf16) (d0 d1 d2 : Vec Ideal S256x1024 .bf16) (a : Fin 256) (b : Fin 1024)

theorem pay11_apply : k0_pay11 u g0 u0 d0 g1 u1 d1 (ix2 a b) = share (k0_pay10 u) g0 u0 d0 a b + share (k0_pay10 u) g1 u1 d1 a b := by
  pointwise [k0_pay11, k0_pay10, share]

theorem pay14_apply : k0_pay14 (k0_pay10 u) p (k0_pay12 u u0) (k0_pay13 u g0) d0 g1 u1 d1 g2 u2 d2 (ix2 a b)
    = p (ix2 a b) + share (k0_pay10 u) g0 u0 d0 a b + share (k0_pay10 u) g1 u1 d1 a b + share (k0_pay10 u) g2 u2 d2 a b := by
  pointwise [k0_pay14, k0_pay12, k0_pay13, k0_pay10, share]

theorem pay16_apply : k0_pay16 X p (k0_pay15 g0) (constant S256x256 FTy.f32 0#32) u0 d0 g1 u1 d1 (ix2 a b)
    = p (ix2 a b) + share X g0 u0 d0 a b + share X g1 u1 d1 a b := by
  pointwise [k0_pay16, k0_pay15, share]

theorem pay18_apply : k0_pay18 X p (k0_pay17 X g0 u0) d0 g1 u1 d1 g2 u2 d2 (ix2 a b)
    = p (ix2 a b) + share X g0 u0 d0 a b + share X g1 u1 d1 a b + share X g2 u2 d2 a b := by
  pointwise [k0_pay18, k0_pay17, share]

theorem pay1_apply : k0_pay1 z X p (k0_pay19 X g0) (k0_pay20 u0) d0 gp (ix2 a b)
    = z (ix2 a b) + rms (fun j => p (ix2 a j) + share X g0 u0 d0 a j) (fun j => gp (ix2 0 j)) b := by
  pointwise [k0_pay1, k0_pay19, k0_pay20, share, rms]

theorem tail_apply (hu : k0_pay10 u = X) :
    k0_pay1 z X
      (k0_pay18 X
        (k0_pay16 X
          (k0_pay14 X
            (k0_pay11 u (View.ld W (Rect.unit ![0, 0] ![1024, 256] inb_S1024x5632_S1024x256_0_0))
              (View.ld W (Rect.unit ![0, 2816] ![1024, 256] inb_S1024x5632_S1024x256_0_2816))
              (View.ld D (Rect.unit ![0, 0] ![256, 1024] inb_S2816x1024_S256x1024_0_0))
              (View.ld W (Rect.unit ![0, 256] ![1024, 256] inb_S1024x5632_S1024x256_0_256))
              (View.ld W (Rect.unit ![0, 3072] ![1024, 256] inb_S1024x5632_S1024x256_0_3072))
              (View.ld D (Rect.unit ![256, 0] ![256, 1024] inb_S2816x1024_S256x1024_256_0)))
            (k0_pay12 u (View.ld W (Rect.unit ![0, 3328] ![1024, 256] inb_S1024x5632_S1024x256_0_3328)))
            (k0_pay13 u (View.ld W (Rect.unit ![0, 512] ![1024, 256] inb_S1024x5632_S1024x256_0_512)))
            (View.ld D (Rect.unit ![512, 0] ![256, 1024] inb_S2816x1024_S256x1024_512_0))
            (View.ld W (Rect.unit ![0, 768] ![1024, 256] inb_S1024x5632_S1024x256_0_768))
            (View.ld W (Rect.unit ![0, 3584] ![1024, 256] inb_S1024x5632_S1024x256_0_3584))
            (View.ld D (Rect.unit ![768, 0] ![256, 1024] inb_S2816x1024_S256x1024_768_0))
            (View.ld W (Rect.unit ![0, 1024] ![1024, 256] inb_S1024x5632_S1024x256_0_1024))
            (View.ld W (Rect.unit ![0, 3840] ![1024, 256] inb_S1024x5632_S1024x256_0_3840))
            (View.ld D (Rect.unit ![1024, 0] ![256, 1024] inb_S2816x1024_S256x1024_1024_0)))
          (k0_pay15 (View.ld W (Rect.unit ![0, 1280] ![1024, 256] inb_S1024x5632_S1024x256_0_1280)))
          (constant S256x256 FTy.f32 0#32)
          (View.ld W (Rect.unit ![0, 4096] ![1024, 256] inb_S1024x5632_S1024x256_0_4096))
          (View.ld D (Rect.unit ![1280, 0] ![256, 1024] inb_S2816x1024_S256x1024_1280_0))
          (View.ld W (Rect.unit ![0, 1536] ![1024, 256] inb_S1024x5632_S1024x256_0_1536))
          (View.ld W (Rect.unit ![0, 4352] ![1024, 256] inb_S1024x5632_S1024x256_0_4352))
          (View.ld D (Rect.unit ![1536, 0] ![256, 1024] inb_S2816x1024_S256x1024_1536_0)))
        (k0_pay17 X (View.ld W (Rect.unit ![0, 1792] ![1024, 256] inb_S1024x5632_S1024x256_0_1792))
          (View.ld W (Rect.unit ![0, 4608] ![1024, 256] inb_S1024x5632_S1024x256_0_4608)))
        (View.ld D (Rect.unit ![1792, 0] ![256, 1024] inb_S2816x1024_S256x1024_1792_0))
        (View.ld W (Rect.unit ![0, 2048] ![1024, 256] inb_S1024x5632_S1024x256_0_2048))
        (View.ld W (Rect.unit ![0, 4864] ![1024, 256] inb_S1024x5632_S1024x256_0_4864))
        (View.ld D (Rect.unit ![2048, 0] ![256, 1024] inb_S2816x1024_S256x1024_2048_0))
        (View.ld W (Rect.unit ![0, 2304] ![1024, 256] inb_S1024x5632_S1024x256_0_2304))
        (View.ld W (Rect.unit ![0, 5120] ![1024, 256] inb_S1024x5632_S1024x256_0_5120))
        (View.ld D (Rect.unit ![2304, 0] ![256, 1024] inb_S2816x1024_S256x1024_2304_0)))
      (k0_pay19 X (View.ld W (Rect.unit ![0, 2560] ![1024, 256] inb_S1024x5632_S1024x256_0_2560)))
      (k0_pay20 (View.ld W (Rect.unit ![0, 5376] ![1024, 256] inb_S1024x5632_S1024x256_0_5376)))
      (View.ld D (Rect.unit ![2560, 0] ![256, 1024] inb_S2816x1024_S256x1024_2560_0)) gp (ix2 a b)
    = z (ix2 a b) + rms (fun j => ∑ i, act (fun j => X (ix2 a j)) (fun k j => W (ix2 k j)) i * D (ix2 i j)) (fun j => gp (ix2 0 j)) b := by
  subst hu
  rw [pay1_apply]
  congr 2
  funext j
  rw [pay18_apply, pay16_apply, pay14_apply, pay11_apply, sum_parts]
  rw [share_part W D _ a j 0 2816 (by omega) rfl, share_part W D _ a j 256 3072 (by omega) rfl, share_part W D _ a j 512 3328 (by omega) rfl,
    share_part W D _ a j 768 3584 (by omega) rfl, share_part W D _ a j 1024 3840 (by omega) rfl, share_part W D _ a j 1280 4096 (by omega) rfl,
    share_part W D _ a j 1536 4352 (by omega) rfl, share_part W D _ a j 1792 4608 (by omega) rfl, share_part W D _ a j 2048 4864 (by omega) rfl,
    share_part W D _ a j 2304 5120 (by omega) rfl, share_part W D _ a j 2560 5376 (by omega) rfl]

end Tail

end Cert.Xattn

end
-- ==== Proof.XattnRef.lean ====
/- The plain attention and feed-forward layer, entry by entry. -/
module

public import proofs.«01_k».proof.Proof.Gen.ReferenceIdeal.Run
public import proofs.«01_k».proof.Proof.XattnSpec
public import Idealize.ShloMosaic.Lib.Pipeline.ValueKit
public import Idealize.ShloMosaic.Lib.Pointwise

@[expose] public section

set_option maxRecDepth 16384

noncomputable section

namespace Cert.XattnRef

open Idealize.ShloMosaic Idealize.ShloMosaic.TcCoe Idealize.SL.Sem
open Cert.ReferenceIdeal Cert.ReferenceIdeal.Gen Cert.ReferenceIdeal.Value Cert.Xattn

variable (V0 : Valuation τ sig (Elt Ideal))

/-! The arguments as arrays of extended reals. -/

abbrev h1 : FVec Ideal S32768x1024 .f32 := V0 (Proc.devRef .tc main_arg0)
abbrev xq : FVec Ideal S32768x1024 .bf16 := V0 (Proc.devRef .tc main_arg1)
abbrev kv : FVec Ideal S4096x2048 .bf16 := V0 (Proc.devRef .tc main_arg2)
abbrev wo : FVec Ideal S1024x1024 .f32 := V0 (Proc.devRef .tc main_arg3)
abbrev gx : FVec Ideal S1024 .f32 := V0 (Proc.devRef .tc main_arg4)
abbrev gf : FVec Ideal S1024 .f32 := V0 (Proc.devRef .tc main_arg5)
abbrev wgu : FVec Ideal S1024x5632 .f32 := V0 (Proc.devRef .tc main_arg6)
abbrev wd : FVec Ideal S2816x1024 .f32 := V0 (Proc.devRef .tc main_arg7)
abbrev gp : FVec Ideal S1024 .f32 := V0 (Proc.devRef .tc main_arg8)

/-! The reference's intermediate arrays. -/

abbrev sc : FVec Ideal S16x4x2048x256 .f32 := res_main_v7 V0
abbrev ex : FVec Ideal S16x4x2048x256 .f32 := res_main_v14 V0
abbrev pr : FVec Ideal S32768x1024 .f32 := res_main_v22 V0
abbrev h2 : FVec Ideal S32768x1024 .f32 := res_main_v36 V0
abbrev gu : FVec Ideal S32768x5632 .f32 := res_main_v50 V0
abbrev dn : FVec Ideal S32768x1024 .f32 := res_main_v55 V0

theorem scores (b : Fin 16) (h : Fin 4) (s : Fin 2048) (i : Fin 256) : sc V0 (ix4 b h s i)
    = ∑ d : Fin 256, xq V0 (ix2 ⟨b.val * 2048 + s.val, by omega⟩ ⟨h.val * 256 + d.val, by omega⟩)
      * kv V0 (ix2 ⟨b.val * 256 + i.val, by omega⟩ ⟨h.val * 256 + d.val, by omega⟩) := by
  unfold sc
  pointwise [res_main_v7, res_main_v2]

/-- The maximum along the last axis, as a fold over that axis. -/
theorem maxrow (z : FVec Ideal S16x4x2048x256 .f32) (b : Fin 16) (h : Fin 4) (s : Fin 2048) :
    Host.reduce (FloatOps.maximumf (F := Ideal) (φ := .f32)) z (constant S_ .f32 0xFF800000#32) reducesTo_S16x4x2048x256_S16x4x2048_d3 h_S_ (ix3 b h s)
      = (Finset.univ : Finset (Fin 256)).fold max (Ideal.ofBits FTy.f32 0xFF800000#32) fun x => z (ix4 b h s x) := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  rw [Host.reduce_eq_fold_single _ z _ _ (by decide : S16x4x2048x256.Reduces [3] S16x4x2048)]
  refine Finset.fold_congr fun x _ => congrArg z ?_
  funext a
  fin_cases a <;> rfl

/-- Subtracting a row's value, held from below by minus infinity, and taking the exponential. -/
theorem expsub (z : FVec Ideal S16x4x2048x256 .f32) (w : FVec Ideal S16x4x2048 .f32) (b : Fin 16) (h : Fin 4) (s : Fin 2048) (i : Fin 256) :
    Host.exp (subf z (broadcastInDim S16x4x2048x256 ![0, 1, 2, 3] bcast_S16x4x2048x1_S16x4x2048x256_0_1_2_3 (broadcastInDim S16x4x2048x1 ![0, 1, 2] bcast_S16x4x2048_S16x4x2048x1_0_1_2
        (maximumf (broadcastInDim S16x4x2048 ![] bcast_S_S16x4x2048 (constant S_ .f32 0xFF800000#32)) w)))) (ix4 b h s i)
      = Ideal.exp (z (ix4 b h s i) - max (Ideal.ofBits FTy.f32 0xFF800000#32) (w (ix3 b h s))) := by
  pointwise []

theorem weights (b : Fin 16) (h : Fin 4) (s : Fin 2048) (i : Fin 256) : ex V0 (ix4 b h s i)
    = Ideal.exp (sc V0 (ix4 b h s i) - (Finset.univ : Finset (Fin 256)).fold max (Ideal.ofBits FTy.f32 0xFF800000#32) fun x => sc V0 (ix4 b h s x)) := by
  refine (expsub (sc V0) _ b h s i).trans ?_
  rw [maxrow, max_eq_right ((Finset.le_fold_max _).2 (Or.inl le_rfl))]

theorem proj (r : Fin 32768) (j : Fin 1024) : pr V0 (ix2 r j)
    = ∑ x : Fin 1024, (∑ i : Fin 256, Ideal.div (ex V0 (ix4 ⟨r.val / 2048, by omega⟩ ⟨x.val / 256, by omega⟩ ⟨r.val % 2048, by omega⟩ i))
          (∑ k, ex V0 (ix4 ⟨r.val / 2048, by omega⟩ ⟨x.val / 256, by omega⟩ ⟨r.val % 2048, by omega⟩ k))
        * kv V0 (ix2 ⟨r.val / 2048 * 256 + i.val, by omega⟩ ⟨1024 + x.val, by omega⟩)) * wo V0 (ix2 x j) := by
  simp only [mul_comm (Ideal.div _ _)]
  unfold pr ex res_main_v22
  generalize res_main_v14 V0 = z
  pointwise [res_main_v2]

theorem h2_apply (r : Fin 32768) (j : Fin 1024) : h2 V0 (ix2 r j)
    = h1 V0 (ix2 r j) + rms (fun j => pr V0 (ix2 r j)) (fun j => gx V0 (ix1 j)) j := by
  unfold h2 pr res_main_v36
  generalize res_main_v22 V0 = z
  pointwise [rms]

theorem gu_apply (r : Fin 32768) (j : Fin 5632) : gu V0 (ix2 r j)
    = ∑ k, rms (fun j => h2 V0 (ix2 r j)) (fun j => gf V0 (ix1 j)) k * wgu V0 (ix2 k j) := by
  unfold gu h2 res_main_v50
  generalize res_main_v36 V0 = z
  pointwise [rms]

theorem dn_apply (r : Fin 32768) (j : Fin 1024) : dn V0 (ix2 r j)
    = ∑ i : Fin 2816, (gu V0 (ix2 r ⟨i.val, by omega⟩) * Ideal.logistic (gu V0 (ix2 r ⟨i.val, by omega⟩)) * gu V0 (ix2 r ⟨2816 + i.val, by omega⟩))
        * wd V0 (ix2 i j) := by
  unfold dn gu res_main_v55 res_main_v51
  generalize res_main_v50 V0 = z
  pointwise [Ideal.logistic]

/-- One row of the attention, read from the queries' row and the memory's rows of the same sequence. -/
def heads (r : Fin 32768) (x : Fin 1024) : EReal :=
  attn (fun d => xq V0 (ix2 r ⟨x.val / 256 * 256 + d.val, by omega⟩))
    (fun i d => kv V0 (ix2 ⟨r.val / 2048 * 256 + i.val, by omega⟩ ⟨x.val / 256 * 256 + d.val, by omega⟩))
    (fun i => kv V0 (ix2 ⟨r.val / 2048 * 256 + i.val, by omega⟩ ⟨1024 + x.val, by omega⟩))

theorem pr_apply (r : Fin 32768) (j : Fin 1024) : pr V0 (ix2 r j) = ∑ x : Fin 1024, heads V0 r x * wo V0 (ix2 x j) := by
  have hr : ∀ p, (⟨r.val / 2048 * 2048 + r.val % 2048, p⟩ : Fin 32768) = r := fun p => Fin.ext (by show r.val / 2048 * 2048 + r.val % 2048 = r.val; omega)
  rw [proj]
  simp only [weights, scores, hr]
  rfl

/-- The result's entry, as the layer of its row. -/
theorem out_apply (r : Fin 32768) (j : Fin 1024) :
    addf (h2 V0) (mulf (mulf (dn V0) (broadcastInDim S32768x1024 ![0, 1] bcast_S32768x1_S32768x1024_0_1 (Host.rsqrt (addf (Host.divf (broadcastInDim S32768x1 ![0] bcast_S32768_S32768x1_0 (Host.reduceAdd (mulf (dn V0) (dn V0)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (gp V0)))) (ix2 r j)
    = out (mid (fun j => h1 V0 (ix2 r j)) (heads V0 r) (fun k j => wo V0 (ix2 k j)) (fun j => gx V0 (ix1 j))) (fun j => gf V0 (ix1 j))
        (fun k j => wgu V0 (ix2 k j)) (fun i j => wd V0 (ix2 i j)) (fun j => gp V0 (ix1 j)) j := by
  have hmid : (fun j => h2 V0 (ix2 r j)) = mid (fun j => h1 V0 (ix2 r j)) (heads V0 r) (fun k j => wo V0 (ix2 k j)) (fun j => gx V0 (ix1 j)) := by
    funext j
    rw [h2_apply]
    simp only [pr_apply]
    rfl
  have hdn : (fun j => dn V0 (ix2 r j)) = fun j => ∑ i, act (rms (mid (fun j => h1 V0 (ix2 r j)) (heads V0 r) (fun k j => wo V0 (ix2 k j)) (fun j => gx V0 (ix1 j)))
      (fun j => gf V0 (ix1 j))) (fun k j => wgu V0 (ix2 k j)) i * wd V0 (ix2 i j) := by
    funext j
    rw [dn_apply]
    simp only [gu_apply, hmid]
    rfl
  rw [out, ← hdn, ← hmid]
  generalize h2 V0 = z
  generalize dn V0 = w
  pointwise [rms]

end Cert.XattnRef

end
-- ==== Proof.Xattn.lean ====
/- The attention and feed-forward layer: what the kernel leaves in its result array. -/
module

public import proofs.«01_k».proof.Proof.XattnKernel
public import proofs.«01_k».proof.Proof.XattnRef

@[expose] public section

set_option maxRecDepth 16384

noncomputable section

namespace Cert.Xattn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Which block each window holds at a grid point. -/
theorem idx : ∀ t : Fin cfg0.N, win0_0.index t = ![t.val, 0] ∧ win0_1.index t = ![t.val, 0] ∧ win0_2.index t = ![t.val / 8, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

section Reads
variable (c : Dev nD) (t : Fin cfg0.N) (a : Fin 256) (ht : t.val < 128)

theorem r0 (j : Fin 1024) : iblk m c 0 t (ix2 a j) = m ((c : Thread nD τ).loc main_arg0) (ix2 (⟨t.val * 256 + a.val, by omega⟩ : Fin 32768) j) := by
  blk_point [iblk, V, idx t]
theorem r1 (j : Fin 1024) : iblk m c 1 t (ix2 a j) = m ((c : Thread nD τ).loc main_arg1) (ix2 (⟨t.val * 256 + a.val, by omega⟩ : Fin 32768) j) := by
  blk_point [iblk, V, idx t]
theorem r2 (j : Fin 2048) : iblk m c 2 t (ix2 a j) = m ((c : Thread nD τ).loc main_arg2) (ix2 (⟨t.val / 8 * 256 + a.val, by omega⟩ : Fin 4096) j) := by
  blk_point [iblk, V, idx t]
theorem r3 (k j : Fin 1024) : iblk m c 3 t (ix2 k j) = m ((c : Thread nD τ).loc main_arg3) (ix2 k j) := by
  blk_point [iblk, V, idx t]
theorem r4 (j : Fin 1024) : iblk m c 4 t (ix2 (0 : Fin 1) j) = m ((c : Thread nD τ).loc main_arg4) (ix1 j) := by
  blk_point [iblk, V, idx t]
theorem r5 (j : Fin 1024) : iblk m c 5 t (ix2 (0 : Fin 1) j) = m ((c : Thread nD τ).loc main_arg5) (ix1 j) := by
  blk_point [iblk, V, idx t]
theorem r6 (k : Fin 1024) (j : Fin 5632) : iblk m c 6 t (ix2 k j) = m ((c : Thread nD τ).loc main_arg6) (ix2 k j) := by
  blk_point [iblk, V, idx t]
theorem r7 (k : Fin 2816) (j : Fin 1024) : iblk m c 7 t (ix2 k j) = m ((c : Thread nD τ).loc main_arg7) (ix2 k j) := by
  blk_point [iblk, V, idx t]
theorem r8 (j : Fin 1024) : iblk m c 8 t (ix2 (0 : Fin 1) j) = m ((c : Thread nD τ).loc main_arg8) (ix1 j) := by
  blk_point [iblk, V, idx t]
theorem r9 (j : Fin 1024) : ((cfg0.win 9).blk t).view.emb (ix2 a j) = (ix2 (⟨t.val * 256 + a.val, by omega⟩ : Fin 32768) j) := by
  blk_point [iblk, V, idx t]

end Reads

/-- The reference's result from its argument arrays. -/
abbrev REF (V0 : Valuation Cert.ReferenceIdeal.τ Cert.ReferenceIdeal.sig (Elt Ideal)) : FVec Ideal Cert.ReferenceIdeal.S32768x1024 .f32 :=
  addf (XattnRef.h2 V0) (mulf (mulf (XattnRef.dn V0) (broadcastInDim Cert.ReferenceIdeal.S32768x1024 ![0, 1] Cert.ReferenceIdeal.Gen.bcast_S32768x1_S32768x1024_0_1 (Host.rsqrt (addf (Host.divf (broadcastInDim Cert.ReferenceIdeal.S32768x1 ![0] Cert.ReferenceIdeal.Gen.bcast_S32768_S32768x1_0 (Host.reduceAdd (mulf (XattnRef.dn V0) (XattnRef.dn V0)) (constant Cert.ReferenceIdeal.S_ .f32 0x00000000#32) Cert.ReferenceIdeal.Gen.reducesTo_S32768x1024_S32768_d1 Cert.ReferenceIdeal.Gen.h_S_)) (broadcastInDim Cert.ReferenceIdeal.S32768x1 ![] Cert.ReferenceIdeal.Gen.bcast_S_S32768x1 (constant Cert.ReferenceIdeal.S_ .f32 0x44800000#32))) (broadcastInDim Cert.ReferenceIdeal.S32768x1 ![] Cert.ReferenceIdeal.Gen.bcast_S_S32768x1 (constant Cert.ReferenceIdeal.S_ .f32 0x358637BD#32)))))) (broadcastInDim Cert.ReferenceIdeal.S32768x1024 ![0, 1] Cert.ReferenceIdeal.Gen.bcast_S1x1024_S32768x1024_0_1 (broadcastInDim Cert.ReferenceIdeal.S1x1024 ![1] Cert.ReferenceIdeal.Gen.bcast_S1024_S1x1024_1 (XattnRef.gp V0))))

/-- After the run the result array holds the reference's result of the same arguments. -/
theorem final (V0 : Valuation Cert.ReferenceIdeal.τ Cert.ReferenceIdeal.sig (Elt Ideal)) (c : Dev nD)
    (e0 : m ((c : Thread nD τ).loc main_arg0) = XattnRef.h1 V0) (e1 : m ((c : Thread nD τ).loc main_arg1) = XattnRef.xq V0)
    (e2 : m ((c : Thread nD τ).loc main_arg2) = XattnRef.kv V0) (e3 : m ((c : Thread nD τ).loc main_arg3) = XattnRef.wo V0)
    (e4 : m ((c : Thread nD τ).loc main_arg4) = XattnRef.gx V0) (e5 : m ((c : Thread nD τ).loc main_arg5) = XattnRef.gf V0)
    (e6 : m ((c : Thread nD τ).loc main_arg6) = XattnRef.wgu V0) (e7 : m ((c : Thread nD τ).loc main_arg7) = XattnRef.wd V0)
    (e8 : m ((c : Thread nD τ).loc main_arg8) = XattnRef.gp V0) :
    (dats m 0 c).arrAt 9 (cfgs 0).N = REF V0 := by
  refine (dats m 0 c).arrAt_eq_of_covers 9 _ (by decide +kernel) fun t _ y => ?_
  blk_simp
  rw [after0_9]
  unfold outsAt0
  frame_open
  frame_out
  have ht : t.val < 128 := t.isLt
  obtain ⟨a, b, rfl⟩ : ∃ (a : Fin 256) (b : Fin 1024), y = ix2 a b := ⟨y 0, y 1, by funext i; fin_cases i <;> rfl⟩
  rw [scratch_eq]
  refine Eq.trans ?_ (congrArg (REF V0) (r9 t a ht b).symm)
  refine Eq.trans ?_ (XattnRef.out_apply V0 _ b).symm
  refine (tail_apply _ _ _ _ _ _ a b rfl).trans ?_
  have hh : (fun j => heads (iblk m c 1 t) (iblk m c 2 t) (ix2 a j)) = XattnRef.heads V0 ⟨t.val * 256 + a.val, by omega⟩ := by
    funext j
    have hd : (t.val * 256 + a.val) / 2048 = t.val / 8 := by omega
    refine (heads_at _ _ a j _ rfl (by omega) _ rfl).trans ?_
    simp only [r1 m c t a ht, r2 m c t _ ht, e1, e2, XattnRef.heads, hd]
  have hm : (fun j => k0_pay8 (heads (iblk m c 1 t) (iblk m c 2 t)) (iblk m c 3 t) (iblk m c 0 t) (iblk m c 4 t) (ix2 a j))
      = mid (fun j => XattnRef.h1 V0 (ix2 ⟨t.val * 256 + a.val, by omega⟩ j)) (XattnRef.heads V0 ⟨t.val * 256 + a.val, by omega⟩)
          (fun k j => XattnRef.wo V0 (ix2 k j)) (fun j => XattnRef.gx V0 (ix1 j)) := by
    funext j
    rw [pay8_apply, hh]
    simp only [r0 m c t a ht, r3, r4, e0, e3, e4]
  rw [out]
  refine congrArg₂ (· + ·) (congrFun hm b) ?_
  refine congrArg₂ (rms · · b) ?_ ?_
  · funext j
    refine Finset.sum_congr rfl fun i _ => ?_
    rw [r7, e7]
    refine congrArg₂ (act · · i * _) ?_ ?_
    · funext k
      rw [pay9_apply, hm]
      simp only [r5, e5]
    · funext k i
      rw [r6, e6]
  · funext j
    rw [r8, e8]

end Cert.Xattn

end
-- ==== Proof.XattnClaim.lean ====
/- The claim about the attention and feed-forward layer: kernel and reference end with the same array. -/
module

public import proofs.«01_k».proof.Defs
public import proofs.«01_k».proof.Proof.Xattn
public import Idealize.ShloMosaic.Lib.Claim

@[expose] public section

noncomputable section

namespace Cert.Xattn

open Idealize.ShloMosaic Idealize.SL.Sem

/-- The reference runs to its end and leaves its arguments alone; it declares no semaphore. -/
theorem frame_r : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run m ρ)

/-- Kernel and reference, run from the same arguments, end with the same results. -/
theorem algebraic : Cert.algebraic_KernelIdeal_ReferenceIdeal := by
  pair_intro
  · run_from Cert.KernelIdeal.Value.run_blocks m g
  · run_from Cert.ReferenceIdeal.Value.run m' g'
    obtain ⟨e0, e1, e2, e3, e4, e5, e6, e7, e8⟩ := hagree c
    rw [← e8]
    exact (final m (StableHlo.launchContents m' c) c e0.symm e1.symm e2.symm e3.symm e4.symm e5.symm e6.symm e7.symm e8.symm).symm

end Cert.Xattn

end
-- ==== Proof.SwaSpec.lean ====
/- Sliding-window attention of one query row over a window of 256 keys, as functions of extended reals. -/
module

public import Idealize.ShloMosaic.PureOps.Ideal.Laws
public import Mathlib.Algebra.BigOperators.Fin

@[expose] public section

noncomputable section

namespace Cert.Swa

open Idealize.ShloMosaic

/-- The largest of a row of scores and of the sink. -/
def top (s : Fin 256 → EReal) (k : EReal) : EReal :=
  max ((Finset.univ : Finset (Fin 256)).fold max (Ideal.ofBits FTy.f32 0xFF800000#32) s) k

/-- The weight of key `x` before it is divided by the sum of the weights. -/
def wt (s : Fin 256 → EReal) (k : EReal) (x : Fin 256) : EReal := Ideal.exp (s x - top s k)

/-- The sum of the weights, the sink's with them. -/
def den (s : Fin 256 → EReal) (k : EReal) : EReal := ∑ x, wt s k x + Ideal.exp (k - top s k)

/-- A head of 64 lanes rotated by the angles `θ`, lane `d` paired with lane `d ± 32`. -/
def rot (x : Fin 64 → EReal) (θ : Fin 32 → EReal) (d : Fin 64) : EReal :=
  if h : d.val < 32 then x d * Ideal.cos (θ ⟨d.val, h⟩) - x ⟨d.val + 32, by omega⟩ * Ideal.sin (θ ⟨d.val, h⟩)
  else x d * Ideal.cos (θ ⟨d.val - 32, by omega⟩) + x ⟨d.val - 32, by omega⟩ * Ideal.sin (θ ⟨d.val - 32, by omega⟩)

/-- Whether query `a` of block `n` sees key `x` of its window of two blocks. -/
def seen (n : BitVec 32) (a : Fin 128) (x : Fin 256) : BitVec 1 :=
  IntOp.andi (IntOp.andi (IntOp.cmpi .sge (IntOp.subi (IntOp.addi 128#32 (BitVec.ofNat 32 a.val)) (BitVec.ofNat 32 x.val)) 0#32)
      (IntOp.cmpi .slt (IntOp.subi (IntOp.addi 128#32 (BitVec.ofNat 32 a.val)) (BitVec.ofNat 32 x.val)) 128#32))
    (IntOp.ori (IntOp.cmpi .sgt n 0#32) (IntOp.cmpi .sge (BitVec.ofNat 32 x.val) 128#32))

end Cert.Swa

end
-- ==== Proof.SwaWeights.lean ====
/- The sliding-window kernel's payloads, read at an index. -/
module

public import proofs.«01_k».proof.Proof.Gen.Kernel3Ideal.Value
public import proofs.«01_k».proof.Proof.SwaSpec
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Swa

open Idealize.ShloMosaic Idealize.ShloMosaic.TcCoe Idealize.SL.Sem
open Idealize.ShloMosaic.Pipeline (Dat)
open Cert.Kernel3Ideal Cert.Kernel3Ideal.Gen

variable (b : FVec Ideal S128x256 .f32) (a : Fin 128)

/-- Row `r` of a stack of scores with row `a` of the mask added. -/
abbrev row (S : FVec Ideal S512x256 .f32) (b : FVec Ideal S128x256 .f32) (r : Fin 512) (a : Fin 128) : Fin 256 → EReal :=
  fun x => S (ix2 r x) + b (ix2 a x)

/-- The sink of a head. -/
abbrev sk (k : Vec Ideal S1x1 .f32) : EReal := k (ix2 (0 : Fin 1) (0 : Fin 1))

/-- The reciprocal the kernel multiplies by. -/
abbrev inv (s : Fin 256 → EReal) (k : EReal) : EReal := Ideal.div 1 (den s k)

theorem w41 (v24 : IVec S128x128 1) (c s : FVec Ideal S128x128 .f32) (r0 r1 r2 : FVec Ideal S128x128 .bf16) (q3 : Vec Ideal S128x128 .bf16) (K : Vec Ideal S1x256x128 .bf16) (k : Vec Ideal S1x1 .f32) (x : Fin 256) : (k0_pay41 v24 c s b r0 r1 r2 q3 K k) (ix2 a x) = wt (row (k0_pay35 v24 c s r0 r1 r2 q3 K) b (⟨a.val, by omega⟩ : Fin 512) a) (sk k) x := by
  unfold k0_pay41 k0_pay39 k0_pay38 k0_pay37
  generalize k0_pay35 v24 c s r0 r1 r2 q3 K = z
  pointwise [k0_pay36, wt, top, row, sk]

theorem d40 (v24 : IVec S128x128 1) (c s : FVec Ideal S128x128 .f32) (r0 r1 r2 : FVec Ideal S128x128 .bf16) (q3 : Vec Ideal S128x128 .bf16) (K : Vec Ideal S1x256x128 .bf16) (k : Vec Ideal S1x1 .f32) : (k0_pay40 v24 c s b r0 r1 r2 q3 K k) (ix2 a (0 : Fin 1)) = inv (row (k0_pay35 v24 c s r0 r1 r2 q3 K) b (⟨a.val, by omega⟩ : Fin 512) a) (sk k) := by
  unfold k0_pay40 k0_pay39 k0_pay38 k0_pay37
  generalize k0_pay35 v24 c s r0 r1 r2 q3 K = z
  pointwise [k0_pay36, wt, top, den, row, sk, inv]

theorem w47 (v24 : IVec S128x128 1) (c s : FVec Ideal S128x128 .f32) (r0 r1 r2 : FVec Ideal S128x128 .bf16) (q3 : Vec Ideal S128x128 .bf16) (K : Vec Ideal S1x256x128 .bf16) (k : Vec Ideal S1x1 .f32) (x : Fin 256) : (k0_pay47 (k0_pay45 v24 c s b r0 r1 r2 q3 K k)) (ix2 a x) = wt (row (k0_pay35 v24 c s r0 r1 r2 q3 K) b (⟨128 + a.val, by omega⟩ : Fin 512) a) (sk k) x := by
  unfold k0_pay45 k0_pay44 k0_pay43
  generalize k0_pay35 v24 c s r0 r1 r2 q3 K = z
  pointwise [k0_pay47, k0_pay42, wt, top, row, sk]

theorem d46 (v24 : IVec S128x128 1) (c s : FVec Ideal S128x128 .f32) (r0 r1 r2 : FVec Ideal S128x128 .bf16) (q3 : Vec Ideal S128x128 .bf16) (K : Vec Ideal S1x256x128 .bf16) (k : Vec Ideal S1x1 .f32) : (k0_pay46 (k0_pay42 k) (k0_pay44 v24 c s b r0 r1 r2 q3 K k) (k0_pay45 v24 c s b r0 r1 r2 q3 K k)) (ix2 a (0 : Fin 1)) = inv (row (k0_pay35 v24 c s r0 r1 r2 q3 K) b (⟨128 + a.val, by omega⟩ : Fin 512) a) (sk k) := by
  unfold k0_pay45 k0_pay44 k0_pay43
  generalize k0_pay35 v24 c s r0 r1 r2 q3 K = z
  pointwise [k0_pay46, k0_pay42, wt, top, den, row, sk, inv]

theorem w53 (S : FVec Ideal S512x256 .f32) (k : Vec Ideal S1x1 .f32) (x : Fin 256) : (k0_pay53 b S k) (ix2 a x) = wt (row (S) b (⟨256 + a.val, by omega⟩ : Fin 512) a) (sk k) x := by
  pointwise [k0_pay53, k0_pay51, k0_pay50, k0_pay49, k0_pay48, wt, top, row, sk]

theorem d52 (S : FVec Ideal S512x256 .f32) (k : Vec Ideal S1x1 .f32) : (k0_pay52 b S k) (ix2 a (0 : Fin 1)) = inv (row (S) b (⟨256 + a.val, by omega⟩ : Fin 512) a) (sk k) := by
  pointwise [k0_pay52, k0_pay51, k0_pay50, k0_pay49, k0_pay48, wt, top, den, row, sk, inv]

theorem w57 (S : FVec Ideal S512x256 .f32) (k : Vec Ideal S1x1 .f32) (x : Fin 256) : (k0_pay57 b S k) (ix2 a x) = wt (row (S) b (⟨384 + a.val, by omega⟩ : Fin 512) a) (sk k) x := by
  pointwise [k0_pay57, k0_pay56, k0_pay55, k0_pay54, wt, top, row, sk]

theorem d58 (S : FVec Ideal S512x256 .f32) (k : Vec Ideal S1x1 .f32) : (k0_pay58 b S k) (ix2 a (0 : Fin 1)) = inv (row (S) b (⟨384 + a.val, by omega⟩ : Fin 512) a) (sk k) := by
  pointwise [k0_pay58, k0_pay57, k0_pay56, k0_pay55, k0_pay54, wt, top, den, row, sk, inv]

theorem w66 (Q : FVec Ideal S512x128 .bf16) (K : Vec Ideal S1x256x128 .bf16) (k : Vec Ideal S1x1 .f32) (x : Fin 256) : (k0_pay66 b Q K k) (ix2 a x) = wt (row (k0_pay60 Q K) b (⟨a.val, by omega⟩ : Fin 512) a) (sk k) x := by
  unfold k0_pay66 k0_pay64 k0_pay63 k0_pay62
  generalize k0_pay60 Q K = z
  pointwise [k0_pay61, wt, top, row, sk]

theorem d65 (Q : FVec Ideal S512x128 .bf16) (K : Vec Ideal S1x256x128 .bf16) (k : Vec Ideal S1x1 .f32) : (k0_pay65 b Q K k) (ix2 a (0 : Fin 1)) = inv (row (k0_pay60 Q K) b (⟨a.val, by omega⟩ : Fin 512) a) (sk k) := by
  unfold k0_pay65 k0_pay64 k0_pay63 k0_pay62
  generalize k0_pay60 Q K = z
  pointwise [k0_pay61, wt, top, den, row, sk, inv]

theorem w70 (Q : FVec Ideal S512x128 .bf16) (K : Vec Ideal S1x256x128 .bf16) (k : Vec Ideal S1x1 .f32) (x : Fin 256) : (k0_pay70 b Q K k) (ix2 a x) = wt (row (k0_pay60 Q K) b (⟨128 + a.val, by omega⟩ : Fin 512) a) (sk k) x := by
  unfold k0_pay70 k0_pay69 k0_pay68
  generalize k0_pay60 Q K = z
  pointwise [k0_pay67, wt, top, row, sk]

theorem d73 (Q : FVec Ideal S512x128 .bf16) (K : Vec Ideal S1x256x128 .bf16) (k : Vec Ideal S1x1 .f32) : (k0_pay73 (k0_pay71 b Q K k) (k0_pay72 b Q K k)) (ix2 a (0 : Fin 1)) = inv (row (k0_pay60 Q K) b (⟨128 + a.val, by omega⟩ : Fin 512) a) (sk k) := by
  unfold k0_pay71 k0_pay72 k0_pay70 k0_pay69 k0_pay68
  generalize k0_pay60 Q K = z
  pointwise [k0_pay73, k0_pay67, wt, top, den, row, sk, inv]

theorem w77 (S : FVec Ideal S512x256 .f32) (k : Vec Ideal S1x1 .f32) (x : Fin 256) : (k0_pay77 b S k) (ix2 a x) = wt (row (S) b (⟨256 + a.val, by omega⟩ : Fin 512) a) (sk k) x := by
  pointwise [k0_pay77, k0_pay76, k0_pay75, k0_pay74, wt, top, row, sk]

theorem d78 (S : FVec Ideal S512x256 .f32) (k : Vec Ideal S1x1 .f32) : (k0_pay78 b S k) (ix2 a (0 : Fin 1)) = inv (row (S) b (⟨256 + a.val, by omega⟩ : Fin 512) a) (sk k) := by
  pointwise [k0_pay78, k0_pay77, k0_pay76, k0_pay75, k0_pay74, wt, top, den, row, sk, inv]

theorem w82 (S : FVec Ideal S512x256 .f32) (k : Vec Ideal S1x1 .f32) (x : Fin 256) : (k0_pay82 b S k) (ix2 a x) = wt (row (S) b (⟨384 + a.val, by omega⟩ : Fin 512) a) (sk k) x := by
  pointwise [k0_pay82, k0_pay81, k0_pay80, k0_pay79, wt, top, row, sk]

theorem d83 (S : FVec Ideal S512x256 .f32) (k : Vec Ideal S1x1 .f32) : (k0_pay83 b S k) (ix2 a (0 : Fin 1)) = inv (row (S) b (⟨384 + a.val, by omega⟩ : Fin 512) a) (sk k) := by
  pointwise [k0_pay83, k0_pay82, k0_pay81, k0_pay80, k0_pay79, wt, top, den, row, sk, inv]

theorem w99 (v24 : IVec S128x128 1) (c s : FVec Ideal S128x128 .f32) (u0 u1 : FVec Ideal S128x128 .f32) (n : BitVec 32) (q1 q2 q3 : Vec Ideal S128x128 .bf16) (K : Vec Ideal S1x256x128 .bf16) (k : Vec Ideal S1x1 .f32) (x : Fin 256) : (k0_pay99 (k0_pay94 k) (k0_pay95 v24 c s b u0 u1 n q1 q2 q3 K)) (ix2 a x) = wt (row (k0_pay93 v24 c s u0 u1 n q1 q2 q3 K) b (⟨a.val, by omega⟩ : Fin 512) a) (sk k) x := by
  unfold k0_pay95
  generalize k0_pay93 v24 c s u0 u1 n q1 q2 q3 K = z
  pointwise [k0_pay99, k0_pay97, k0_pay96, k0_pay94, wt, top, row, sk]

theorem d98 (v24 : IVec S128x128 1) (c s : FVec Ideal S128x128 .f32) (u0 u1 : FVec Ideal S128x128 .f32) (n : BitVec 32) (q1 q2 q3 : Vec Ideal S128x128 .bf16) (K : Vec Ideal S1x256x128 .bf16) (k : Vec Ideal S1x1 .f32) : (k0_pay98 (k0_pay94 k) (k0_pay95 v24 c s b u0 u1 n q1 q2 q3 K)) (ix2 a (0 : Fin 1)) = inv (row (k0_pay93 v24 c s u0 u1 n q1 q2 q3 K) b (⟨a.val, by omega⟩ : Fin 512) a) (sk k) := by
  unfold k0_pay95
  generalize k0_pay93 v24 c s u0 u1 n q1 q2 q3 K = z
  pointwise [k0_pay98, k0_pay97, k0_pay96, k0_pay94, wt, top, den, row, sk, inv]

theorem w105 (S : FVec Ideal S512x256 .f32) (k : Vec Ideal S1x1 .f32) (x : Fin 256) : (k0_pay105 b S k) (ix2 a x) = wt (row (S) b (⟨128 + a.val, by omega⟩ : Fin 512) a) (sk k) x := by
  pointwise [k0_pay105, k0_pay103, k0_pay102, k0_pay101, k0_pay100, wt, top, row, sk]

theorem d104 (S : FVec Ideal S512x256 .f32) (k : Vec Ideal S1x1 .f32) : (k0_pay104 b S k) (ix2 a (0 : Fin 1)) = inv (row (S) b (⟨128 + a.val, by omega⟩ : Fin 512) a) (sk k) := by
  pointwise [k0_pay104, k0_pay103, k0_pay102, k0_pay101, k0_pay100, wt, top, den, row, sk, inv]

theorem w109 (S : FVec Ideal S512x256 .f32) (k : Vec Ideal S1x1 .f32) (x : Fin 256) : (k0_pay109 b S k) (ix2 a x) = wt (row (S) b (⟨256 + a.val, by omega⟩ : Fin 512) a) (sk k) x := by
  pointwise [k0_pay109, k0_pay108, k0_pay107, k0_pay106, wt, top, row, sk]

theorem d111 (S : FVec Ideal S512x256 .f32) (k : Vec Ideal S1x1 .f32) : (k0_pay111 (k0_pay106 k) (k0_pay108 b S k) (k0_pay110 b S k)) (ix2 a (0 : Fin 1)) = inv (row (S) b (⟨256 + a.val, by omega⟩ : Fin 512) a) (sk k) := by
  pointwise [k0_pay111, k0_pay110, k0_pay109, k0_pay108, k0_pay107, k0_pay106, wt, top, den, row, sk, inv]

theorem w115 (S : FVec Ideal S512x256 .f32) (k : Vec Ideal S1x1 .f32) (x : Fin 256) : (k0_pay115 b S k) (ix2 a x) = wt (row (S) b (⟨384 + a.val, by omega⟩ : Fin 512) a) (sk k) x := by
  pointwise [k0_pay115, k0_pay114, k0_pay113, k0_pay112, wt, top, row, sk]

theorem d116 (S : FVec Ideal S512x256 .f32) (k : Vec Ideal S1x1 .f32) : (k0_pay116 b S k) (ix2 a (0 : Fin 1)) = inv (row (S) b (⟨384 + a.val, by omega⟩ : Fin 512) a) (sk k) := by
  pointwise [k0_pay116, k0_pay115, k0_pay114, k0_pay113, k0_pay112, wt, top, den, row, sk, inv]

theorem w125 (Q : FVec Ideal S512x128 .bf16) (K : Vec Ideal S1x256x128 .bf16) (k : Vec Ideal S1x1 .f32) (x : Fin 256) : (k0_pay125 (k0_pay120 b Q K) (k0_pay122 b Q K k)) (ix2 a x) = wt (row (k0_pay118 Q K) b (⟨a.val, by omega⟩ : Fin 512) a) (sk k) x := by
  unfold k0_pay122 k0_pay121 k0_pay120
  generalize k0_pay118 Q K = z
  pointwise [k0_pay125, k0_pay123, k0_pay119, wt, top, row, sk]

theorem d124 (Q : FVec Ideal S512x128 .bf16) (K : Vec Ideal S1x256x128 .bf16) (k : Vec Ideal S1x1 .f32) : (k0_pay124 (k0_pay119 k) (k0_pay120 b Q K) (k0_pay121 b Q K k) (k0_pay122 b Q K k)) (ix2 a (0 : Fin 1)) = inv (row (k0_pay118 Q K) b (⟨a.val, by omega⟩ : Fin 512) a) (sk k) := by
  unfold k0_pay122 k0_pay121 k0_pay120
  generalize k0_pay118 Q K = z
  pointwise [k0_pay124, k0_pay123, k0_pay119, wt, top, den, row, sk, inv]

theorem w131 (S : FVec Ideal S512x256 .f32) (k : Vec Ideal S1x1 .f32) (x : Fin 256) : (k0_pay131 b S k) (ix2 a x) = wt (row (S) b (⟨128 + a.val, by omega⟩ : Fin 512) a) (sk k) x := by
  pointwise [k0_pay131, k0_pay129, k0_pay128, k0_pay127, k0_pay126, wt, top, row, sk]

theorem d130 (S : FVec Ideal S512x256 .f32) (k : Vec Ideal S1x1 .f32) : (k0_pay130 b S k) (ix2 a (0 : Fin 1)) = inv (row (S) b (⟨128 + a.val, by omega⟩ : Fin 512) a) (sk k) := by
  pointwise [k0_pay130, k0_pay129, k0_pay128, k0_pay127, k0_pay126, wt, top, den, row, sk, inv]

theorem w135 (S : FVec Ideal S512x256 .f32) (k : Vec Ideal S1x1 .f32) (x : Fin 256) : (k0_pay135 b S k) (ix2 a x) = wt (row (S) b (⟨256 + a.val, by omega⟩ : Fin 512) a) (sk k) x := by
  pointwise [k0_pay135, k0_pay134, k0_pay133, k0_pay132, wt, top, row, sk]

theorem d137 (S : FVec Ideal S512x256 .f32) (k : Vec Ideal S1x1 .f32) : (k0_pay137 (k0_pay136 b S k) (FloatOps.ofBits FTy.f32 1065353216#32)) (ix2 a (0 : Fin 1)) = inv (row (S) b (⟨256 + a.val, by omega⟩ : Fin 512) a) (sk k) := by
  pointwise [k0_pay137, k0_pay136, k0_pay135, k0_pay134, k0_pay133, k0_pay132, wt, top, den, row, sk, inv]

theorem w141 (S : FVec Ideal S512x256 .f32) (k : Vec Ideal S1x1 .f32) (x : Fin 256) : (k0_pay141 b S k) (ix2 a x) = wt (row (S) b (⟨384 + a.val, by omega⟩ : Fin 512) a) (sk k) x := by
  pointwise [k0_pay141, k0_pay140, k0_pay139, k0_pay138, wt, top, row, sk]

theorem d142 (S : FVec Ideal S512x256 .f32) (k : Vec Ideal S1x1 .f32) : (k0_pay142 b S k) (ix2 a (0 : Fin 1)) = inv (row (S) b (⟨384 + a.val, by omega⟩ : Fin 512) a) (sk k) := by
  pointwise [k0_pay142, k0_pay141, k0_pay140, k0_pay139, k0_pay138, wt, top, den, row, sk, inv]

end Cert.Swa

end
-- ==== Proof.SwaOut.lean ====
/- The sliding-window kernel's products with the values, and the columns it stores. -/
module

public import proofs.«01_k».proof.Proof.Gen.Kernel3Ideal.Value
public import proofs.«01_k».proof.Proof.SwaWeights
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Swa

open Idealize.ShloMosaic Idealize.ShloMosaic.TcCoe Idealize.SL.Sem
open Idealize.ShloMosaic.Pipeline (Dat)
open Cert.Kernel3Ideal Cert.Kernel3Ideal.Gen

variable (b : FVec Ideal S128x256 .f32) (a : Fin 128)

/-- Two heads side by side: the two weighted sums, times the reciprocal of the lane's own head. -/
def mix (z : BitVec 1) (s0 : Fin 256 → EReal) (k0 : EReal) (v0 : Fin 256 → EReal) (s1 : Fin 256 → EReal) (k1 : EReal) (v1 : Fin 256 → EReal) : EReal :=
  (∑ x, wt s0 k0 x * v0 x + ∑ x, wt s1 k1 x * v1 x) * Scalar.select z (inv s0 k0) (inv s1 k1)

theorem pv59_0 (w0 w1 w2 : FVec Ideal S128x256 .bf16) (w3 : FVec Ideal S128x256 .f32) (V : Vec Ideal S1x256x128 .bf16) (j : Fin 128) :
    k0_pay59 w0 w1 w2 w3 V (ix2 (⟨a.val, by omega⟩ : Fin 512) j) = ∑ x : Fin 256, w0 (ix2 a x) * V (ix3 (0 : Fin 1) x j) := by
  pointwise [k0_pay59]

theorem pv117_0 (S : FVec Ideal S512x256 .f32) (w0 w1 : FVec Ideal S128x256 .bf16) (w2 : FVec Ideal S128x256 .f32) (k : Vec Ideal S1x1 .f32) (V : Vec Ideal S1x256x128 .bf16) (j : Fin 128) :
    k0_pay117 b S w0 w1 w2 k V (ix2 (⟨a.val, by omega⟩ : Fin 512) j) = ∑ x : Fin 256, w0 (ix2 a x) * V (ix3 (0 : Fin 1) x j) := by
  unfold k0_pay117
  generalize k0_pay115 b S k = w3
  pointwise []

theorem pv84_0 (S : FVec Ideal S512x256 .f32) (w0 : FVec Ideal S128x256 .bf16) (w1 : FVec Ideal S128x256 .f32) (k k' : Vec Ideal S1x1 .f32) (x : Fin 256) :
    k0_pay84 b S w0 w1 k k' (ix2 (⟨a.val, by omega⟩ : Fin 512) x) = w0 (ix2 a x) := by
  unfold k0_pay84
  generalize k0_pay77 b S k = w2
  generalize k0_pay82 b S k' = w3
  pointwise []

theorem pv143_0 (O : FVec Ideal S512x128 .f32) (S : FVec Ideal S512x256 .f32) (w0 w1 : FVec Ideal S128x256 .bf16) (w2 : FVec Ideal S128x256 .f32) (k : Vec Ideal S1x1 .f32) (V : Vec Ideal S1x256x128 .bf16) (j : Fin 128) :
    k0_pay143 b O S w0 w1 w2 k V (ix2 (⟨a.val, by omega⟩ : Fin 512) j) = O (ix2 (⟨a.val, by omega⟩ : Fin 512) j) + ∑ x : Fin 256, w0 (ix2 a x) * V (ix3 (0 : Fin 1) x j) := by
  unfold k0_pay143
  generalize k0_pay141 b S k = w3
  pointwise []

theorem c86 (z : IVec S128x128 1) (i0 i1 : FVec Ideal S128x1 .f32) (O : FVec Ideal S512x128 .f32) (P : FVec Ideal S512x256 .bf16) (V : Vec Ideal S1x256x128 .bf16) (j : Fin 128) :
    k0_pay86 z i0 O i1 P V (ix2 a j) = (O (ix2 (⟨a.val, by omega⟩ : Fin 512) j) + ∑ x : Fin 256, P (ix2 (⟨a.val, by omega⟩ : Fin 512) x) * V (ix3 (0 : Fin 1) x j)) * Scalar.select (z (ix2 a j)) (i0 (ix2 a (0 : Fin 1))) (i1 (ix2 a (0 : Fin 1))) := by
  pointwise [k0_pay86, k0_pay85]

theorem pv59_128 (w0 w1 w2 : FVec Ideal S128x256 .bf16) (w3 : FVec Ideal S128x256 .f32) (V : Vec Ideal S1x256x128 .bf16) (j : Fin 128) :
    k0_pay59 w0 w1 w2 w3 V (ix2 (⟨128 + a.val, by omega⟩ : Fin 512) j) = ∑ x : Fin 256, w1 (ix2 a x) * V (ix3 (0 : Fin 1) x j) := by
  pointwise [k0_pay59]

theorem pv117_128 (S : FVec Ideal S512x256 .f32) (w0 w1 : FVec Ideal S128x256 .bf16) (w2 : FVec Ideal S128x256 .f32) (k : Vec Ideal S1x1 .f32) (V : Vec Ideal S1x256x128 .bf16) (j : Fin 128) :
    k0_pay117 b S w0 w1 w2 k V (ix2 (⟨128 + a.val, by omega⟩ : Fin 512) j) = ∑ x : Fin 256, w1 (ix2 a x) * V (ix3 (0 : Fin 1) x j) := by
  unfold k0_pay117
  generalize k0_pay115 b S k = w3
  pointwise []

theorem pv84_128 (S : FVec Ideal S512x256 .f32) (w0 : FVec Ideal S128x256 .bf16) (w1 : FVec Ideal S128x256 .f32) (k k' : Vec Ideal S1x1 .f32) (x : Fin 256) :
    k0_pay84 b S w0 w1 k k' (ix2 (⟨128 + a.val, by omega⟩ : Fin 512) x) = w1 (ix2 a x) := by
  unfold k0_pay84
  generalize k0_pay77 b S k = w2
  generalize k0_pay82 b S k' = w3
  pointwise []

theorem pv143_128 (O : FVec Ideal S512x128 .f32) (S : FVec Ideal S512x256 .f32) (w0 w1 : FVec Ideal S128x256 .bf16) (w2 : FVec Ideal S128x256 .f32) (k : Vec Ideal S1x1 .f32) (V : Vec Ideal S1x256x128 .bf16) (j : Fin 128) :
    k0_pay143 b O S w0 w1 w2 k V (ix2 (⟨128 + a.val, by omega⟩ : Fin 512) j) = O (ix2 (⟨128 + a.val, by omega⟩ : Fin 512) j) + ∑ x : Fin 256, w1 (ix2 a x) * V (ix3 (0 : Fin 1) x j) := by
  unfold k0_pay143
  generalize k0_pay141 b S k = w3
  pointwise []

theorem c87 (z : IVec S128x128 1) (i0 i1 : FVec Ideal S128x1 .f32) (O : FVec Ideal S512x128 .f32) (P : FVec Ideal S512x256 .bf16) (V : Vec Ideal S1x256x128 .bf16) (j : Fin 128) :
    k0_pay87 z i0 O i1 P V (ix2 a j) = (O (ix2 (⟨128 + a.val, by omega⟩ : Fin 512) j) + ∑ x : Fin 256, P (ix2 (⟨128 + a.val, by omega⟩ : Fin 512) x) * V (ix3 (0 : Fin 1) x j)) * Scalar.select (z (ix2 a j)) (i0 (ix2 a (0 : Fin 1))) (i1 (ix2 a (0 : Fin 1))) := by
  pointwise [k0_pay87, k0_pay85]

theorem pv59_256 (w0 w1 w2 : FVec Ideal S128x256 .bf16) (w3 : FVec Ideal S128x256 .f32) (V : Vec Ideal S1x256x128 .bf16) (j : Fin 128) :
    k0_pay59 w0 w1 w2 w3 V (ix2 (⟨256 + a.val, by omega⟩ : Fin 512) j) = ∑ x : Fin 256, w2 (ix2 a x) * V (ix3 (0 : Fin 1) x j) := by
  pointwise [k0_pay59]
  have h0 : ¬ 256 + a.val < 128 := by omega
  have h1 : ¬ 256 + a.val - 128 < 128 := by omega
  have ha : 256 + a.val - 128 - 128 = a.val := by omega
  simp only [dif_neg h0, dif_neg h1, dif_pos a.isLt, ha, Fin.eta]

theorem pv117_256 (S : FVec Ideal S512x256 .f32) (w0 w1 : FVec Ideal S128x256 .bf16) (w2 : FVec Ideal S128x256 .f32) (k : Vec Ideal S1x1 .f32) (V : Vec Ideal S1x256x128 .bf16) (j : Fin 128) :
    k0_pay117 b S w0 w1 w2 k V (ix2 (⟨256 + a.val, by omega⟩ : Fin 512) j) = ∑ x : Fin 256, w2 (ix2 a x) * V (ix3 (0 : Fin 1) x j) := by
  unfold k0_pay117
  generalize k0_pay115 b S k = w3
  pointwise []
  have h0 : ¬ 256 + a.val < 128 := by omega
  have h1 : ¬ 256 + a.val - 128 < 128 := by omega
  have ha : 256 + a.val - 128 - 128 = a.val := by omega
  simp only [dif_neg h0, dif_neg h1, dif_pos a.isLt, ha, Fin.eta]

theorem pv84_256 (S : FVec Ideal S512x256 .f32) (w0 : FVec Ideal S128x256 .bf16) (w1 : FVec Ideal S128x256 .f32) (k k' : Vec Ideal S1x1 .f32) (x : Fin 256) :
    k0_pay84 b S w0 w1 k k' (ix2 (⟨256 + a.val, by omega⟩ : Fin 512) x) = k0_pay77 b S k (ix2 a x) := by
  unfold k0_pay84
  generalize k0_pay77 b S k = w2
  generalize k0_pay82 b S k' = w3
  pointwise []
  have h0 : ¬ 256 + a.val < 128 := by omega
  have h1 : ¬ 256 + a.val - 128 < 128 := by omega
  have ha : 256 + a.val - 128 - 128 = a.val := by omega
  simp only [dif_neg h0, dif_neg h1, dif_pos a.isLt, ha, Fin.eta]

theorem pv143_256 (O : FVec Ideal S512x128 .f32) (S : FVec Ideal S512x256 .f32) (w0 w1 : FVec Ideal S128x256 .bf16) (w2 : FVec Ideal S128x256 .f32) (k : Vec Ideal S1x1 .f32) (V : Vec Ideal S1x256x128 .bf16) (j : Fin 128) :
    k0_pay143 b O S w0 w1 w2 k V (ix2 (⟨256 + a.val, by omega⟩ : Fin 512) j) = O (ix2 (⟨256 + a.val, by omega⟩ : Fin 512) j) + ∑ x : Fin 256, w2 (ix2 a x) * V (ix3 (0 : Fin 1) x j) := by
  unfold k0_pay143
  generalize k0_pay141 b S k = w3
  pointwise []
  have h0 : ¬ 256 + a.val < 128 := by omega
  have h1 : ¬ 256 + a.val - 128 < 128 := by omega
  have ha : 256 + a.val - 128 - 128 = a.val := by omega
  simp only [dif_neg h0, dif_neg h1, dif_pos a.isLt, ha, Fin.eta]

theorem c88 (z : IVec S128x128 1) (i0 i1 : FVec Ideal S128x1 .f32) (O : FVec Ideal S512x128 .f32) (P : FVec Ideal S512x256 .bf16) (V : Vec Ideal S1x256x128 .bf16) (j : Fin 128) :
    k0_pay88 z i0 O i1 P V (ix2 a j) = (O (ix2 (⟨256 + a.val, by omega⟩ : Fin 512) j) + ∑ x : Fin 256, P (ix2 (⟨256 + a.val, by omega⟩ : Fin 512) x) * V (ix3 (0 : Fin 1) x j)) * Scalar.select (z (ix2 a j)) (i0 (ix2 a (0 : Fin 1))) (i1 (ix2 a (0 : Fin 1))) := by
  pointwise [k0_pay88, k0_pay85]

theorem pv59_384 (w0 w1 w2 : FVec Ideal S128x256 .bf16) (w3 : FVec Ideal S128x256 .f32) (V : Vec Ideal S1x256x128 .bf16) (j : Fin 128) :
    k0_pay59 w0 w1 w2 w3 V (ix2 (⟨384 + a.val, by omega⟩ : Fin 512) j) = ∑ x : Fin 256, w3 (ix2 a x) * V (ix3 (0 : Fin 1) x j) := by
  pointwise [k0_pay59]
  have h0 : ¬ 384 + a.val < 128 := by omega
  have h1 : ¬ 384 + a.val - 128 < 128 := by omega
  have h2 : ¬ 384 + a.val - 128 - 128 < 128 := by omega
  have ha : 384 + a.val - 128 - 128 - 128 = a.val := by omega
  simp only [dif_neg h0, dif_neg h1, dif_neg h2, ha, Fin.eta]

theorem pv117_384 (S : FVec Ideal S512x256 .f32) (w0 w1 : FVec Ideal S128x256 .bf16) (w2 : FVec Ideal S128x256 .f32) (k : Vec Ideal S1x1 .f32) (V : Vec Ideal S1x256x128 .bf16) (j : Fin 128) :
    k0_pay117 b S w0 w1 w2 k V (ix2 (⟨384 + a.val, by omega⟩ : Fin 512) j) = ∑ x : Fin 256, k0_pay115 b S k (ix2 a x) * V (ix3 (0 : Fin 1) x j) := by
  unfold k0_pay117
  generalize k0_pay115 b S k = w3
  pointwise []
  have h0 : ¬ 384 + a.val < 128 := by omega
  have h1 : ¬ 384 + a.val - 128 < 128 := by omega
  have h2 : ¬ 384 + a.val - 128 - 128 < 128 := by omega
  have ha : 384 + a.val - 128 - 128 - 128 = a.val := by omega
  simp only [dif_neg h0, dif_neg h1, dif_neg h2, ha, Fin.eta]

theorem pv84_384 (S : FVec Ideal S512x256 .f32) (w0 : FVec Ideal S128x256 .bf16) (w1 : FVec Ideal S128x256 .f32) (k k' : Vec Ideal S1x1 .f32) (x : Fin 256) :
    k0_pay84 b S w0 w1 k k' (ix2 (⟨384 + a.val, by omega⟩ : Fin 512) x) = k0_pay82 b S k' (ix2 a x) := by
  unfold k0_pay84
  generalize k0_pay77 b S k = w2
  generalize k0_pay82 b S k' = w3
  pointwise []
  have h0 : ¬ 384 + a.val < 128 := by omega
  have h1 : ¬ 384 + a.val - 128 < 128 := by omega
  have h2 : ¬ 384 + a.val - 128 - 128 < 128 := by omega
  have ha : 384 + a.val - 128 - 128 - 128 = a.val := by omega
  simp only [dif_neg h0, dif_neg h1, dif_neg h2, ha, Fin.eta]

theorem pv143_384 (O : FVec Ideal S512x128 .f32) (S : FVec Ideal S512x256 .f32) (w0 w1 : FVec Ideal S128x256 .bf16) (w2 : FVec Ideal S128x256 .f32) (k : Vec Ideal S1x1 .f32) (V : Vec Ideal S1x256x128 .bf16) (j : Fin 128) :
    k0_pay143 b O S w0 w1 w2 k V (ix2 (⟨384 + a.val, by omega⟩ : Fin 512) j) = O (ix2 (⟨384 + a.val, by omega⟩ : Fin 512) j) + ∑ x : Fin 256, k0_pay141 b S k (ix2 a x) * V (ix3 (0 : Fin 1) x j) := by
  unfold k0_pay143
  generalize k0_pay141 b S k = w3
  pointwise []
  have h0 : ¬ 384 + a.val < 128 := by omega
  have h1 : ¬ 384 + a.val - 128 < 128 := by omega
  have h2 : ¬ 384 + a.val - 128 - 128 < 128 := by omega
  have ha : 384 + a.val - 128 - 128 - 128 = a.val := by omega
  simp only [dif_neg h0, dif_neg h1, dif_neg h2, ha, Fin.eta]

theorem c89 (z : IVec S128x128 1) (i0 i1 : FVec Ideal S128x1 .f32) (O : FVec Ideal S512x128 .f32) (P : FVec Ideal S512x256 .bf16) (V : Vec Ideal S1x256x128 .bf16) (j : Fin 128) :
    k0_pay89 z i0 O i1 P V (ix2 a j) = (O (ix2 (⟨384 + a.val, by omega⟩ : Fin 512) j) + ∑ x : Fin 256, P (ix2 (⟨384 + a.val, by omega⟩ : Fin 512) x) * V (ix3 (0 : Fin 1) x j)) * Scalar.select (z (ix2 a j)) (i0 (ix2 a (0 : Fin 1))) (i1 (ix2 a (0 : Fin 1))) := by
  pointwise [k0_pay89, k0_pay85]

theorem c144 (z : IVec S128x128 1) (i0 i1 : FVec Ideal S128x1 .f32) (O : FVec Ideal S512x128 .f32) (S : FVec Ideal S512x256 .f32) (w0 w1 : FVec Ideal S128x256 .bf16) (w2 : FVec Ideal S128x256 .f32) (k : Vec Ideal S1x1 .f32) (V : Vec Ideal S1x256x128 .bf16) (j : Fin 128) :
    k0_pay144 z b i0 O S i1 w0 w1 w2 k V (ix2 a j) = k0_pay143 b O S w0 w1 w2 k V (ix2 (⟨a.val, by omega⟩ : Fin 512) j) * Scalar.select (z (ix2 a j)) (i0 (ix2 a (0 : Fin 1))) (i1 (ix2 a (0 : Fin 1))) := by
  unfold k0_pay144
  generalize k0_pay143 b O S w0 w1 w2 k V = Z
  pointwise []

theorem c145 (z : IVec S128x128 1) (i0 i1 : FVec Ideal S128x1 .f32) (O : FVec Ideal S512x128 .f32) (S : FVec Ideal S512x256 .f32) (w0 w1 : FVec Ideal S128x256 .bf16) (w2 : FVec Ideal S128x256 .f32) (k : Vec Ideal S1x1 .f32) (V : Vec Ideal S1x256x128 .bf16) (j : Fin 128) :
    k0_pay145 z b i0 O S w0 i1 w1 w2 k V (ix2 a j) = k0_pay143 b O S w0 w1 w2 k V (ix2 (⟨128 + a.val, by omega⟩ : Fin 512) j) * Scalar.select (z (ix2 a j)) (i0 (ix2 a (0 : Fin 1))) (i1 (ix2 a (0 : Fin 1))) := by
  unfold k0_pay145
  generalize k0_pay143 b O S w0 w1 w2 k V = Z
  pointwise []

theorem c1 (z : IVec S128x128 1) (i0 i1 : FVec Ideal S128x1 .f32) (Z : FVec Ideal S512x128 .f32) (j : Fin 128) :
    k0_pay1 z i0 i1 Z (ix2 a j) = Z (ix2 (⟨256 + a.val, by omega⟩ : Fin 512) j) * Scalar.select (z (ix2 a j)) (i0 (ix2 a (0 : Fin 1))) (i1 (ix2 a (0 : Fin 1))) := by
  pointwise [k0_pay1]

theorem c2 (z : IVec S128x128 1) (i0 i1 : FVec Ideal S128x1 .f32) (Z : FVec Ideal S512x128 .f32) (j : Fin 128) :
    k0_pay2 z i0 i1 Z (ix2 a j) = Z (ix2 (⟨384 + a.val, by omega⟩ : Fin 512) j) * Scalar.select (z (ix2 a j)) (i0 (ix2 a (0 : Fin 1))) (i1 (ix2 a (0 : Fin 1))) := by
  pointwise [k0_pay2]

theorem col0 (z v24 : IVec S128x128 1) (c s : FVec Ideal S128x128 .f32) (r0 r1 r2 : FVec Ideal S128x128 .bf16) (q3 : Vec Ideal S128x128 .bf16) (K0 V0 : Vec Ideal S1x256x128 .bf16) (Q : FVec Ideal S512x128 .bf16) (K1 V1 : Vec Ideal S1x256x128 .bf16) (k0 k1 k2 k3 k4 k5 k6 k7 : Vec Ideal S1x1 .f32) (j : Fin 128) :
    k0_pay86 z (k0_pay40 v24 c s b r0 r1 r2 q3 K0 k0) (k0_pay59 (k0_pay41 v24 c s b r0 r1 r2 q3 K0 k0) (k0_pay47 (k0_pay45 v24 c s b r0 r1 r2 q3 K0 k2)) (k0_pay53 b (k0_pay35 v24 c s r0 r1 r2 q3 K0) k4) (k0_pay57 b (k0_pay35 v24 c s r0 r1 r2 q3 K0) k6) V0) (k0_pay65 b Q K1 k1) (k0_pay84 b (k0_pay60 Q K1) (k0_pay66 b Q K1 k1) (k0_pay70 b Q K1 k3) k5 k7) V1 (ix2 a j) = mix (z (ix2 a j)) (row (k0_pay35 v24 c s r0 r1 r2 q3 K0) b (⟨a.val, by omega⟩ : Fin 512) a) (sk k0) (fun x => V0 (ix3 (0 : Fin 1) x j)) (row (k0_pay60 Q K1) b (⟨a.val, by omega⟩ : Fin 512) a) (sk k1) (fun x => V1 (ix3 (0 : Fin 1) x j)) := by
  rw [c86, pv59_0, d40, d65]
  simp only [pv84_0, w41, w66]
  rfl

theorem col1 (z v24 : IVec S128x128 1) (c s : FVec Ideal S128x128 .f32) (r0 r1 r2 : FVec Ideal S128x128 .bf16) (q3 : Vec Ideal S128x128 .bf16) (K0 V0 : Vec Ideal S1x256x128 .bf16) (Q : FVec Ideal S512x128 .bf16) (K1 V1 : Vec Ideal S1x256x128 .bf16) (k0 k1 k2 k3 k4 k5 k6 k7 : Vec Ideal S1x1 .f32) (j : Fin 128) :
    k0_pay87 z (k0_pay46 (k0_pay42 k2) (k0_pay44 v24 c s b r0 r1 r2 q3 K0 k2) (k0_pay45 v24 c s b r0 r1 r2 q3 K0 k2)) (k0_pay59 (k0_pay41 v24 c s b r0 r1 r2 q3 K0 k0) (k0_pay47 (k0_pay45 v24 c s b r0 r1 r2 q3 K0 k2)) (k0_pay53 b (k0_pay35 v24 c s r0 r1 r2 q3 K0) k4) (k0_pay57 b (k0_pay35 v24 c s r0 r1 r2 q3 K0) k6) V0) (k0_pay73 (k0_pay71 b Q K1 k3) (k0_pay72 b Q K1 k3)) (k0_pay84 b (k0_pay60 Q K1) (k0_pay66 b Q K1 k1) (k0_pay70 b Q K1 k3) k5 k7) V1 (ix2 a j) = mix (z (ix2 a j)) (row (k0_pay35 v24 c s r0 r1 r2 q3 K0) b (⟨128 + a.val, by omega⟩ : Fin 512) a) (sk k2) (fun x => V0 (ix3 (0 : Fin 1) x j)) (row (k0_pay60 Q K1) b (⟨128 + a.val, by omega⟩ : Fin 512) a) (sk k3) (fun x => V1 (ix3 (0 : Fin 1) x j)) := by
  rw [c87, pv59_128, d46, d73]
  simp only [pv84_128, w47, w70]
  rfl

theorem col2 (z v24 : IVec S128x128 1) (c s : FVec Ideal S128x128 .f32) (r0 r1 r2 : FVec Ideal S128x128 .bf16) (q3 : Vec Ideal S128x128 .bf16) (K0 V0 : Vec Ideal S1x256x128 .bf16) (Q : FVec Ideal S512x128 .bf16) (K1 V1 : Vec Ideal S1x256x128 .bf16) (k0 k1 k2 k3 k4 k5 k6 k7 : Vec Ideal S1x1 .f32) (j : Fin 128) :
    k0_pay88 z (k0_pay52 b (k0_pay35 v24 c s r0 r1 r2 q3 K0) k4) (k0_pay59 (k0_pay41 v24 c s b r0 r1 r2 q3 K0 k0) (k0_pay47 (k0_pay45 v24 c s b r0 r1 r2 q3 K0 k2)) (k0_pay53 b (k0_pay35 v24 c s r0 r1 r2 q3 K0) k4) (k0_pay57 b (k0_pay35 v24 c s r0 r1 r2 q3 K0) k6) V0) (k0_pay78 b (k0_pay60 Q K1) k5) (k0_pay84 b (k0_pay60 Q K1) (k0_pay66 b Q K1 k1) (k0_pay70 b Q K1 k3) k5 k7) V1 (ix2 a j) = mix (z (ix2 a j)) (row (k0_pay35 v24 c s r0 r1 r2 q3 K0) b (⟨256 + a.val, by omega⟩ : Fin 512) a) (sk k4) (fun x => V0 (ix3 (0 : Fin 1) x j)) (row (k0_pay60 Q K1) b (⟨256 + a.val, by omega⟩ : Fin 512) a) (sk k5) (fun x => V1 (ix3 (0 : Fin 1) x j)) := by
  rw [c88, pv59_256, d52, d78]
  simp only [pv84_256, w53, w77]
  rfl

theorem col3 (z v24 : IVec S128x128 1) (c s : FVec Ideal S128x128 .f32) (r0 r1 r2 : FVec Ideal S128x128 .bf16) (q3 : Vec Ideal S128x128 .bf16) (K0 V0 : Vec Ideal S1x256x128 .bf16) (Q : FVec Ideal S512x128 .bf16) (K1 V1 : Vec Ideal S1x256x128 .bf16) (k0 k1 k2 k3 k4 k5 k6 k7 : Vec Ideal S1x1 .f32) (j : Fin 128) :
    k0_pay89 z (k0_pay58 b (k0_pay35 v24 c s r0 r1 r2 q3 K0) k6) (k0_pay59 (k0_pay41 v24 c s b r0 r1 r2 q3 K0 k0) (k0_pay47 (k0_pay45 v24 c s b r0 r1 r2 q3 K0 k2)) (k0_pay53 b (k0_pay35 v24 c s r0 r1 r2 q3 K0) k4) (k0_pay57 b (k0_pay35 v24 c s r0 r1 r2 q3 K0) k6) V0) (k0_pay83 b (k0_pay60 Q K1) k7) (k0_pay84 b (k0_pay60 Q K1) (k0_pay66 b Q K1 k1) (k0_pay70 b Q K1 k3) k5 k7) V1 (ix2 a j) = mix (z (ix2 a j)) (row (k0_pay35 v24 c s r0 r1 r2 q3 K0) b (⟨384 + a.val, by omega⟩ : Fin 512) a) (sk k6) (fun x => V0 (ix3 (0 : Fin 1) x j)) (row (k0_pay60 Q K1) b (⟨384 + a.val, by omega⟩ : Fin 512) a) (sk k7) (fun x => V1 (ix3 (0 : Fin 1) x j)) := by
  rw [c89, pv59_384, d58, d83]
  simp only [pv84_384, w57, w82]
  rfl

theorem col4 (z v24 : IVec S128x128 1) (c s : FVec Ideal S128x128 .f32) (u0 u1 : FVec Ideal S128x128 .f32) (n : BitVec 32) (q1 q2 q3 : Vec Ideal S128x128 .bf16) (K0 V0 : Vec Ideal S1x256x128 .bf16) (Q : FVec Ideal S512x128 .bf16) (K1 V1 : Vec Ideal S1x256x128 .bf16) (k0 k1 k2 k3 k4 k5 k6 k7 : Vec Ideal S1x1 .f32) (j : Fin 128) :
    k0_pay144 z b (k0_pay98 (k0_pay94 k0) (k0_pay95 v24 c s b u0 u1 n q1 q2 q3 K0)) (k0_pay117 b (k0_pay93 v24 c s u0 u1 n q1 q2 q3 K0) (k0_pay99 (k0_pay94 k0) (k0_pay95 v24 c s b u0 u1 n q1 q2 q3 K0)) (k0_pay105 b (k0_pay93 v24 c s u0 u1 n q1 q2 q3 K0) k2) (k0_pay109 b (k0_pay93 v24 c s u0 u1 n q1 q2 q3 K0) k4) k6 V0) (k0_pay118 Q K1) (k0_pay124 (k0_pay119 k1) (k0_pay120 b Q K1) (k0_pay121 b Q K1 k1) (k0_pay122 b Q K1 k1)) (k0_pay125 (k0_pay120 b Q K1) (k0_pay122 b Q K1 k1)) (k0_pay131 b (k0_pay118 Q K1) k3) (k0_pay135 b (k0_pay118 Q K1) k5) k7 V1 (ix2 a j) = mix (z (ix2 a j)) (row (k0_pay93 v24 c s u0 u1 n q1 q2 q3 K0) b (⟨a.val, by omega⟩ : Fin 512) a) (sk k0) (fun x => V0 (ix3 (0 : Fin 1) x j)) (row (k0_pay118 Q K1) b (⟨a.val, by omega⟩ : Fin 512) a) (sk k1) (fun x => V1 (ix3 (0 : Fin 1) x j)) := by
  rw [c144, pv143_0, pv117_0, d98, d124]
  simp only [w99, w125]
  rfl

theorem col5 (z v24 : IVec S128x128 1) (c s : FVec Ideal S128x128 .f32) (u0 u1 : FVec Ideal S128x128 .f32) (n : BitVec 32) (q1 q2 q3 : Vec Ideal S128x128 .bf16) (K0 V0 : Vec Ideal S1x256x128 .bf16) (Q : FVec Ideal S512x128 .bf16) (K1 V1 : Vec Ideal S1x256x128 .bf16) (k0 k1 k2 k3 k4 k5 k6 k7 : Vec Ideal S1x1 .f32) (j : Fin 128) :
    k0_pay145 z b (k0_pay104 b (k0_pay93 v24 c s u0 u1 n q1 q2 q3 K0) k2) (k0_pay117 b (k0_pay93 v24 c s u0 u1 n q1 q2 q3 K0) (k0_pay99 (k0_pay94 k0) (k0_pay95 v24 c s b u0 u1 n q1 q2 q3 K0)) (k0_pay105 b (k0_pay93 v24 c s u0 u1 n q1 q2 q3 K0) k2) (k0_pay109 b (k0_pay93 v24 c s u0 u1 n q1 q2 q3 K0) k4) k6 V0) (k0_pay118 Q K1) (k0_pay125 (k0_pay120 b Q K1) (k0_pay122 b Q K1 k1)) (k0_pay130 b (k0_pay118 Q K1) k3) (k0_pay131 b (k0_pay118 Q K1) k3) (k0_pay135 b (k0_pay118 Q K1) k5) k7 V1 (ix2 a j) = mix (z (ix2 a j)) (row (k0_pay93 v24 c s u0 u1 n q1 q2 q3 K0) b (⟨128 + a.val, by omega⟩ : Fin 512) a) (sk k2) (fun x => V0 (ix3 (0 : Fin 1) x j)) (row (k0_pay118 Q K1) b (⟨128 + a.val, by omega⟩ : Fin 512) a) (sk k3) (fun x => V1 (ix3 (0 : Fin 1) x j)) := by
  rw [c145, pv143_128, pv117_128, d104, d130]
  simp only [w105, w131]
  rfl

theorem col6 (z v24 : IVec S128x128 1) (c s : FVec Ideal S128x128 .f32) (u0 u1 : FVec Ideal S128x128 .f32) (n : BitVec 32) (q1 q2 q3 : Vec Ideal S128x128 .bf16) (K0 V0 : Vec Ideal S1x256x128 .bf16) (Q : FVec Ideal S512x128 .bf16) (K1 V1 : Vec Ideal S1x256x128 .bf16) (k0 k1 k2 k3 k4 k5 k6 k7 : Vec Ideal S1x1 .f32) (j : Fin 128) :
    k0_pay1 z (k0_pay111 (k0_pay106 k4) (k0_pay108 b (k0_pay93 v24 c s u0 u1 n q1 q2 q3 K0) k4) (k0_pay110 b (k0_pay93 v24 c s u0 u1 n q1 q2 q3 K0) k4)) (k0_pay137 (k0_pay136 b (k0_pay118 Q K1) k5) (FloatOps.ofBits FTy.f32 1065353216#32)) (k0_pay143 b (k0_pay117 b (k0_pay93 v24 c s u0 u1 n q1 q2 q3 K0) (k0_pay99 (k0_pay94 k0) (k0_pay95 v24 c s b u0 u1 n q1 q2 q3 K0)) (k0_pay105 b (k0_pay93 v24 c s u0 u1 n q1 q2 q3 K0) k2) (k0_pay109 b (k0_pay93 v24 c s u0 u1 n q1 q2 q3 K0) k4) k6 V0) (k0_pay118 Q K1) (k0_pay125 (k0_pay120 b Q K1) (k0_pay122 b Q K1 k1)) (k0_pay131 b (k0_pay118 Q K1) k3) (k0_pay135 b (k0_pay118 Q K1) k5) k7 V1) (ix2 a j) = mix (z (ix2 a j)) (row (k0_pay93 v24 c s u0 u1 n q1 q2 q3 K0) b (⟨256 + a.val, by omega⟩ : Fin 512) a) (sk k4) (fun x => V0 (ix3 (0 : Fin 1) x j)) (row (k0_pay118 Q K1) b (⟨256 + a.val, by omega⟩ : Fin 512) a) (sk k5) (fun x => V1 (ix3 (0 : Fin 1) x j)) := by
  rw [c1, pv143_256, pv117_256, d111, d137]
  simp only [w109, w135]
  rfl

theorem col7 (z v24 : IVec S128x128 1) (c s : FVec Ideal S128x128 .f32) (u0 u1 : FVec Ideal S128x128 .f32) (n : BitVec 32) (q1 q2 q3 : Vec Ideal S128x128 .bf16) (K0 V0 : Vec Ideal S1x256x128 .bf16) (Q : FVec Ideal S512x128 .bf16) (K1 V1 : Vec Ideal S1x256x128 .bf16) (k0 k1 k2 k3 k4 k5 k6 k7 : Vec Ideal S1x1 .f32) (j : Fin 128) :
    k0_pay2 z (k0_pay116 b (k0_pay93 v24 c s u0 u1 n q1 q2 q3 K0) k6) (k0_pay142 b (k0_pay118 Q K1) k7) (k0_pay143 b (k0_pay117 b (k0_pay93 v24 c s u0 u1 n q1 q2 q3 K0) (k0_pay99 (k0_pay94 k0) (k0_pay95 v24 c s b u0 u1 n q1 q2 q3 K0)) (k0_pay105 b (k0_pay93 v24 c s u0 u1 n q1 q2 q3 K0) k2) (k0_pay109 b (k0_pay93 v24 c s u0 u1 n q1 q2 q3 K0) k4) k6 V0) (k0_pay118 Q K1) (k0_pay125 (k0_pay120 b Q K1) (k0_pay122 b Q K1 k1)) (k0_pay131 b (k0_pay118 Q K1) k3) (k0_pay135 b (k0_pay118 Q K1) k5) k7 V1) (ix2 a j) = mix (z (ix2 a j)) (row (k0_pay93 v24 c s u0 u1 n q1 q2 q3 K0) b (⟨384 + a.val, by omega⟩ : Fin 512) a) (sk k6) (fun x => V0 (ix3 (0 : Fin 1) x j)) (row (k0_pay118 Q K1) b (⟨384 + a.val, by omega⟩ : Fin 512) a) (sk k7) (fun x => V1 (ix3 (0 : Fin 1) x j)) := by
  rw [c2, pv143_384, pv117_384, d116, d142]
  simp only [w115, w141]
  rfl

end Cert.Swa

end
-- ==== Proof.SwaScore.lean ====
/- The sliding-window kernel's rotation of queries and keys, its scores and what it keeps of each block. -/
module

public import proofs.«01_k».proof.Proof.Gen.Kernel3Ideal.Value
public import proofs.«01_k».proof.Proof.SwaOut
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Swa

open Idealize.ShloMosaic Idealize.ShloMosaic.TcCoe Idealize.SL.Sem
open Idealize.ShloMosaic.Pipeline (Dat)
open Cert.Kernel3Ideal Cert.Kernel3Ideal.Gen

variable (a : Fin 128)

/-- One lane after the rotation: `x` times the cosine, plus the lane a quarter turn away times the signed sine. -/
def turn (z : IVec S128x128 1) (c s : FVec Ideal S128x128 .f32) (q : Vec Ideal S128x128 .bf16) (a l : Fin 128) : EReal :=
  q (ix2 a l) * c (ix2 a l) + Scalar.select (z (ix2 a l)) (q (ix2 a (⟨(l.val + 128 - 96) % 128, by omega⟩ : Fin 128))) (q (ix2 a (⟨(l.val + 128 - 32) % 128, by omega⟩ : Fin 128))) * s (ix2 a l)

theorem t31 (z : IVec S128x128 1) (c s : FVec Ideal S128x128 .f32) (q : Vec Ideal S128x128 .bf16) (l : Fin 128) :
    k0_pay31 z c s q (ix2 a l) = turn z c s q a l := by
  pointwise [k0_pay31, turn]

theorem t32 (z : IVec S128x128 1) (c s : FVec Ideal S128x128 .f32) (q : Vec Ideal S128x128 .bf16) (l : Fin 128) :
    k0_pay32 z c s q (ix2 a l) = turn z c s q a l := by
  pointwise [k0_pay32, turn]

theorem t33 (z : IVec S128x128 1) (c s : FVec Ideal S128x128 .f32) (q : Vec Ideal S128x128 .bf16) (l : Fin 128) :
    k0_pay33 z c s q (ix2 a l) = turn z c s q a l := by
  pointwise [k0_pay33, turn]

theorem t14 (z : IVec S128x128 1) (c s s' : FVec Ideal S128x128 .f32) (q : Vec Ideal S128x128 .bf16) (l : Fin 128) :
    k0_pay14 z c s s' q (ix2 a l) = turn z c (k0_pay13 z s s') q a l := by
  unfold k0_pay14
  generalize k0_pay13 z s s' = S
  pointwise [turn]

theorem t34_0 (z : IVec S128x128 1) (c s : FVec Ideal S128x128 .f32) (q0 q1 q2 q3 : Vec Ideal S128x128 .bf16) (l : Fin 128) :
    k0_pay34 z c s (k0_pay31 z c s q0) (k0_pay32 z c s q1) (k0_pay33 z c s q2) q3 (ix2 (⟨a.val, by omega⟩ : Fin 512) l) = turn z c s q0 a l := by
  rw [← t31 a z c s q0 l]
  unfold k0_pay34
  generalize k0_pay31 z c s q0 = w0
  generalize k0_pay32 z c s q1 = w1
  generalize k0_pay33 z c s q2 = w2
  pointwise []

theorem t92_0 (z : IVec S128x128 1) (c s : FVec Ideal S128x128 .f32) (q0 q1 q2 q3 : Vec Ideal S128x128 .bf16) (l : Fin 128) :
    k0_pay92 z c s (k0_pay90 q0) (k0_pay91 q0) 32#32 q1 q2 q3 (ix2 (⟨a.val, by omega⟩ : Fin 512) l) = turn z c s q0 a l := by
  pointwise [k0_pay92, k0_pay90, k0_pay91, turn]

theorem t34_128 (z : IVec S128x128 1) (c s : FVec Ideal S128x128 .f32) (q0 q1 q2 q3 : Vec Ideal S128x128 .bf16) (l : Fin 128) :
    k0_pay34 z c s (k0_pay31 z c s q0) (k0_pay32 z c s q1) (k0_pay33 z c s q2) q3 (ix2 (⟨128 + a.val, by omega⟩ : Fin 512) l) = turn z c s q1 a l := by
  rw [← t32 a z c s q1 l]
  unfold k0_pay34
  generalize k0_pay31 z c s q0 = w0
  generalize k0_pay32 z c s q1 = w1
  generalize k0_pay33 z c s q2 = w2
  pointwise []

theorem t92_128 (z : IVec S128x128 1) (c s : FVec Ideal S128x128 .f32) (q0 q1 q2 q3 : Vec Ideal S128x128 .bf16) (l : Fin 128) :
    k0_pay92 z c s (k0_pay90 q0) (k0_pay91 q0) 32#32 q1 q2 q3 (ix2 (⟨128 + a.val, by omega⟩ : Fin 512) l) = turn z c s q1 a l := by
  pointwise [k0_pay92, k0_pay90, k0_pay91, turn]

theorem t34_256 (z : IVec S128x128 1) (c s : FVec Ideal S128x128 .f32) (q0 q1 q2 q3 : Vec Ideal S128x128 .bf16) (l : Fin 128) :
    k0_pay34 z c s (k0_pay31 z c s q0) (k0_pay32 z c s q1) (k0_pay33 z c s q2) q3 (ix2 (⟨256 + a.val, by omega⟩ : Fin 512) l) = turn z c s q2 a l := by
  rw [← t33 a z c s q2 l]
  unfold k0_pay34
  generalize k0_pay31 z c s q0 = w0
  generalize k0_pay32 z c s q1 = w1
  generalize k0_pay33 z c s q2 = w2
  pointwise []
  have h0 : ¬ 256 + a.val < 128 := by omega
  have h1 : ¬ 256 + a.val - 128 < 128 := by omega
  have ha : 256 + a.val - 128 - 128 = a.val := by omega
  simp only [dif_neg h0, dif_neg h1, dif_pos a.isLt, ha, Fin.eta]

theorem t92_256 (z : IVec S128x128 1) (c s : FVec Ideal S128x128 .f32) (q0 q1 q2 q3 : Vec Ideal S128x128 .bf16) (l : Fin 128) :
    k0_pay92 z c s (k0_pay90 q0) (k0_pay91 q0) 32#32 q1 q2 q3 (ix2 (⟨256 + a.val, by omega⟩ : Fin 512) l) = turn z c s q2 a l := by
  pointwise [k0_pay92, k0_pay90, k0_pay91, turn]
  have h0 : ¬ 256 + a.val < 128 := by omega
  have h1 : ¬ 256 + a.val - 128 < 128 := by omega
  have ha : 256 + a.val - 128 - 128 = a.val := by omega
  simp only [dif_neg h0, dif_neg h1, dif_pos a.isLt, ha, Fin.eta]

theorem t34_384 (z : IVec S128x128 1) (c s : FVec Ideal S128x128 .f32) (q0 q1 q2 q3 : Vec Ideal S128x128 .bf16) (l : Fin 128) :
    k0_pay34 z c s (k0_pay31 z c s q0) (k0_pay32 z c s q1) (k0_pay33 z c s q2) q3 (ix2 (⟨384 + a.val, by omega⟩ : Fin 512) l) = turn z c s q3 a l := by
  unfold turn
  unfold k0_pay34
  generalize k0_pay31 z c s q0 = w0
  generalize k0_pay32 z c s q1 = w1
  generalize k0_pay33 z c s q2 = w2
  pointwise []
  have h0 : ¬ 384 + a.val < 128 := by omega
  have h1 : ¬ 384 + a.val - 128 < 128 := by omega
  have h2 : ¬ 384 + a.val - 128 - 128 < 128 := by omega
  have ha : 384 + a.val - 128 - 128 - 128 = a.val := by omega
  simp only [dif_neg h0, dif_neg h1, dif_neg h2, ha, Fin.eta]

theorem t92_384 (z : IVec S128x128 1) (c s : FVec Ideal S128x128 .f32) (q0 q1 q2 q3 : Vec Ideal S128x128 .bf16) (l : Fin 128) :
    k0_pay92 z c s (k0_pay90 q0) (k0_pay91 q0) 32#32 q1 q2 q3 (ix2 (⟨384 + a.val, by omega⟩ : Fin 512) l) = turn z c s q3 a l := by
  pointwise [k0_pay92, k0_pay90, k0_pay91, turn]
  have h0 : ¬ 384 + a.val < 128 := by omega
  have h1 : ¬ 384 + a.val - 128 < 128 := by omega
  have h2 : ¬ 384 + a.val - 128 - 128 < 128 := by omega
  have ha : 384 + a.val - 128 - 128 - 128 = a.val := by omega
  simp only [dif_neg h0, dif_neg h1, dif_neg h2, ha, Fin.eta]

theorem s35 (z : IVec S128x128 1) (c s : FVec Ideal S128x128 .f32) (r0 r1 r2 : FVec Ideal S128x128 .bf16) (q3 : Vec Ideal S128x128 .bf16) (K : Vec Ideal S1x256x128 .bf16) (r : Fin 512) (x : Fin 256) :
    k0_pay35 z c s r0 r1 r2 q3 K (ix2 r x) = ∑ l : Fin 128, k0_pay34 z c s r0 r1 r2 q3 (ix2 r l) * K (ix3 (0 : Fin 1) x l) := by
  unfold k0_pay35
  generalize k0_pay34 z c s r0 r1 r2 q3 = w
  pointwise []

theorem s93 (z : IVec S128x128 1) (c s u0 u1 : FVec Ideal S128x128 .f32) (n : BitVec 32) (q1 q2 q3 : Vec Ideal S128x128 .bf16) (K : Vec Ideal S1x256x128 .bf16) (r : Fin 512) (x : Fin 256) :
    k0_pay93 z c s u0 u1 n q1 q2 q3 K (ix2 r x) = ∑ l : Fin 128, k0_pay92 z c s u0 u1 n q1 q2 q3 (ix2 r l) * K (ix3 (0 : Fin 1) x l) := by
  unfold k0_pay93
  generalize k0_pay92 z c s u0 u1 n q1 q2 q3 = w
  pointwise []

theorem s60 (Q : FVec Ideal S512x128 .bf16) (K : Vec Ideal S1x256x128 .bf16) (r : Fin 512) (x : Fin 256) :
    k0_pay60 Q K (ix2 r x) = ∑ l : Fin 128, Q (ix2 r l) * K (ix3 (0 : Fin 1) x l) := by
  pointwise [k0_pay60]

theorem s118 (Q : FVec Ideal S512x128 .bf16) (K : Vec Ideal S1x256x128 .bf16) (r : Fin 512) (x : Fin 256) :
    k0_pay118 Q K (ix2 r x) = ∑ l : Fin 128, Q (ix2 r l) * K (ix3 (0 : Fin 1) x l) := by
  pointwise [k0_pay118]

theorem k17 (y z : IVec S128x128 1) (c s s' : FVec Ideal S128x128 .f32) (q : Vec Ideal S128x128 .bf16) (l : Fin 128) :
    k0_pay17 y z c s s' q (ix3 (0 : Fin 1) a l) = Scalar.select (z (ix2 a l)) (turn y c (k0_pay13 y s s') q a l) 0 := by
  rw [← t14]
  unfold k0_pay17
  generalize k0_pay14 y c s s' q = w
  pointwise []

theorem k18 (y z : IVec S128x128 1) (c s s' : FVec Ideal S128x128 .f32) (q : Vec Ideal S128x128 .bf16) (l : Fin 128) :
    k0_pay18 y z c s s' q (ix3 (0 : Fin 1) a l) = Scalar.select (z (ix2 a l)) 0 (turn y c (k0_pay13 y s s') q a (⟨(l.val + 128 - 64) % 128, by omega⟩ : Fin 128)) := by
  rw [← t14]
  unfold k0_pay18 k0_pay16
  generalize k0_pay14 y c s s' q = w
  pointwise []

theorem k19 (y z : IVec S128x128 1) (c s s' : FVec Ideal S128x128 .f32) (q : Vec Ideal S128x128 .bf16) (l : Fin 128) :
    k0_pay19 y z c s s' q (ix3 (0 : Fin 1) a l) = Scalar.select (z (ix2 a l)) (turn y c (k0_pay13 y s s') q a (⟨(l.val + 128 - 64) % 128, by omega⟩ : Fin 128)) 0 := by
  rw [← t14]
  unfold k0_pay19 k0_pay16
  generalize k0_pay14 y c s s' q = w
  pointwise []

theorem k21 (y z : IVec S128x128 1) (c s s' : FVec Ideal S128x128 .f32) (q : Vec Ideal S128x128 .bf16) (l : Fin 128) :
    k0_pay21 (k0_pay20 y z c s s' q) (ix3 (0 : Fin 1) a l) = Scalar.select (z (ix2 a l)) 0 (turn y c (k0_pay13 y s s') q a l) := by
  rw [← t14]
  unfold k0_pay21 k0_pay20
  generalize k0_pay14 y c s s' q = w
  pointwise []

theorem v23 (z : IVec S128x128 1) (v : Vec Ideal S128x128 .bf16) (l : Fin 128) :
    k0_pay23 z (k0_pay15 v) (ix3 (0 : Fin 1) a l) = Scalar.select (z (ix2 a l)) (v (ix2 a l)) 0 := by
  pointwise [k0_pay23, k0_pay22, k0_pay15]

theorem v24 (z : IVec S128x128 1) (v : Vec Ideal S128x128 .bf16) (l : Fin 128) :
    k0_pay24 z (k0_pay15 v) (ix3 (0 : Fin 1) a l) = Scalar.select (z (ix2 a l)) 0 (v (ix2 a (⟨(l.val + 128 - 64) % 128, by omega⟩ : Fin 128))) := by
  pointwise [k0_pay24, k0_pay22, k0_pay15]

theorem v25 (z : IVec S128x128 1) (v : Vec Ideal S128x128 .bf16) (l : Fin 128) :
    k0_pay25 z (k0_pay15 v) (ix3 (0 : Fin 1) a l) = Scalar.select (z (ix2 a l)) (v (ix2 a (⟨(l.val + 128 - 64) % 128, by omega⟩ : Fin 128))) 0 := by
  pointwise [k0_pay25, k0_pay22, k0_pay15]

theorem v26 (z : IVec S128x128 1) (v : Vec Ideal S128x128 .bf16) (l : Fin 128) :
    k0_pay26 z (k0_pay15 v) (ix3 (0 : Fin 1) a l) = Scalar.select (z (ix2 a l)) 0 (v (ix2 a l)) := by
  pointwise [k0_pay26, k0_pay22, k0_pay15]

theorem p10 (pos : Vec Ideal S128x1 .i32) (f : Vec Ideal S1x128 .f32) (l : Fin 128) :
    k0_pay10 pos f (ix2 a l) = Ideal.cos ((FloatOps.sitofp (F := Ideal) FTy.f32 (pos (ix2 a (0 : Fin 1))) : EReal) * f (ix2 (0 : Fin 1) l)) := by
  pointwise [k0_pay10, k0_pay9]

theorem p13 (z : IVec S128x128 1) (pos : Vec Ideal S128x1 .i32) (f : Vec Ideal S1x128 .f32) (l : Fin 128) :
    k0_pay13 z (k0_pay11 pos f) (k0_pay12 pos f) (ix2 a l)
    = Scalar.select (z (ix2 a l)) (0 - Ideal.sin ((FloatOps.sitofp (F := Ideal) FTy.f32 (pos (ix2 a (0 : Fin 1))) : EReal) * f (ix2 (0 : Fin 1) l))) (Ideal.sin ((FloatOps.sitofp (F := Ideal) FTy.f32 (pos (ix2 a (0 : Fin 1))) : EReal) * f (ix2 (0 : Fin 1) l))) := by
  pointwise [k0_pay13, k0_pay12, k0_pay11, k0_pay9]

theorem p27 (c : FVec Ideal S128x128 .f32) (l : Fin 128) : k0_pay27 c (ix2 a l) = c (ix2 a l) * Ideal.ofBits FTy.f32 0x3E000000#32 := by
  pointwise [k0_pay27]

theorem p28 (c : FVec Ideal S128x128 .f32) (l : Fin 128) : k0_pay28 c (ix2 a l) = c (ix2 a l) * Ideal.ofBits FTy.f32 0x3E000000#32 := by
  pointwise [k0_pay28]

theorem p8 (l : Fin 128) : k0_pay8 (ix2 a l) = if l.val < 64 then 1#1 else 0#1 := by
  pointwise [k0_pay8]
  revert l
  decide +kernel

theorem p7 (l : Fin 128) : k0_pay7 (ix2 a l) = if l.val % 64 < 32 then 1#1 else 0#1 := by
  pointwise [k0_pay7]
  revert l
  decide +kernel

theorem p30 (n : BitVec 32) (x : Fin 256) : k0_pay30 (F := Ideal) n (iota Kind.tc S128x256 32 [1] iota_S128x256_d1_w32) k0_pay29 (ix2 a x)
    = Scalar.select (seen n a x) 0 (Ideal.ofBits FTy.f32 0xFF800000#32) := by
  pointwise [k0_pay30, k0_pay29, seen]
  rfl

end Cert.Swa

end
-- ==== Proof.SwaCols.lean ====
/- What the sliding-window kernel stores at one grid point: its columns, and the rows it keeps. -/
module

public import proofs.«01_k».proof.Proof.Gen.Kernel3Ideal.Value
public import proofs.«01_k».proof.Proof.SwaScore
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Swa

open Idealize.ShloMosaic Idealize.ShloMosaic.TcCoe Idealize.SL.Sem
open Idealize.ShloMosaic.Pipeline (Dat)
open Cert.Kernel3Ideal Cert.Kernel3Ideal.Gen

/-! Stores into a block, read at an index. -/

section Stores

theorem idx2 {n : ℕ} (o : ℕ) (inb) (a : Fin 128) (l : Fin 128) (h : o + l.val < n) :
    (Rect.unit (s := ⟨2, ![128, n]⟩) ![0, o] ![128, 128] inb).idx (ix2 a l) = ix2 a (⟨o + l.val, h⟩ : Fin n) := by
  funext i
  fin_cases i <;> apply Fin.ext <;> simp [LoadRect.idx, Rect.unit]

theorem idx3 (g : ℕ) (hg : g < 4) (inb) (x : Fin 256) (l : Fin 128) :
    (Rect.unit (s := S4x256x128) ![g, 0, 0] ![1, 256, 128] inb).idx (ix3 (0 : Fin 1) x l) = ix3 (⟨g, hg⟩ : Fin 4) x l := by
  funext i
  fin_cases i <;> apply Fin.ext <;> simp [LoadRect.idx, Rect.unit]

theorem idx1 (o : ℕ) (ho : o < 128) (inb) : (Rect.unit (s := S1x128) ![0, o] ![1, 1] inb).idx (ix2 (0 : Fin 1) (0 : Fin 1)) = ix2 (0 : Fin 1) (⟨o, ho⟩ : Fin 128) := by
  funext i
  fin_cases i <;> apply Fin.ext <;> simp [LoadRect.idx, Rect.unit]

theorem hit2 (o : ℕ) (inb) (w : (Rect.unit (s := S128x1024) ![0, o] ![128, 128] inb).shape.Idx → Elt Ideal .bf16) (L : List (View.Piece (Elt Ideal) S128x1024 .bf16)) (a j : Fin 128) (h : o + j.val < 1024) :
    View.canon (Val := Elt Ideal) (⟨Rect.unit ![0, o] ![128, 128] inb, w⟩ :: L) (ix2 a (⟨o + j.val, h⟩ : Fin 1024)) = w (ix2 a j) :=
  (congrArg (View.canon (Val := Elt Ideal) (⟨Rect.unit ![0, o] ![128, 128] inb, w⟩ :: L)) (idx2 o inb a j h).symm).trans (View.canon_cons_emb _ w L _)

theorem miss2 (o : ℕ) (inb) (w : (Rect.unit (s := S128x1024) ![0, o] ![128, 128] inb).shape.Idx → Elt Ideal .bf16) (L : List (View.Piece (Elt Ideal) S128x1024 .bf16)) (a : Fin 128) (j : Fin 1024) (h : j.val < o) :
    View.canon (Val := Elt Ideal) (⟨Rect.unit ![0, o] ![128, 128] inb, w⟩ :: L) (ix2 a j) = View.canon L (ix2 a j) :=
  View.canon_cons_of_not_mem _ L fun hm => absurd ((Rect.mem_set_unit (inb := inb) (i := ix2 a j)).1 hm 1).1 (Nat.not_le.2 h)

end Stores

/-- A lane of column block `n` of the queries after the rotation. -/
def qturn (z : IVec S128x128 1) (c s : FVec Ideal S128x128 .f32) (q : Vec Ideal S128x1024 .bf16) (n : ℕ) (hn : n < 8) (a l : Fin 128) : EReal :=
  q (ix2 a (⟨128 * n + l.val, by omega⟩ : Fin 1024)) * c (ix2 a l)
    + Scalar.select (z (ix2 a l)) (q (ix2 a (⟨128 * n + (l.val + 128 - 96) % 128, by omega⟩ : Fin 1024))) (q (ix2 a (⟨128 * n + (l.val + 128 - 32) % 128, by omega⟩ : Fin 1024))) * s (ix2 a l)

theorem turn_ld (z : IVec S128x128 1) (c s : FVec Ideal S128x128 .f32) (q : Vec Ideal S128x1024 .bf16) (n : ℕ) (hn : n < 8) (inb) (a l : Fin 128) :
    turn z c s (View.ld q (Rect.unit ![0, 128 * n] ![128, 128] inb)) a l = qturn z c s q n hn a l := by
  unfold turn qturn
  simp only [View.ld]
  rw [idx2 (n := 1024) (128 * n) inb a l (by omega), idx2 (n := 1024) (128 * n) inb a ⟨(l.val + 128 - 96) % 128, by omega⟩ (by show 128 * n + (l.val + 128 - 96) % 128 < 1024; omega), idx2 (n := 1024) (128 * n) inb a ⟨(l.val + 128 - 32) % 128, by omega⟩ (by show 128 * n + (l.val + 128 - 32) % 128 < 1024; omega)]

/-- A row of scores with the mask's term added: column block `n` of the queries against row `r` of the kept keys. -/
def score (cq sq : FVec Ideal S128x128 .f32) (b : FVec Ideal S128x256 .f32) (q : Vec Ideal S128x1024 .bf16) (Ks : Vec Ideal S4x256x128 .bf16) (n : ℕ) (hn : n < 8) (r : Fin 4) (a : Fin 128) (x : Fin 256) : EReal :=
  ∑ l : Fin 128, qturn k0_pay7 cq sq q n hn a l * Ks (ix3 r x l) + b (ix2 a x)

section Columns
variable (cq sq : FVec Ideal S128x128 .f32) (b : FVec Ideal S128x256 .f32) (q : Vec Ideal S128x1024 .bf16) (skb : Vec Ideal S1x128 .f32) (Ks Vs : Vec Ideal S4x256x128 .bf16)

/-- Column block 0 of the result. -/
abbrev colv0 : FVec Ideal S128x128 .bf16 := k0_pay86 k0_pay8 (k0_pay40 k0_pay7 cq sq b (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0)) (View.ld skb (Rect.unit ![0, 0] ![1, 1] inb_S1x128_S1x1_0_0))) (k0_pay59 (k0_pay41 k0_pay7 cq sq b (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0)) (View.ld skb (Rect.unit ![0, 0] ![1, 1] inb_S1x128_S1x1_0_0))) (k0_pay47 (k0_pay45 k0_pay7 cq sq b (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0)) (View.ld skb (Rect.unit ![0, 2] ![1, 1] inb_S1x128_S1x1_0_2)))) (k0_pay53 b (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) (View.ld skb (Rect.unit ![0, 4] ![1, 1] inb_S1x128_S1x1_0_4))) (k0_pay57 b (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) (View.ld skb (Rect.unit ![0, 6] ![1, 1] inb_S1x128_S1x1_0_6))) (View.ld Vs (Rect.unit ![0, 0, 0] ![1, 256, 128] inb_S4x256x128_S1x256x128_0_0_0))) (k0_pay65 b (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0)) (View.ld skb (Rect.unit ![0, 1] ![1, 1] inb_S1x128_S1x1_0_1))) (k0_pay84 b (k0_pay60 (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0))) (k0_pay66 b (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0)) (View.ld skb (Rect.unit ![0, 1] ![1, 1] inb_S1x128_S1x1_0_1))) (k0_pay70 b (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0)) (View.ld skb (Rect.unit ![0, 3] ![1, 1] inb_S1x128_S1x1_0_3))) (View.ld skb (Rect.unit ![0, 5] ![1, 1] inb_S1x128_S1x1_0_5)) (View.ld skb (Rect.unit ![0, 7] ![1, 1] inb_S1x128_S1x1_0_7))) (View.ld Vs (Rect.unit ![1, 0, 0] ![1, 256, 128] inb_S4x256x128_S1x256x128_1_0_0))

/-- Column block 1 of the result. -/
abbrev colv1 : FVec Ideal S128x128 .bf16 := k0_pay87 k0_pay8 (k0_pay46 (k0_pay42 (View.ld skb (Rect.unit ![0, 2] ![1, 1] inb_S1x128_S1x1_0_2))) (k0_pay44 k0_pay7 cq sq b (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0)) (View.ld skb (Rect.unit ![0, 2] ![1, 1] inb_S1x128_S1x1_0_2))) (k0_pay45 k0_pay7 cq sq b (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0)) (View.ld skb (Rect.unit ![0, 2] ![1, 1] inb_S1x128_S1x1_0_2)))) (k0_pay59 (k0_pay41 k0_pay7 cq sq b (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0)) (View.ld skb (Rect.unit ![0, 0] ![1, 1] inb_S1x128_S1x1_0_0))) (k0_pay47 (k0_pay45 k0_pay7 cq sq b (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0)) (View.ld skb (Rect.unit ![0, 2] ![1, 1] inb_S1x128_S1x1_0_2)))) (k0_pay53 b (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) (View.ld skb (Rect.unit ![0, 4] ![1, 1] inb_S1x128_S1x1_0_4))) (k0_pay57 b (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) (View.ld skb (Rect.unit ![0, 6] ![1, 1] inb_S1x128_S1x1_0_6))) (View.ld Vs (Rect.unit ![0, 0, 0] ![1, 256, 128] inb_S4x256x128_S1x256x128_0_0_0))) (k0_pay73 (k0_pay71 b (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0)) (View.ld skb (Rect.unit ![0, 3] ![1, 1] inb_S1x128_S1x1_0_3))) (k0_pay72 b (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0)) (View.ld skb (Rect.unit ![0, 3] ![1, 1] inb_S1x128_S1x1_0_3)))) (k0_pay84 b (k0_pay60 (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0))) (k0_pay66 b (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0)) (View.ld skb (Rect.unit ![0, 1] ![1, 1] inb_S1x128_S1x1_0_1))) (k0_pay70 b (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0)) (View.ld skb (Rect.unit ![0, 3] ![1, 1] inb_S1x128_S1x1_0_3))) (View.ld skb (Rect.unit ![0, 5] ![1, 1] inb_S1x128_S1x1_0_5)) (View.ld skb (Rect.unit ![0, 7] ![1, 1] inb_S1x128_S1x1_0_7))) (View.ld Vs (Rect.unit ![1, 0, 0] ![1, 256, 128] inb_S4x256x128_S1x256x128_1_0_0))

/-- Column block 2 of the result. -/
abbrev colv2 : FVec Ideal S128x128 .bf16 := k0_pay88 k0_pay8 (k0_pay52 b (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) (View.ld skb (Rect.unit ![0, 4] ![1, 1] inb_S1x128_S1x1_0_4))) (k0_pay59 (k0_pay41 k0_pay7 cq sq b (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0)) (View.ld skb (Rect.unit ![0, 0] ![1, 1] inb_S1x128_S1x1_0_0))) (k0_pay47 (k0_pay45 k0_pay7 cq sq b (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0)) (View.ld skb (Rect.unit ![0, 2] ![1, 1] inb_S1x128_S1x1_0_2)))) (k0_pay53 b (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) (View.ld skb (Rect.unit ![0, 4] ![1, 1] inb_S1x128_S1x1_0_4))) (k0_pay57 b (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) (View.ld skb (Rect.unit ![0, 6] ![1, 1] inb_S1x128_S1x1_0_6))) (View.ld Vs (Rect.unit ![0, 0, 0] ![1, 256, 128] inb_S4x256x128_S1x256x128_0_0_0))) (k0_pay78 b (k0_pay60 (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0))) (View.ld skb (Rect.unit ![0, 5] ![1, 1] inb_S1x128_S1x1_0_5))) (k0_pay84 b (k0_pay60 (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0))) (k0_pay66 b (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0)) (View.ld skb (Rect.unit ![0, 1] ![1, 1] inb_S1x128_S1x1_0_1))) (k0_pay70 b (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0)) (View.ld skb (Rect.unit ![0, 3] ![1, 1] inb_S1x128_S1x1_0_3))) (View.ld skb (Rect.unit ![0, 5] ![1, 1] inb_S1x128_S1x1_0_5)) (View.ld skb (Rect.unit ![0, 7] ![1, 1] inb_S1x128_S1x1_0_7))) (View.ld Vs (Rect.unit ![1, 0, 0] ![1, 256, 128] inb_S4x256x128_S1x256x128_1_0_0))

/-- Column block 3 of the result. -/
abbrev colv3 : FVec Ideal S128x128 .bf16 := k0_pay89 k0_pay8 (k0_pay58 b (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) (View.ld skb (Rect.unit ![0, 6] ![1, 1] inb_S1x128_S1x1_0_6))) (k0_pay59 (k0_pay41 k0_pay7 cq sq b (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0)) (View.ld skb (Rect.unit ![0, 0] ![1, 1] inb_S1x128_S1x1_0_0))) (k0_pay47 (k0_pay45 k0_pay7 cq sq b (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0)) (View.ld skb (Rect.unit ![0, 2] ![1, 1] inb_S1x128_S1x1_0_2)))) (k0_pay53 b (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) (View.ld skb (Rect.unit ![0, 4] ![1, 1] inb_S1x128_S1x1_0_4))) (k0_pay57 b (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) (View.ld skb (Rect.unit ![0, 6] ![1, 1] inb_S1x128_S1x1_0_6))) (View.ld Vs (Rect.unit ![0, 0, 0] ![1, 256, 128] inb_S4x256x128_S1x256x128_0_0_0))) (k0_pay83 b (k0_pay60 (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0))) (View.ld skb (Rect.unit ![0, 7] ![1, 1] inb_S1x128_S1x1_0_7))) (k0_pay84 b (k0_pay60 (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0))) (k0_pay66 b (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0)) (View.ld skb (Rect.unit ![0, 1] ![1, 1] inb_S1x128_S1x1_0_1))) (k0_pay70 b (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0)) (View.ld skb (Rect.unit ![0, 3] ![1, 1] inb_S1x128_S1x1_0_3))) (View.ld skb (Rect.unit ![0, 5] ![1, 1] inb_S1x128_S1x1_0_5)) (View.ld skb (Rect.unit ![0, 7] ![1, 1] inb_S1x128_S1x1_0_7))) (View.ld Vs (Rect.unit ![1, 0, 0] ![1, 256, 128] inb_S4x256x128_S1x256x128_1_0_0))

/-- Column block 4 of the result. -/
abbrev colv4 : FVec Ideal S128x128 .bf16 := k0_pay144 k0_pay8 b (k0_pay98 (k0_pay94 (View.ld skb (Rect.unit ![0, 8] ![1, 1] inb_S1x128_S1x1_0_8))) (k0_pay95 k0_pay7 cq sq b (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0)))) (k0_pay117 b (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (k0_pay99 (k0_pay94 (View.ld skb (Rect.unit ![0, 8] ![1, 1] inb_S1x128_S1x1_0_8))) (k0_pay95 k0_pay7 cq sq b (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0)))) (k0_pay105 b (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (View.ld skb (Rect.unit ![0, 10] ![1, 1] inb_S1x128_S1x1_0_10))) (k0_pay109 b (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (View.ld skb (Rect.unit ![0, 12] ![1, 1] inb_S1x128_S1x1_0_12))) (View.ld skb (Rect.unit ![0, 14] ![1, 1] inb_S1x128_S1x1_0_14)) (View.ld Vs (Rect.unit ![2, 0, 0] ![1, 256, 128] inb_S4x256x128_S1x256x128_2_0_0))) (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (k0_pay124 (k0_pay119 (View.ld skb (Rect.unit ![0, 9] ![1, 1] inb_S1x128_S1x1_0_9))) (k0_pay120 b (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (k0_pay121 b (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0)) (View.ld skb (Rect.unit ![0, 9] ![1, 1] inb_S1x128_S1x1_0_9))) (k0_pay122 b (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0)) (View.ld skb (Rect.unit ![0, 9] ![1, 1] inb_S1x128_S1x1_0_9)))) (k0_pay125 (k0_pay120 b (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (k0_pay122 b (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0)) (View.ld skb (Rect.unit ![0, 9] ![1, 1] inb_S1x128_S1x1_0_9)))) (k0_pay131 b (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (View.ld skb (Rect.unit ![0, 11] ![1, 1] inb_S1x128_S1x1_0_11))) (k0_pay135 b (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (View.ld skb (Rect.unit ![0, 13] ![1, 1] inb_S1x128_S1x1_0_13))) (View.ld skb (Rect.unit ![0, 15] ![1, 1] inb_S1x128_S1x1_0_15)) (View.ld Vs (Rect.unit ![3, 0, 0] ![1, 256, 128] inb_S4x256x128_S1x256x128_3_0_0))

/-- Column block 5 of the result. -/
abbrev colv5 : FVec Ideal S128x128 .bf16 := k0_pay145 k0_pay8 b (k0_pay104 b (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (View.ld skb (Rect.unit ![0, 10] ![1, 1] inb_S1x128_S1x1_0_10))) (k0_pay117 b (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (k0_pay99 (k0_pay94 (View.ld skb (Rect.unit ![0, 8] ![1, 1] inb_S1x128_S1x1_0_8))) (k0_pay95 k0_pay7 cq sq b (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0)))) (k0_pay105 b (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (View.ld skb (Rect.unit ![0, 10] ![1, 1] inb_S1x128_S1x1_0_10))) (k0_pay109 b (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (View.ld skb (Rect.unit ![0, 12] ![1, 1] inb_S1x128_S1x1_0_12))) (View.ld skb (Rect.unit ![0, 14] ![1, 1] inb_S1x128_S1x1_0_14)) (View.ld Vs (Rect.unit ![2, 0, 0] ![1, 256, 128] inb_S4x256x128_S1x256x128_2_0_0))) (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (k0_pay125 (k0_pay120 b (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (k0_pay122 b (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0)) (View.ld skb (Rect.unit ![0, 9] ![1, 1] inb_S1x128_S1x1_0_9)))) (k0_pay130 b (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (View.ld skb (Rect.unit ![0, 11] ![1, 1] inb_S1x128_S1x1_0_11))) (k0_pay131 b (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (View.ld skb (Rect.unit ![0, 11] ![1, 1] inb_S1x128_S1x1_0_11))) (k0_pay135 b (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (View.ld skb (Rect.unit ![0, 13] ![1, 1] inb_S1x128_S1x1_0_13))) (View.ld skb (Rect.unit ![0, 15] ![1, 1] inb_S1x128_S1x1_0_15)) (View.ld Vs (Rect.unit ![3, 0, 0] ![1, 256, 128] inb_S4x256x128_S1x256x128_3_0_0))

/-- Column block 6 of the result. -/
abbrev colv6 : FVec Ideal S128x128 .bf16 := k0_pay1 k0_pay8 (k0_pay111 (k0_pay106 (View.ld skb (Rect.unit ![0, 12] ![1, 1] inb_S1x128_S1x1_0_12))) (k0_pay108 b (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (View.ld skb (Rect.unit ![0, 12] ![1, 1] inb_S1x128_S1x1_0_12))) (k0_pay110 b (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (View.ld skb (Rect.unit ![0, 12] ![1, 1] inb_S1x128_S1x1_0_12)))) (k0_pay137 (k0_pay136 b (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (View.ld skb (Rect.unit ![0, 13] ![1, 1] inb_S1x128_S1x1_0_13))) (FloatOps.ofBits FTy.f32 1065353216#32)) (k0_pay143 b (k0_pay117 b (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (k0_pay99 (k0_pay94 (View.ld skb (Rect.unit ![0, 8] ![1, 1] inb_S1x128_S1x1_0_8))) (k0_pay95 k0_pay7 cq sq b (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0)))) (k0_pay105 b (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (View.ld skb (Rect.unit ![0, 10] ![1, 1] inb_S1x128_S1x1_0_10))) (k0_pay109 b (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (View.ld skb (Rect.unit ![0, 12] ![1, 1] inb_S1x128_S1x1_0_12))) (View.ld skb (Rect.unit ![0, 14] ![1, 1] inb_S1x128_S1x1_0_14)) (View.ld Vs (Rect.unit ![2, 0, 0] ![1, 256, 128] inb_S4x256x128_S1x256x128_2_0_0))) (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (k0_pay125 (k0_pay120 b (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (k0_pay122 b (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0)) (View.ld skb (Rect.unit ![0, 9] ![1, 1] inb_S1x128_S1x1_0_9)))) (k0_pay131 b (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (View.ld skb (Rect.unit ![0, 11] ![1, 1] inb_S1x128_S1x1_0_11))) (k0_pay135 b (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (View.ld skb (Rect.unit ![0, 13] ![1, 1] inb_S1x128_S1x1_0_13))) (View.ld skb (Rect.unit ![0, 15] ![1, 1] inb_S1x128_S1x1_0_15)) (View.ld Vs (Rect.unit ![3, 0, 0] ![1, 256, 128] inb_S4x256x128_S1x256x128_3_0_0)))

/-- Column block 7 of the result. -/
abbrev colv7 : FVec Ideal S128x128 .bf16 := k0_pay2 k0_pay8 (k0_pay116 b (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (View.ld skb (Rect.unit ![0, 14] ![1, 1] inb_S1x128_S1x1_0_14))) (k0_pay142 b (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (View.ld skb (Rect.unit ![0, 15] ![1, 1] inb_S1x128_S1x1_0_15))) (k0_pay143 b (k0_pay117 b (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (k0_pay99 (k0_pay94 (View.ld skb (Rect.unit ![0, 8] ![1, 1] inb_S1x128_S1x1_0_8))) (k0_pay95 k0_pay7 cq sq b (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0)))) (k0_pay105 b (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (View.ld skb (Rect.unit ![0, 10] ![1, 1] inb_S1x128_S1x1_0_10))) (k0_pay109 b (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (View.ld skb (Rect.unit ![0, 12] ![1, 1] inb_S1x128_S1x1_0_12))) (View.ld skb (Rect.unit ![0, 14] ![1, 1] inb_S1x128_S1x1_0_14)) (View.ld Vs (Rect.unit ![2, 0, 0] ![1, 256, 128] inb_S4x256x128_S1x256x128_2_0_0))) (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (k0_pay125 (k0_pay120 b (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (k0_pay122 b (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0)) (View.ld skb (Rect.unit ![0, 9] ![1, 1] inb_S1x128_S1x1_0_9)))) (k0_pay131 b (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (View.ld skb (Rect.unit ![0, 11] ![1, 1] inb_S1x128_S1x1_0_11))) (k0_pay135 b (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (View.ld skb (Rect.unit ![0, 13] ![1, 1] inb_S1x128_S1x1_0_13))) (View.ld skb (Rect.unit ![0, 15] ![1, 1] inb_S1x128_S1x1_0_15)) (View.ld Vs (Rect.unit ![3, 0, 0] ![1, 256, 128] inb_S4x256x128_S1x256x128_3_0_0)))

/-- The block of results, by its eight column blocks. -/
abbrev OUT : S128x1024.Idx → Elt Ideal .bf16 := View.canon (Val := Elt Ideal) (s := S128x1024) (e := .bf16)
  [⟨Rect.unit ![0, 896] ![128, 128] inb_S128x1024_S128x128_0_896, colv7 cq sq b q skb Ks Vs⟩,
   ⟨Rect.unit ![0, 768] ![128, 128] inb_S128x1024_S128x128_0_768, colv6 cq sq b q skb Ks Vs⟩,
   ⟨Rect.unit ![0, 640] ![128, 128] inb_S128x1024_S128x128_0_640, colv5 cq sq b q skb Ks Vs⟩,
   ⟨Rect.unit ![0, 512] ![128, 128] inb_S128x1024_S128x128_0_512, colv4 cq sq b q skb Ks Vs⟩,
   ⟨Rect.unit ![0, 384] ![128, 128] inb_S128x1024_S128x128_0_384, colv3 cq sq b q skb Ks Vs⟩,
   ⟨Rect.unit ![0, 256] ![128, 128] inb_S128x1024_S128x128_0_256, colv2 cq sq b q skb Ks Vs⟩,
   ⟨Rect.unit ![0, 128] ![128, 128] inb_S128x1024_S128x128_0_128, colv1 cq sq b q skb Ks Vs⟩,
   ⟨Rect.unit ![0, 0] ![128, 128] inb_S128x1024_S128x128_0_0, colv0 cq sq b q skb Ks Vs⟩]

theorem sc0_0 (a : Fin 128) : row (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) b (⟨a.val, by omega⟩ : Fin 512) a = score cq sq b q Ks 0 (by omega) (0 : Fin 4) a := by
  funext x
  show (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) (ix2 (⟨a.val, by omega⟩ : Fin 512) x) + b (ix2 a x) = _
  rw [s35]
  unfold score
  refine congrArg (fun u : EReal => u + b (ix2 a x)) (Finset.sum_congr rfl fun l _ => congrArg₂ (fun u v : EReal => u * v) ?_ ?_)
  · exact (t34_0 a _ _ _ _ _ _ _ l).trans (turn_ld _ _ _ q 0 (by omega) inb_S128x1024_S128x128_0_0 a l)
  · exact congrArg Ks (idx3 0 (by omega) _ x l)

theorem sc0_1 (a : Fin 128) : row (k0_pay60 (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0))) b (⟨a.val, by omega⟩ : Fin 512) a = score cq sq b q Ks 0 (by omega) (1 : Fin 4) a := by
  funext x
  show (k0_pay60 (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0))) (ix2 (⟨a.val, by omega⟩ : Fin 512) x) + b (ix2 a x) = _
  rw [s60]
  unfold score
  refine congrArg (fun u : EReal => u + b (ix2 a x)) (Finset.sum_congr rfl fun l _ => congrArg₂ (fun u v : EReal => u * v) ?_ ?_)
  · exact (t34_0 a _ _ _ _ _ _ _ l).trans (turn_ld _ _ _ q 0 (by omega) inb_S128x1024_S128x128_0_0 a l)
  · exact congrArg Ks (idx3 1 (by omega) _ x l)

theorem out0 (a j : Fin 128) : OUT cq sq b q skb Ks Vs (ix2 a (⟨0 + j.val, by omega⟩ : Fin 1024))
    = mix (k0_pay8 (ix2 a j)) (score cq sq b q Ks 0 (by omega) (0 : Fin 4) a) (skb (ix2 0 (0 : Fin 128))) (fun x => Vs (ix3 (0 : Fin 4) x j))
      (score cq sq b q Ks 0 (by omega) (1 : Fin 4) a) (skb (ix2 0 (1 : Fin 128))) (fun x => Vs (ix3 (1 : Fin 4) x j)) := by
  refine (miss2 896 _ _ _ a _ (by show 0 + j.val < 896; omega)).trans ?_
  refine (miss2 768 _ _ _ a _ (by show 0 + j.val < 768; omega)).trans ?_
  refine (miss2 640 _ _ _ a _ (by show 0 + j.val < 640; omega)).trans ?_
  refine (miss2 512 _ _ _ a _ (by show 0 + j.val < 512; omega)).trans ?_
  refine (miss2 384 _ _ _ a _ (by show 0 + j.val < 384; omega)).trans ?_
  refine (miss2 256 _ _ _ a _ (by show 0 + j.val < 256; omega)).trans ?_
  refine (miss2 128 _ _ _ a _ (by show 0 + j.val < 128; omega)).trans ?_
  refine (hit2 0 _ _ _ a j (by omega)).trans ?_
  refine (col0 b a k0_pay8 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0)) (View.ld Vs (Rect.unit ![0, 0, 0] ![1, 256, 128] inb_S4x256x128_S1x256x128_0_0_0)) (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0)) (View.ld Vs (Rect.unit ![1, 0, 0] ![1, 256, 128] inb_S4x256x128_S1x256x128_1_0_0)) (View.ld skb (Rect.unit ![0, 0] ![1, 1] inb_S1x128_S1x1_0_0)) (View.ld skb (Rect.unit ![0, 1] ![1, 1] inb_S1x128_S1x1_0_1)) (View.ld skb (Rect.unit ![0, 2] ![1, 1] inb_S1x128_S1x1_0_2)) (View.ld skb (Rect.unit ![0, 3] ![1, 1] inb_S1x128_S1x1_0_3)) (View.ld skb (Rect.unit ![0, 4] ![1, 1] inb_S1x128_S1x1_0_4)) (View.ld skb (Rect.unit ![0, 5] ![1, 1] inb_S1x128_S1x1_0_5)) (View.ld skb (Rect.unit ![0, 6] ![1, 1] inb_S1x128_S1x1_0_6)) (View.ld skb (Rect.unit ![0, 7] ![1, 1] inb_S1x128_S1x1_0_7)) j).trans ?_
  rw [sc0_0, sc0_1]
  unfold sk
  simp only [View.ld]
  rw [idx1 0 (by omega), idx1 1 (by omega)]
  simp only [idx3 0 (by omega), idx3 1 (by omega)]
  rfl

theorem sc1_0 (a : Fin 128) : row (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) b (⟨128 + a.val, by omega⟩ : Fin 512) a = score cq sq b q Ks 1 (by omega) (0 : Fin 4) a := by
  funext x
  show (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) (ix2 (⟨128 + a.val, by omega⟩ : Fin 512) x) + b (ix2 a x) = _
  rw [s35]
  unfold score
  refine congrArg (fun u : EReal => u + b (ix2 a x)) (Finset.sum_congr rfl fun l _ => congrArg₂ (fun u v : EReal => u * v) ?_ ?_)
  · exact (t34_128 a _ _ _ _ _ _ _ l).trans (turn_ld _ _ _ q 1 (by omega) inb_S128x1024_S128x128_0_128 a l)
  · exact congrArg Ks (idx3 0 (by omega) _ x l)

theorem sc1_1 (a : Fin 128) : row (k0_pay60 (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0))) b (⟨128 + a.val, by omega⟩ : Fin 512) a = score cq sq b q Ks 1 (by omega) (1 : Fin 4) a := by
  funext x
  show (k0_pay60 (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0))) (ix2 (⟨128 + a.val, by omega⟩ : Fin 512) x) + b (ix2 a x) = _
  rw [s60]
  unfold score
  refine congrArg (fun u : EReal => u + b (ix2 a x)) (Finset.sum_congr rfl fun l _ => congrArg₂ (fun u v : EReal => u * v) ?_ ?_)
  · exact (t34_128 a _ _ _ _ _ _ _ l).trans (turn_ld _ _ _ q 1 (by omega) inb_S128x1024_S128x128_0_128 a l)
  · exact congrArg Ks (idx3 1 (by omega) _ x l)

theorem out1 (a j : Fin 128) : OUT cq sq b q skb Ks Vs (ix2 a (⟨128 + j.val, by omega⟩ : Fin 1024))
    = mix (k0_pay8 (ix2 a j)) (score cq sq b q Ks 1 (by omega) (0 : Fin 4) a) (skb (ix2 0 (2 : Fin 128))) (fun x => Vs (ix3 (0 : Fin 4) x j))
      (score cq sq b q Ks 1 (by omega) (1 : Fin 4) a) (skb (ix2 0 (3 : Fin 128))) (fun x => Vs (ix3 (1 : Fin 4) x j)) := by
  refine (miss2 896 _ _ _ a _ (by show 128 + j.val < 896; omega)).trans ?_
  refine (miss2 768 _ _ _ a _ (by show 128 + j.val < 768; omega)).trans ?_
  refine (miss2 640 _ _ _ a _ (by show 128 + j.val < 640; omega)).trans ?_
  refine (miss2 512 _ _ _ a _ (by show 128 + j.val < 512; omega)).trans ?_
  refine (miss2 384 _ _ _ a _ (by show 128 + j.val < 384; omega)).trans ?_
  refine (miss2 256 _ _ _ a _ (by show 128 + j.val < 256; omega)).trans ?_
  refine (hit2 128 _ _ _ a j (by omega)).trans ?_
  refine (col1 b a k0_pay8 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0)) (View.ld Vs (Rect.unit ![0, 0, 0] ![1, 256, 128] inb_S4x256x128_S1x256x128_0_0_0)) (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0)) (View.ld Vs (Rect.unit ![1, 0, 0] ![1, 256, 128] inb_S4x256x128_S1x256x128_1_0_0)) (View.ld skb (Rect.unit ![0, 0] ![1, 1] inb_S1x128_S1x1_0_0)) (View.ld skb (Rect.unit ![0, 1] ![1, 1] inb_S1x128_S1x1_0_1)) (View.ld skb (Rect.unit ![0, 2] ![1, 1] inb_S1x128_S1x1_0_2)) (View.ld skb (Rect.unit ![0, 3] ![1, 1] inb_S1x128_S1x1_0_3)) (View.ld skb (Rect.unit ![0, 4] ![1, 1] inb_S1x128_S1x1_0_4)) (View.ld skb (Rect.unit ![0, 5] ![1, 1] inb_S1x128_S1x1_0_5)) (View.ld skb (Rect.unit ![0, 6] ![1, 1] inb_S1x128_S1x1_0_6)) (View.ld skb (Rect.unit ![0, 7] ![1, 1] inb_S1x128_S1x1_0_7)) j).trans ?_
  rw [sc1_0, sc1_1]
  unfold sk
  simp only [View.ld]
  rw [idx1 2 (by omega), idx1 3 (by omega)]
  simp only [idx3 0 (by omega), idx3 1 (by omega)]
  rfl

theorem sc2_0 (a : Fin 128) : row (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) b (⟨256 + a.val, by omega⟩ : Fin 512) a = score cq sq b q Ks 2 (by omega) (0 : Fin 4) a := by
  funext x
  show (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) (ix2 (⟨256 + a.val, by omega⟩ : Fin 512) x) + b (ix2 a x) = _
  rw [s35]
  unfold score
  refine congrArg (fun u : EReal => u + b (ix2 a x)) (Finset.sum_congr rfl fun l _ => congrArg₂ (fun u v : EReal => u * v) ?_ ?_)
  · exact (t34_256 a _ _ _ _ _ _ _ l).trans (turn_ld _ _ _ q 2 (by omega) inb_S128x1024_S128x128_0_256 a l)
  · exact congrArg Ks (idx3 0 (by omega) _ x l)

theorem sc2_1 (a : Fin 128) : row (k0_pay60 (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0))) b (⟨256 + a.val, by omega⟩ : Fin 512) a = score cq sq b q Ks 2 (by omega) (1 : Fin 4) a := by
  funext x
  show (k0_pay60 (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0))) (ix2 (⟨256 + a.val, by omega⟩ : Fin 512) x) + b (ix2 a x) = _
  rw [s60]
  unfold score
  refine congrArg (fun u : EReal => u + b (ix2 a x)) (Finset.sum_congr rfl fun l _ => congrArg₂ (fun u v : EReal => u * v) ?_ ?_)
  · exact (t34_256 a _ _ _ _ _ _ _ l).trans (turn_ld _ _ _ q 2 (by omega) inb_S128x1024_S128x128_0_256 a l)
  · exact congrArg Ks (idx3 1 (by omega) _ x l)

theorem out2 (a j : Fin 128) : OUT cq sq b q skb Ks Vs (ix2 a (⟨256 + j.val, by omega⟩ : Fin 1024))
    = mix (k0_pay8 (ix2 a j)) (score cq sq b q Ks 2 (by omega) (0 : Fin 4) a) (skb (ix2 0 (4 : Fin 128))) (fun x => Vs (ix3 (0 : Fin 4) x j))
      (score cq sq b q Ks 2 (by omega) (1 : Fin 4) a) (skb (ix2 0 (5 : Fin 128))) (fun x => Vs (ix3 (1 : Fin 4) x j)) := by
  refine (miss2 896 _ _ _ a _ (by show 256 + j.val < 896; omega)).trans ?_
  refine (miss2 768 _ _ _ a _ (by show 256 + j.val < 768; omega)).trans ?_
  refine (miss2 640 _ _ _ a _ (by show 256 + j.val < 640; omega)).trans ?_
  refine (miss2 512 _ _ _ a _ (by show 256 + j.val < 512; omega)).trans ?_
  refine (miss2 384 _ _ _ a _ (by show 256 + j.val < 384; omega)).trans ?_
  refine (hit2 256 _ _ _ a j (by omega)).trans ?_
  refine (col2 b a k0_pay8 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0)) (View.ld Vs (Rect.unit ![0, 0, 0] ![1, 256, 128] inb_S4x256x128_S1x256x128_0_0_0)) (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0)) (View.ld Vs (Rect.unit ![1, 0, 0] ![1, 256, 128] inb_S4x256x128_S1x256x128_1_0_0)) (View.ld skb (Rect.unit ![0, 0] ![1, 1] inb_S1x128_S1x1_0_0)) (View.ld skb (Rect.unit ![0, 1] ![1, 1] inb_S1x128_S1x1_0_1)) (View.ld skb (Rect.unit ![0, 2] ![1, 1] inb_S1x128_S1x1_0_2)) (View.ld skb (Rect.unit ![0, 3] ![1, 1] inb_S1x128_S1x1_0_3)) (View.ld skb (Rect.unit ![0, 4] ![1, 1] inb_S1x128_S1x1_0_4)) (View.ld skb (Rect.unit ![0, 5] ![1, 1] inb_S1x128_S1x1_0_5)) (View.ld skb (Rect.unit ![0, 6] ![1, 1] inb_S1x128_S1x1_0_6)) (View.ld skb (Rect.unit ![0, 7] ![1, 1] inb_S1x128_S1x1_0_7)) j).trans ?_
  rw [sc2_0, sc2_1]
  unfold sk
  simp only [View.ld]
  rw [idx1 4 (by omega), idx1 5 (by omega)]
  simp only [idx3 0 (by omega), idx3 1 (by omega)]
  rfl

theorem sc3_0 (a : Fin 128) : row (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) b (⟨384 + a.val, by omega⟩ : Fin 512) a = score cq sq b q Ks 3 (by omega) (0 : Fin 4) a := by
  funext x
  show (k0_pay35 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0))) (ix2 (⟨384 + a.val, by omega⟩ : Fin 512) x) + b (ix2 a x) = _
  rw [s35]
  unfold score
  refine congrArg (fun u : EReal => u + b (ix2 a x)) (Finset.sum_congr rfl fun l _ => congrArg₂ (fun u v : EReal => u * v) ?_ ?_)
  · exact (t34_384 a _ _ _ _ _ _ _ l).trans (turn_ld _ _ _ q 3 (by omega) inb_S128x1024_S128x128_0_384 a l)
  · exact congrArg Ks (idx3 0 (by omega) _ x l)

theorem sc3_1 (a : Fin 128) : row (k0_pay60 (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0))) b (⟨384 + a.val, by omega⟩ : Fin 512) a = score cq sq b q Ks 3 (by omega) (1 : Fin 4) a := by
  funext x
  show (k0_pay60 (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0))) (ix2 (⟨384 + a.val, by omega⟩ : Fin 512) x) + b (ix2 a x) = _
  rw [s60]
  unfold score
  refine congrArg (fun u : EReal => u + b (ix2 a x)) (Finset.sum_congr rfl fun l _ => congrArg₂ (fun u v : EReal => u * v) ?_ ?_)
  · exact (t34_384 a _ _ _ _ _ _ _ l).trans (turn_ld _ _ _ q 3 (by omega) inb_S128x1024_S128x128_0_384 a l)
  · exact congrArg Ks (idx3 1 (by omega) _ x l)

theorem out3 (a j : Fin 128) : OUT cq sq b q skb Ks Vs (ix2 a (⟨384 + j.val, by omega⟩ : Fin 1024))
    = mix (k0_pay8 (ix2 a j)) (score cq sq b q Ks 3 (by omega) (0 : Fin 4) a) (skb (ix2 0 (6 : Fin 128))) (fun x => Vs (ix3 (0 : Fin 4) x j))
      (score cq sq b q Ks 3 (by omega) (1 : Fin 4) a) (skb (ix2 0 (7 : Fin 128))) (fun x => Vs (ix3 (1 : Fin 4) x j)) := by
  refine (miss2 896 _ _ _ a _ (by show 384 + j.val < 896; omega)).trans ?_
  refine (miss2 768 _ _ _ a _ (by show 384 + j.val < 768; omega)).trans ?_
  refine (miss2 640 _ _ _ a _ (by show 384 + j.val < 640; omega)).trans ?_
  refine (miss2 512 _ _ _ a _ (by show 384 + j.val < 512; omega)).trans ?_
  refine (hit2 384 _ _ _ a j (by omega)).trans ?_
  refine (col3 b a k0_pay8 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384)) (View.ld Ks (Rect.unit ![0, 0, 0] ![1, 256, 128] inb_S4x256x128_S1x256x128_0_0_0)) (View.ld Vs (Rect.unit ![0, 0, 0] ![1, 256, 128] inb_S4x256x128_S1x256x128_0_0_0)) (k0_pay34 k0_pay7 cq sq (k0_pay31 k0_pay7 cq sq (View.ld q (Rect.unit ![0, 0] ![128, 128] inb_S128x1024_S128x128_0_0))) (k0_pay32 k0_pay7 cq sq (View.ld q (Rect.unit ![0, 128] ![128, 128] inb_S128x1024_S128x128_0_128))) (k0_pay33 k0_pay7 cq sq (View.ld q (Rect.unit ![0, 256] ![128, 128] inb_S128x1024_S128x128_0_256))) (View.ld q (Rect.unit ![0, 384] ![128, 128] inb_S128x1024_S128x128_0_384))) (View.ld Ks (Rect.unit ![1, 0, 0] ![1, 256, 128] inb_S4x256x128_S1x256x128_1_0_0)) (View.ld Vs (Rect.unit ![1, 0, 0] ![1, 256, 128] inb_S4x256x128_S1x256x128_1_0_0)) (View.ld skb (Rect.unit ![0, 0] ![1, 1] inb_S1x128_S1x1_0_0)) (View.ld skb (Rect.unit ![0, 1] ![1, 1] inb_S1x128_S1x1_0_1)) (View.ld skb (Rect.unit ![0, 2] ![1, 1] inb_S1x128_S1x1_0_2)) (View.ld skb (Rect.unit ![0, 3] ![1, 1] inb_S1x128_S1x1_0_3)) (View.ld skb (Rect.unit ![0, 4] ![1, 1] inb_S1x128_S1x1_0_4)) (View.ld skb (Rect.unit ![0, 5] ![1, 1] inb_S1x128_S1x1_0_5)) (View.ld skb (Rect.unit ![0, 6] ![1, 1] inb_S1x128_S1x1_0_6)) (View.ld skb (Rect.unit ![0, 7] ![1, 1] inb_S1x128_S1x1_0_7)) j).trans ?_
  rw [sc3_0, sc3_1]
  unfold sk
  simp only [View.ld]
  rw [idx1 6 (by omega), idx1 7 (by omega)]
  simp only [idx3 0 (by omega), idx3 1 (by omega)]
  rfl

theorem sc4_0 (a : Fin 128) : row (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) b (⟨a.val, by omega⟩ : Fin 512) a = score cq sq b q Ks 4 (by omega) (2 : Fin 4) a := by
  funext x
  show (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (ix2 (⟨a.val, by omega⟩ : Fin 512) x) + b (ix2 a x) = _
  rw [s93]
  unfold score
  refine congrArg (fun u : EReal => u + b (ix2 a x)) (Finset.sum_congr rfl fun l _ => congrArg₂ (fun u v : EReal => u * v) ?_ ?_)
  · exact (t92_0 a _ _ _ _ _ _ _ l).trans (turn_ld _ _ _ q 4 (by omega) inb_S128x1024_S128x128_0_512 a l)
  · exact congrArg Ks (idx3 2 (by omega) _ x l)

theorem sc4_1 (a : Fin 128) : row (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) b (⟨a.val, by omega⟩ : Fin 512) a = score cq sq b q Ks 4 (by omega) (3 : Fin 4) a := by
  funext x
  show (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (ix2 (⟨a.val, by omega⟩ : Fin 512) x) + b (ix2 a x) = _
  rw [s118]
  unfold score
  refine congrArg (fun u : EReal => u + b (ix2 a x)) (Finset.sum_congr rfl fun l _ => congrArg₂ (fun u v : EReal => u * v) ?_ ?_)
  · exact (t92_0 a _ _ _ _ _ _ _ l).trans (turn_ld _ _ _ q 4 (by omega) inb_S128x1024_S128x128_0_512 a l)
  · exact congrArg Ks (idx3 3 (by omega) _ x l)

theorem out4 (a j : Fin 128) : OUT cq sq b q skb Ks Vs (ix2 a (⟨512 + j.val, by omega⟩ : Fin 1024))
    = mix (k0_pay8 (ix2 a j)) (score cq sq b q Ks 4 (by omega) (2 : Fin 4) a) (skb (ix2 0 (8 : Fin 128))) (fun x => Vs (ix3 (2 : Fin 4) x j))
      (score cq sq b q Ks 4 (by omega) (3 : Fin 4) a) (skb (ix2 0 (9 : Fin 128))) (fun x => Vs (ix3 (3 : Fin 4) x j)) := by
  refine (miss2 896 _ _ _ a _ (by show 512 + j.val < 896; omega)).trans ?_
  refine (miss2 768 _ _ _ a _ (by show 512 + j.val < 768; omega)).trans ?_
  refine (miss2 640 _ _ _ a _ (by show 512 + j.val < 640; omega)).trans ?_
  refine (hit2 512 _ _ _ a j (by omega)).trans ?_
  refine (col4 b a k0_pay8 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0)) (View.ld Vs (Rect.unit ![2, 0, 0] ![1, 256, 128] inb_S4x256x128_S1x256x128_2_0_0)) (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0)) (View.ld Vs (Rect.unit ![3, 0, 0] ![1, 256, 128] inb_S4x256x128_S1x256x128_3_0_0)) (View.ld skb (Rect.unit ![0, 8] ![1, 1] inb_S1x128_S1x1_0_8)) (View.ld skb (Rect.unit ![0, 9] ![1, 1] inb_S1x128_S1x1_0_9)) (View.ld skb (Rect.unit ![0, 10] ![1, 1] inb_S1x128_S1x1_0_10)) (View.ld skb (Rect.unit ![0, 11] ![1, 1] inb_S1x128_S1x1_0_11)) (View.ld skb (Rect.unit ![0, 12] ![1, 1] inb_S1x128_S1x1_0_12)) (View.ld skb (Rect.unit ![0, 13] ![1, 1] inb_S1x128_S1x1_0_13)) (View.ld skb (Rect.unit ![0, 14] ![1, 1] inb_S1x128_S1x1_0_14)) (View.ld skb (Rect.unit ![0, 15] ![1, 1] inb_S1x128_S1x1_0_15)) j).trans ?_
  rw [sc4_0, sc4_1]
  unfold sk
  simp only [View.ld]
  rw [idx1 8 (by omega), idx1 9 (by omega)]
  simp only [idx3 2 (by omega), idx3 3 (by omega)]
  rfl

theorem sc5_0 (a : Fin 128) : row (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) b (⟨128 + a.val, by omega⟩ : Fin 512) a = score cq sq b q Ks 5 (by omega) (2 : Fin 4) a := by
  funext x
  show (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (ix2 (⟨128 + a.val, by omega⟩ : Fin 512) x) + b (ix2 a x) = _
  rw [s93]
  unfold score
  refine congrArg (fun u : EReal => u + b (ix2 a x)) (Finset.sum_congr rfl fun l _ => congrArg₂ (fun u v : EReal => u * v) ?_ ?_)
  · exact (t92_128 a _ _ _ _ _ _ _ l).trans (turn_ld _ _ _ q 5 (by omega) inb_S128x1024_S128x128_0_640 a l)
  · exact congrArg Ks (idx3 2 (by omega) _ x l)

theorem sc5_1 (a : Fin 128) : row (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) b (⟨128 + a.val, by omega⟩ : Fin 512) a = score cq sq b q Ks 5 (by omega) (3 : Fin 4) a := by
  funext x
  show (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (ix2 (⟨128 + a.val, by omega⟩ : Fin 512) x) + b (ix2 a x) = _
  rw [s118]
  unfold score
  refine congrArg (fun u : EReal => u + b (ix2 a x)) (Finset.sum_congr rfl fun l _ => congrArg₂ (fun u v : EReal => u * v) ?_ ?_)
  · exact (t92_128 a _ _ _ _ _ _ _ l).trans (turn_ld _ _ _ q 5 (by omega) inb_S128x1024_S128x128_0_640 a l)
  · exact congrArg Ks (idx3 3 (by omega) _ x l)

theorem out5 (a j : Fin 128) : OUT cq sq b q skb Ks Vs (ix2 a (⟨640 + j.val, by omega⟩ : Fin 1024))
    = mix (k0_pay8 (ix2 a j)) (score cq sq b q Ks 5 (by omega) (2 : Fin 4) a) (skb (ix2 0 (10 : Fin 128))) (fun x => Vs (ix3 (2 : Fin 4) x j))
      (score cq sq b q Ks 5 (by omega) (3 : Fin 4) a) (skb (ix2 0 (11 : Fin 128))) (fun x => Vs (ix3 (3 : Fin 4) x j)) := by
  refine (miss2 896 _ _ _ a _ (by show 640 + j.val < 896; omega)).trans ?_
  refine (miss2 768 _ _ _ a _ (by show 640 + j.val < 768; omega)).trans ?_
  refine (hit2 640 _ _ _ a j (by omega)).trans ?_
  refine (col5 b a k0_pay8 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0)) (View.ld Vs (Rect.unit ![2, 0, 0] ![1, 256, 128] inb_S4x256x128_S1x256x128_2_0_0)) (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0)) (View.ld Vs (Rect.unit ![3, 0, 0] ![1, 256, 128] inb_S4x256x128_S1x256x128_3_0_0)) (View.ld skb (Rect.unit ![0, 8] ![1, 1] inb_S1x128_S1x1_0_8)) (View.ld skb (Rect.unit ![0, 9] ![1, 1] inb_S1x128_S1x1_0_9)) (View.ld skb (Rect.unit ![0, 10] ![1, 1] inb_S1x128_S1x1_0_10)) (View.ld skb (Rect.unit ![0, 11] ![1, 1] inb_S1x128_S1x1_0_11)) (View.ld skb (Rect.unit ![0, 12] ![1, 1] inb_S1x128_S1x1_0_12)) (View.ld skb (Rect.unit ![0, 13] ![1, 1] inb_S1x128_S1x1_0_13)) (View.ld skb (Rect.unit ![0, 14] ![1, 1] inb_S1x128_S1x1_0_14)) (View.ld skb (Rect.unit ![0, 15] ![1, 1] inb_S1x128_S1x1_0_15)) j).trans ?_
  rw [sc5_0, sc5_1]
  unfold sk
  simp only [View.ld]
  rw [idx1 10 (by omega), idx1 11 (by omega)]
  simp only [idx3 2 (by omega), idx3 3 (by omega)]
  rfl

theorem sc6_0 (a : Fin 128) : row (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) b (⟨256 + a.val, by omega⟩ : Fin 512) a = score cq sq b q Ks 6 (by omega) (2 : Fin 4) a := by
  funext x
  show (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (ix2 (⟨256 + a.val, by omega⟩ : Fin 512) x) + b (ix2 a x) = _
  rw [s93]
  unfold score
  refine congrArg (fun u : EReal => u + b (ix2 a x)) (Finset.sum_congr rfl fun l _ => congrArg₂ (fun u v : EReal => u * v) ?_ ?_)
  · exact (t92_256 a _ _ _ _ _ _ _ l).trans (turn_ld _ _ _ q 6 (by omega) inb_S128x1024_S128x128_0_768 a l)
  · exact congrArg Ks (idx3 2 (by omega) _ x l)

theorem sc6_1 (a : Fin 128) : row (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) b (⟨256 + a.val, by omega⟩ : Fin 512) a = score cq sq b q Ks 6 (by omega) (3 : Fin 4) a := by
  funext x
  show (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (ix2 (⟨256 + a.val, by omega⟩ : Fin 512) x) + b (ix2 a x) = _
  rw [s118]
  unfold score
  refine congrArg (fun u : EReal => u + b (ix2 a x)) (Finset.sum_congr rfl fun l _ => congrArg₂ (fun u v : EReal => u * v) ?_ ?_)
  · exact (t92_256 a _ _ _ _ _ _ _ l).trans (turn_ld _ _ _ q 6 (by omega) inb_S128x1024_S128x128_0_768 a l)
  · exact congrArg Ks (idx3 3 (by omega) _ x l)

theorem out6 (a j : Fin 128) : OUT cq sq b q skb Ks Vs (ix2 a (⟨768 + j.val, by omega⟩ : Fin 1024))
    = mix (k0_pay8 (ix2 a j)) (score cq sq b q Ks 6 (by omega) (2 : Fin 4) a) (skb (ix2 0 (12 : Fin 128))) (fun x => Vs (ix3 (2 : Fin 4) x j))
      (score cq sq b q Ks 6 (by omega) (3 : Fin 4) a) (skb (ix2 0 (13 : Fin 128))) (fun x => Vs (ix3 (3 : Fin 4) x j)) := by
  refine (miss2 896 _ _ _ a _ (by show 768 + j.val < 896; omega)).trans ?_
  refine (hit2 768 _ _ _ a j (by omega)).trans ?_
  refine (col6 b a k0_pay8 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0)) (View.ld Vs (Rect.unit ![2, 0, 0] ![1, 256, 128] inb_S4x256x128_S1x256x128_2_0_0)) (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0)) (View.ld Vs (Rect.unit ![3, 0, 0] ![1, 256, 128] inb_S4x256x128_S1x256x128_3_0_0)) (View.ld skb (Rect.unit ![0, 8] ![1, 1] inb_S1x128_S1x1_0_8)) (View.ld skb (Rect.unit ![0, 9] ![1, 1] inb_S1x128_S1x1_0_9)) (View.ld skb (Rect.unit ![0, 10] ![1, 1] inb_S1x128_S1x1_0_10)) (View.ld skb (Rect.unit ![0, 11] ![1, 1] inb_S1x128_S1x1_0_11)) (View.ld skb (Rect.unit ![0, 12] ![1, 1] inb_S1x128_S1x1_0_12)) (View.ld skb (Rect.unit ![0, 13] ![1, 1] inb_S1x128_S1x1_0_13)) (View.ld skb (Rect.unit ![0, 14] ![1, 1] inb_S1x128_S1x1_0_14)) (View.ld skb (Rect.unit ![0, 15] ![1, 1] inb_S1x128_S1x1_0_15)) j).trans ?_
  rw [sc6_0, sc6_1]
  unfold sk
  simp only [View.ld]
  rw [idx1 12 (by omega), idx1 13 (by omega)]
  simp only [idx3 2 (by omega), idx3 3 (by omega)]
  rfl

theorem sc7_0 (a : Fin 128) : row (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) b (⟨384 + a.val, by omega⟩ : Fin 512) a = score cq sq b q Ks 7 (by omega) (2 : Fin 4) a := by
  funext x
  show (k0_pay93 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0))) (ix2 (⟨384 + a.val, by omega⟩ : Fin 512) x) + b (ix2 a x) = _
  rw [s93]
  unfold score
  refine congrArg (fun u : EReal => u + b (ix2 a x)) (Finset.sum_congr rfl fun l _ => congrArg₂ (fun u v : EReal => u * v) ?_ ?_)
  · exact (t92_384 a _ _ _ _ _ _ _ l).trans (turn_ld _ _ _ q 7 (by omega) inb_S128x1024_S128x128_0_896 a l)
  · exact congrArg Ks (idx3 2 (by omega) _ x l)

theorem sc7_1 (a : Fin 128) : row (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) b (⟨384 + a.val, by omega⟩ : Fin 512) a = score cq sq b q Ks 7 (by omega) (3 : Fin 4) a := by
  funext x
  show (k0_pay118 (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0))) (ix2 (⟨384 + a.val, by omega⟩ : Fin 512) x) + b (ix2 a x) = _
  rw [s118]
  unfold score
  refine congrArg (fun u : EReal => u + b (ix2 a x)) (Finset.sum_congr rfl fun l _ => congrArg₂ (fun u v : EReal => u * v) ?_ ?_)
  · exact (t92_384 a _ _ _ _ _ _ _ l).trans (turn_ld _ _ _ q 7 (by omega) inb_S128x1024_S128x128_0_896 a l)
  · exact congrArg Ks (idx3 3 (by omega) _ x l)

theorem out7 (a j : Fin 128) : OUT cq sq b q skb Ks Vs (ix2 a (⟨896 + j.val, by omega⟩ : Fin 1024))
    = mix (k0_pay8 (ix2 a j)) (score cq sq b q Ks 7 (by omega) (2 : Fin 4) a) (skb (ix2 0 (14 : Fin 128))) (fun x => Vs (ix3 (2 : Fin 4) x j))
      (score cq sq b q Ks 7 (by omega) (3 : Fin 4) a) (skb (ix2 0 (15 : Fin 128))) (fun x => Vs (ix3 (3 : Fin 4) x j)) := by
  refine (hit2 896 _ _ _ a j (by omega)).trans ?_
  refine (col7 b a k0_pay8 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896)) (View.ld Ks (Rect.unit ![2, 0, 0] ![1, 256, 128] inb_S4x256x128_S1x256x128_2_0_0)) (View.ld Vs (Rect.unit ![2, 0, 0] ![1, 256, 128] inb_S4x256x128_S1x256x128_2_0_0)) (k0_pay92 k0_pay7 cq sq (k0_pay90 (View.ld q (Rect.unit ![0, 512] ![128, 128] inb_S128x1024_S128x128_0_512))) (k0_pay91 (View.ld q (Rect.unit ![0, 512] ![128, 128] inb_S128x1024_S128x128_0_512))) 32#32 (View.ld q (Rect.unit ![0, 640] ![128, 128] inb_S128x1024_S128x128_0_640)) (View.ld q (Rect.unit ![0, 768] ![128, 128] inb_S128x1024_S128x128_0_768)) (View.ld q (Rect.unit ![0, 896] ![128, 128] inb_S128x1024_S128x128_0_896))) (View.ld Ks (Rect.unit ![3, 0, 0] ![1, 256, 128] inb_S4x256x128_S1x256x128_3_0_0)) (View.ld Vs (Rect.unit ![3, 0, 0] ![1, 256, 128] inb_S4x256x128_S1x256x128_3_0_0)) (View.ld skb (Rect.unit ![0, 8] ![1, 1] inb_S1x128_S1x1_0_8)) (View.ld skb (Rect.unit ![0, 9] ![1, 1] inb_S1x128_S1x1_0_9)) (View.ld skb (Rect.unit ![0, 10] ![1, 1] inb_S1x128_S1x1_0_10)) (View.ld skb (Rect.unit ![0, 11] ![1, 1] inb_S1x128_S1x1_0_11)) (View.ld skb (Rect.unit ![0, 12] ![1, 1] inb_S1x128_S1x1_0_12)) (View.ld skb (Rect.unit ![0, 13] ![1, 1] inb_S1x128_S1x1_0_13)) (View.ld skb (Rect.unit ![0, 14] ![1, 1] inb_S1x128_S1x1_0_14)) (View.ld skb (Rect.unit ![0, 15] ![1, 1] inb_S1x128_S1x1_0_15)) j).trans ?_
  rw [sc7_0, sc7_1]
  unfold sk
  simp only [View.ld]
  rw [idx1 14 (by omega), idx1 15 (by omega)]
  simp only [idx3 2 (by omega), idx3 3 (by omega)]
  rfl

end Columns

end Cert.Swa

end
-- ==== Proof.SwaPoint.lean ====
/- The blocks the sliding-window kernel leaves at a grid point, and the rows it keeps from one point to the next. -/
module

public import proofs.«01_k».proof.Proof.Gen.Kernel3Ideal.Value
public import proofs.«01_k».proof.Proof.SwaCols
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Swa

open Idealize.ShloMosaic Idealize.ShloMosaic.TcCoe Idealize.SL.Sem
open Idealize.ShloMosaic.Pipeline (Dat)
open Cert.Kernel3Ideal Cert.Kernel3Ideal.Gen

/-- The kept keys after a point: the rows from before it, then the rotated keys of its own block, one array for each key head and half of the lanes. -/
abbrev KC (kv : Vec Ideal S128x256 .bf16) (pos : Vec Ideal S128x1 .i32) (inv : Vec Ideal S1x128 .f32) (base : FVec Ideal S4x128x128 .bf16) : S4x256x128.Idx → Elt Ideal .bf16 :=
  View.canon (Val := Elt Ideal) (s := S4x256x128) (e := .bf16)
    [⟨Rect.unit ![3, 128, 0] ![1, 128, 128] inb_S4x256x128_S1x128x128_3_128_0, k0_pay21 (k0_pay20 k0_pay7 k0_pay8 (k0_pay10 pos inv) (k0_pay11 pos inv) (k0_pay12 pos inv) (View.ld kv (Rect.unit ![0, 0] ![128, 128] inb_S128x256_S128x128_0_0)))⟩,
     ⟨Rect.unit ![2, 128, 0] ![1, 128, 128] inb_S4x256x128_S1x128x128_2_128_0, k0_pay19 k0_pay7 k0_pay8 (k0_pay10 pos inv) (k0_pay11 pos inv) (k0_pay12 pos inv) (View.ld kv (Rect.unit ![0, 0] ![128, 128] inb_S128x256_S128x128_0_0))⟩,
     ⟨Rect.unit ![1, 128, 0] ![1, 128, 128] inb_S4x256x128_S1x128x128_1_128_0, k0_pay18 k0_pay7 k0_pay8 (k0_pay10 pos inv) (k0_pay11 pos inv) (k0_pay12 pos inv) (View.ld kv (Rect.unit ![0, 0] ![128, 128] inb_S128x256_S128x128_0_0))⟩,
     ⟨Rect.unit ![0, 128, 0] ![1, 128, 128] inb_S4x256x128_S1x128x128_0_128_0, k0_pay17 k0_pay7 k0_pay8 (k0_pay10 pos inv) (k0_pay11 pos inv) (k0_pay12 pos inv) (View.ld kv (Rect.unit ![0, 0] ![128, 128] inb_S128x256_S128x128_0_0))⟩,
     ⟨Rect.unit ![0, 0, 0] ![4, 128, 128] inb_S4x256x128_S4x128x128_0_0_0, base⟩]

/-- The kept values after a point. -/
abbrev VC (kv : Vec Ideal S128x256 .bf16) (base : FVec Ideal S4x128x128 .bf16) : S4x256x128.Idx → Elt Ideal .bf16 :=
  View.canon (Val := Elt Ideal) (s := S4x256x128) (e := .bf16)
    [⟨Rect.unit ![3, 128, 0] ![1, 128, 128] inb_S4x256x128_S1x128x128_3_128_0, k0_pay26 k0_pay8 (k0_pay15 (View.ld kv (Rect.unit ![0, 128] ![128, 128] inb_S128x256_S128x128_0_128)))⟩,
     ⟨Rect.unit ![2, 128, 0] ![1, 128, 128] inb_S4x256x128_S1x128x128_2_128_0, k0_pay25 k0_pay8 (k0_pay15 (View.ld kv (Rect.unit ![0, 128] ![128, 128] inb_S128x256_S128x128_0_128)))⟩,
     ⟨Rect.unit ![1, 128, 0] ![1, 128, 128] inb_S4x256x128_S1x128x128_1_128_0, k0_pay24 k0_pay8 (k0_pay15 (View.ld kv (Rect.unit ![0, 128] ![128, 128] inb_S128x256_S128x128_0_128)))⟩,
     ⟨Rect.unit ![0, 128, 0] ![1, 128, 128] inb_S4x256x128_S1x128x128_0_128_0, k0_pay23 k0_pay8 (k0_pay15 (View.ld kv (Rect.unit ![0, 128] ![128, 128] inb_S128x256_S128x128_0_128)))⟩,
     ⟨Rect.unit ![0, 0, 0] ![4, 128, 128] inb_S4x256x128_S4x128x128_0_0_0, base⟩]

/-- The cosines of a block, scaled. -/
abbrev CQ (pos : Vec Ideal S128x1 .i32) (inv : Vec Ideal S1x128 .f32) : FVec Ideal S128x128 .f32 := k0_pay27 (k0_pay10 pos inv)
/-- The signed sines of a block, scaled. -/
abbrev SQ (pos : Vec Ideal S128x1 .i32) (inv : Vec Ideal S1x128 .f32) : FVec Ideal S128x128 .f32 := k0_pay28 (k0_pay13 k0_pay7 (k0_pay11 pos inv) (k0_pay12 pos inv))
/-- The mask's term for block `n`. -/
abbrev BIAS (n : BitVec 32) : FVec Ideal S128x256 .f32 := k0_pay30 (F := Ideal) n (iota Kind.tc S128x256 32 [1] iota_S128x256_d1_w32) k0_pay29

section Keeps
variable (kv : Vec Ideal S128x256 .bf16) (pos : Vec Ideal S128x1 .i32) (inv : Vec Ideal S1x128 .f32) (base : FVec Ideal S4x128x128 .bf16)

theorem hit3 (g : ℕ) (hg : g < 4) (inb) (w : (Rect.unit (s := S4x256x128) ![g, 128, 0] ![1, 128, 128] inb).shape.Idx → Elt Ideal .bf16) (L : List (View.Piece (Elt Ideal) S4x256x128 .bf16)) (a l : Fin 128) :
    View.canon (Val := Elt Ideal) (⟨Rect.unit ![g, 128, 0] ![1, 128, 128] inb, w⟩ :: L) (ix3 (⟨g, hg⟩ : Fin 4) (⟨128 + a.val, by omega⟩ : Fin 256) l) = w (ix3 (0 : Fin 1) a l) := by
  have e : (Rect.unit (s := S4x256x128) ![g, 128, 0] ![1, 128, 128] inb).idx (ix3 (0 : Fin 1) a l) = ix3 (⟨g, hg⟩ : Fin 4) (⟨128 + a.val, by omega⟩ : Fin 256) l := by
    funext i
    fin_cases i <;> apply Fin.ext <;> simp [LoadRect.idx, Rect.unit]
  exact (congrArg (View.canon (Val := Elt Ideal) (⟨Rect.unit ![g, 128, 0] ![1, 128, 128] inb, w⟩ :: L)) e.symm).trans (View.canon_cons_emb _ w L _)

theorem miss3 (g : ℕ) (inb) (w : (Rect.unit (s := S4x256x128) ![g, 128, 0] ![1, 128, 128] inb).shape.Idx → Elt Ideal .bf16) (L : List (View.Piece (Elt Ideal) S4x256x128 .bf16)) (r : Fin 4) (x : Fin 256) (l : Fin 128) (h : r.val < g ∨ x.val < 128) :
    View.canon (Val := Elt Ideal) (⟨Rect.unit ![g, 128, 0] ![1, 128, 128] inb, w⟩ :: L) (ix3 r x l) = View.canon L (ix3 r x l) :=
  View.canon_cons_of_not_mem _ L fun hm => by
    have h0 := ((Rect.mem_set_unit (inb := inb) (i := ix3 r x l)).1 hm 0).1
    have h1 := ((Rect.mem_set_unit (inb := inb) (i := ix3 r x l)).1 hm 1).1
    have h0' : g ≤ r.val := h0
    have h1' : 128 ≤ x.val := h1
    omega

theorem hitbase (inb) (w : (Rect.unit (s := S4x256x128) ![0, 0, 0] ![4, 128, 128] inb).shape.Idx → Elt Ideal .bf16) (L : List (View.Piece (Elt Ideal) S4x256x128 .bf16)) (r : Fin 4) (a l : Fin 128) :
    View.canon (Val := Elt Ideal) (⟨Rect.unit ![0, 0, 0] ![4, 128, 128] inb, w⟩ :: L) (ix3 r (⟨a.val, by omega⟩ : Fin 256) l) = w (ix3 r a l) := by
  have e : (Rect.unit (s := S4x256x128) ![0, 0, 0] ![4, 128, 128] inb).idx (ix3 r a l) = ix3 r (⟨a.val, by omega⟩ : Fin 256) l := by
    funext i
    fin_cases i <;> apply Fin.ext <;> simp [LoadRect.idx, Rect.unit]
  exact (congrArg (View.canon (Val := Elt Ideal) (⟨Rect.unit ![0, 0, 0] ![4, 128, 128] inb, w⟩ :: L)) e.symm).trans (View.canon_cons_emb _ w L _)

theorem KC_old (r : Fin 4) (a l : Fin 128) : KC kv pos inv base (ix3 r (⟨a.val, by omega⟩ : Fin 256) l) = base (ix3 r a l) := by
  refine (miss3 3 _ _ _ r _ l (Or.inr a.isLt)).trans ?_
  refine (miss3 2 _ _ _ r _ l (Or.inr a.isLt)).trans ?_
  refine (miss3 1 _ _ _ r _ l (Or.inr a.isLt)).trans ?_
  refine (miss3 0 _ _ _ r _ l (Or.inr a.isLt)).trans ?_
  exact hitbase _ base [] r a l

theorem VC_old (r : Fin 4) (a l : Fin 128) : VC kv base (ix3 r (⟨a.val, by omega⟩ : Fin 256) l) = base (ix3 r a l) := by
  refine (miss3 3 _ _ _ r _ l (Or.inr a.isLt)).trans ?_
  refine (miss3 2 _ _ _ r _ l (Or.inr a.isLt)).trans ?_
  refine (miss3 1 _ _ _ r _ l (Or.inr a.isLt)).trans ?_
  refine (miss3 0 _ _ _ r _ l (Or.inr a.isLt)).trans ?_
  exact hitbase _ base [] r a l

/-- A row of 128 lanes, two heads side by side, placed for array `r`: head `r / 2` in half `r % 2`, zeros in the other half. -/
def place (f : Fin 128 → EReal) (r : Fin 4) (l : Fin 128) : EReal :=
  if l.val / 64 = r.val % 2 then f ⟨r.val / 2 * 64 + l.val % 64, by omega⟩ else 0

theorem place0 (f : Fin 128 → EReal) (a l : Fin 128) : Scalar.select (k0_pay8 (ix2 a l)) (f l) 0 = place f 0 l := by
  rw [p8]
  unfold place
  by_cases h : l.val < 64
  · rw [if_pos h, if_pos (show l.val / 64 = (0 : Fin 4).val % 2 from by show l.val / 64 = 0 % 2; omega)]
    exact congrArg f (Fin.ext (by show l.val = 0 / 2 * 64 + l.val % 64; omega))
  · rw [if_neg h, if_neg (show ¬ l.val / 64 = (0 : Fin 4).val % 2 from by show ¬ l.val / 64 = 0 % 2; omega)]
    rfl
theorem place1 (f : Fin 128 → EReal) (a l : Fin 128) : Scalar.select (k0_pay8 (ix2 a l)) 0 (f ⟨(l.val + 128 - 64) % 128, by omega⟩) = place f 1 l := by
  rw [p8]
  unfold place
  by_cases h : l.val < 64
  · rw [if_pos h, if_neg (show ¬ l.val / 64 = (1 : Fin 4).val % 2 from by show ¬ l.val / 64 = 1 % 2; omega)]
    rfl
  · rw [if_neg h, if_pos (show l.val / 64 = (1 : Fin 4).val % 2 from by show l.val / 64 = 1 % 2; omega)]
    exact congrArg f (Fin.ext (by show (l.val + 128 - 64) % 128 = 1 / 2 * 64 + l.val % 64; omega))
theorem place2 (f : Fin 128 → EReal) (a l : Fin 128) : Scalar.select (k0_pay8 (ix2 a l)) (f ⟨(l.val + 128 - 64) % 128, by omega⟩) 0 = place f 2 l := by
  rw [p8]
  unfold place
  by_cases h : l.val < 64
  · rw [if_pos h, if_pos (show l.val / 64 = (2 : Fin 4).val % 2 from by show l.val / 64 = 2 % 2; omega)]
    exact congrArg f (Fin.ext (by show (l.val + 128 - 64) % 128 = 2 / 2 * 64 + l.val % 64; omega))
  · rw [if_neg h, if_neg (show ¬ l.val / 64 = (2 : Fin 4).val % 2 from by show ¬ l.val / 64 = 2 % 2; omega)]
    rfl
theorem place3 (f : Fin 128 → EReal) (a l : Fin 128) : Scalar.select (k0_pay8 (ix2 a l)) 0 (f l) = place f 3 l := by
  rw [p8]
  unfold place
  by_cases h : l.val < 64
  · rw [if_pos h, if_neg (show ¬ l.val / 64 = (3 : Fin 4).val % 2 from by show ¬ l.val / 64 = 3 % 2; omega)]
    rfl
  · rw [if_neg h, if_pos (show l.val / 64 = (3 : Fin 4).val % 2 from by show l.val / 64 = 3 % 2; omega)]
    exact congrArg f (Fin.ext (by show l.val = 3 / 2 * 64 + l.val % 64; omega))

/-- A lane of the block's keys after the rotation. -/
def kturn (a l : Fin 128) : EReal := turn k0_pay7 (k0_pay10 pos inv) (k0_pay13 k0_pay7 (k0_pay11 pos inv) (k0_pay12 pos inv)) (View.ld kv (Rect.unit ![0, 0] ![128, 128] inb_S128x256_S128x128_0_0)) a l

theorem KC_new (r : Fin 4) (a l : Fin 128) : KC kv pos inv base (ix3 r (⟨128 + a.val, by omega⟩ : Fin 256) l) = place (kturn kv pos inv a) r l := by
  fin_cases r
  · exact (miss3 3 _ _ _ _ _ l (Or.inl (by decide))).trans ((miss3 2 _ _ _ _ _ l (Or.inl (by decide))).trans ((miss3 1 _ _ _ _ _ l (Or.inl (by decide))).trans ((hit3 0 (by omega) _ _ _ a l).trans ((k17 a _ _ _ _ _ _ l).trans (place0 (kturn kv pos inv a) a l)))))
  · exact (miss3 3 _ _ _ _ _ l (Or.inl (by decide))).trans ((miss3 2 _ _ _ _ _ l (Or.inl (by decide))).trans ((hit3 1 (by omega) _ _ _ a l).trans ((k18 a _ _ _ _ _ _ l).trans (place1 (kturn kv pos inv a) a l))))
  · exact (miss3 3 _ _ _ _ _ l (Or.inl (by decide))).trans ((hit3 2 (by omega) _ _ _ a l).trans ((k19 a _ _ _ _ _ _ l).trans (place2 (kturn kv pos inv a) a l)))
  · exact (hit3 3 (by omega) _ _ _ a l).trans ((k21 a _ _ _ _ _ _ l).trans (place3 (kturn kv pos inv a) a l))

theorem VC_new (r : Fin 4) (a l : Fin 128) : VC kv base (ix3 r (⟨128 + a.val, by omega⟩ : Fin 256) l) = place (fun l => (View.ld kv (Rect.unit ![0, 128] ![128, 128] inb_S128x256_S128x128_0_128)) (ix2 a l)) r l := by
  fin_cases r
  · exact (miss3 3 _ _ _ _ _ l (Or.inl (by decide))).trans ((miss3 2 _ _ _ _ _ l (Or.inl (by decide))).trans ((miss3 1 _ _ _ _ _ l (Or.inl (by decide))).trans ((hit3 0 (by omega) _ _ _ a l).trans ((v23 a _ _ l).trans (place0 (fun l => (View.ld kv (Rect.unit ![0, 128] ![128, 128] inb_S128x256_S128x128_0_128)) (ix2 a l)) a l)))))
  · exact (miss3 3 _ _ _ _ _ l (Or.inl (by decide))).trans ((miss3 2 _ _ _ _ _ l (Or.inl (by decide))).trans ((hit3 1 (by omega) _ _ _ a l).trans ((v24 a _ _ l).trans (place1 (fun l => (View.ld kv (Rect.unit ![0, 128] ![128, 128] inb_S128x256_S128x128_0_128)) (ix2 a l)) a l))))
  · exact (miss3 3 _ _ _ _ _ l (Or.inl (by decide))).trans ((hit3 2 (by omega) _ _ _ a l).trans ((v25 a _ _ l).trans (place2 (fun l => (View.ld kv (Rect.unit ![0, 128] ![128, 128] inb_S128x256_S128x128_0_128)) (ix2 a l)) a l)))
  · exact (hit3 3 (by omega) _ _ _ a l).trans ((v26 a _ _ l).trans (place3 (fun l => (View.ld kv (Rect.unit ![0, 128] ![128, 128] inb_S128x256_S128x128_0_128)) (ix2 a l)) a l))

end Keeps

section Points
variable (m : (ℓ : Loc nD τ sig) → Buf (Elt Ideal) ℓ) (c : Dev nD) (t : Fin cfg0.N)

theorem keysA (h0 : t.val % 16 = 0) (h1 : ¬ 1 ≤ t.val % 16) : (outsAt0 m c t.val t.isLt).2.1 = KC (iblk m c 1 t) (iblk m c 2 t) (iblk m c 3 t) k0_pay3 := by
  rw [outsAt0_A m c t h0 h1]
  frame_open
  frame_out
  try simp only [View.readCov_eq_canon']
  try simp only [read_unread_whole]

theorem valsA (h0 : t.val % 16 = 0) (h1 : ¬ 1 ≤ t.val % 16) : (outsAt0 m c t.val t.isLt).2.2 = VC (iblk m c 1 t) k0_pay4 := by
  rw [outsAt0_A m c t h0 h1]
  frame_open
  frame_out
  try simp only [View.readCov_eq_canon']
  try simp only [read_unread_whole]

theorem resA (h0 : t.val % 16 = 0) (h1 : ¬ 1 ≤ t.val % 16) : (outsAt0 m c t.val t.isLt).1
    = OUT (CQ (iblk m c 2 t) (iblk m c 3 t)) (SQ (iblk m c 2 t) (iblk m c 3 t)) (BIAS (BitVec.ofNat 32 (grid0.coords t 1).val)) (iblk m c 0 t) (iblk m c 4 t)
      (KC (iblk m c 1 t) (iblk m c 2 t) (iblk m c 3 t) k0_pay3) (VC (iblk m c 1 t) k0_pay4) := by
  rw [outsAt0_A m c t h0 h1]
  frame_open
  frame_out
  simp only [View.readCov_eq_canon']
  try simp only [read_unread_whole]

theorem keysB (h0 : ¬ t.val % 16 = 0) (h1 : 1 ≤ t.val % 16) : (outsAt0 m c t.val t.isLt).2.1 = KC (iblk m c 1 t) (iblk m c 2 t) (iblk m c 3 t) (k0_pay5 (View.ld (outsAt0 m c (t.val - 1) (Nat.lt_of_le_of_lt (Nat.sub_le _ _) t.isLt)).2.1 (Rect.unit ![0, 128, 0] ![4, 128, 128] inb_S4x256x128_S4x128x128_0_128_0))) := by
  rw [outsAt0_B m c t h0 h1]
  frame_open
  frame_out
  try simp only [View.readCov_eq_canon']
  try simp only [read_unread_whole]

theorem valsB (h0 : ¬ t.val % 16 = 0) (h1 : 1 ≤ t.val % 16) : (outsAt0 m c t.val t.isLt).2.2 = VC (iblk m c 1 t) (k0_pay6 (View.ld (outsAt0 m c (t.val - 1) (Nat.lt_of_le_of_lt (Nat.sub_le _ _) t.isLt)).2.2 (Rect.unit ![0, 128, 0] ![4, 128, 128] inb_S4x256x128_S4x128x128_0_128_0))) := by
  rw [outsAt0_B m c t h0 h1]
  frame_open
  frame_out
  try simp only [View.readCov_eq_canon']
  try simp only [read_unread_whole]

theorem resB (h0 : ¬ t.val % 16 = 0) (h1 : 1 ≤ t.val % 16) : (outsAt0 m c t.val t.isLt).1
    = OUT (CQ (iblk m c 2 t) (iblk m c 3 t)) (SQ (iblk m c 2 t) (iblk m c 3 t)) (BIAS (BitVec.ofNat 32 (grid0.coords t 1).val)) (iblk m c 0 t) (iblk m c 4 t)
      (KC (iblk m c 1 t) (iblk m c 2 t) (iblk m c 3 t) (k0_pay5 (View.ld (outsAt0 m c (t.val - 1) (Nat.lt_of_le_of_lt (Nat.sub_le _ _) t.isLt)).2.1 (Rect.unit ![0, 128, 0] ![4, 128, 128] inb_S4x256x128_S4x128x128_0_128_0)))) (VC (iblk m c 1 t) (k0_pay6 (View.ld (outsAt0 m c (t.val - 1) (Nat.lt_of_le_of_lt (Nat.sub_le _ _) t.isLt)).2.2 (Rect.unit ![0, 128, 0] ![4, 128, 128] inb_S4x256x128_S4x128x128_0_128_0)))) := by
  rw [outsAt0_B m c t h0 h1]
  frame_open
  frame_out
  simp only [View.readCov_eq_canon']
  try simp only [read_unread_whole]

/-- The block of results at a point, from the rows kept after it. -/
theorem res : (outsAt0 m c t.val t.isLt).1
    = OUT (CQ (iblk m c 2 t) (iblk m c 3 t)) (SQ (iblk m c 2 t) (iblk m c 3 t)) (BIAS (BitVec.ofNat 32 (grid0.coords t 1).val)) (iblk m c 0 t) (iblk m c 4 t)
      (outsAt0 m c t.val t.isLt).2.1 (outsAt0 m c t.val t.isLt).2.2 := by
  by_cases h0 : t.val % 16 = 0
  · rw [keysA m c t h0 (by omega), valsA m c t h0 (by omega)]
    exact resA m c t h0 (by omega)
  · rw [keysB m c t h0 (by omega), valsB m c t h0 (by omega)]
    exact resB m c t h0 (by omega)
end Points

end Cert.Swa

end
-- ==== Proof.SwaRef.lean ====
/- The plain sliding-window attention, entry by entry. -/
module

public import proofs.«01_k».proof.Proof.Gen.Reference3Ideal.Read
public import proofs.«01_k».proof.Proof.SwaSpec
public import Idealize.ShloMosaic.Lib.Pipeline.ValueKit
public import Idealize.ShloMosaic.Lib.Pointwise
public import Idealize.ShloMosaic.Lib.ValueIdxRank6

@[expose] public section

set_option maxRecDepth 16384

noncomputable section

namespace Cert.Swa

open Idealize.ShloMosaic Idealize.ShloMosaic.TcCoe Idealize.SL.Sem
open Cert.Reference3Ideal Cert.Reference3Ideal.Gen Cert.Reference3Ideal.Value Cert.Reference3Ideal.Read

variable (x0 : FVec Ideal S32768x1024 .bf16) (x1 : FVec Ideal S32768x256 .bf16) (x2 : IVec S16x2048 32) (x3 : FVec Ideal S16 .f32)

/-- The angles by which the token at position `p` is rotated. -/
def ang (p : BitVec 32) (i : Fin 32) : EReal :=
  (FloatOps.sitofp (F := Ideal) FTy.f32 p : EReal) * val_main_v9 (F := Ideal) (ix1 i)

theorem v15 (b : Fin 16) (t : Fin 2048) (i : Fin 32) : val_main_v15 (F := Ideal) x2 (ix3 b t i) = ang (x2 (ix2 b t)) i := by
  unfold val_main_v15 val_main_v14 val_main_v13 val_main_v12 val_main_v11 val_main_v10 ang
  generalize val_main_v9 (F := Ideal) = z
  pointwise []

theorem v37 (b : Fin 16) (t : Fin 2048) (h : Fin 16) (d : Fin 64) : val_main_v37 (F := Ideal) x0 x2 (ix4 b t h d)
    = rot (fun d => x0 (ix2 ⟨b.val * 2048 + t.val, by omega⟩ ⟨h.val * 64 + d.val, by omega⟩)) (ang (x2 (ix2 b t))) d := by
  have e : ang (x2 (ix2 b t)) = fun i => val_main_v15 (F := Ideal) x2 (ix3 b t i) := funext fun i => (v15 x2 b t i).symm
  rw [e]
  unfold val_main_v37 val_main_v36 val_main_v35 val_main_v34 val_main_v33 val_main_v32 val_main_v31 val_main_v30 val_main_v29 val_main_v28 val_main_v27 val_main_v26 val_main_v25 val_main_v24 val_main_v23 val_main_v19 val_main_v18 val_main_v17 val_main_v16
  generalize val_main_v15 (F := Ideal) x2 = z
  pointwise [rot]
  split
  · have e32 : 32 + d.val = d.val + 32 := Nat.add_comm _ _
    simp only [e32]
  · have e32 : 32 + (d.val - 32) = d.val := by omega
    simp only [e32]

theorem v51 (b : Fin 16) (t : Fin 2048) (g : Fin 2) (d : Fin 64) : val_main_v51 (F := Ideal) x1 x2 (ix4 b t g d)
    = rot (fun d => x1 (ix2 ⟨b.val * 2048 + t.val, by omega⟩ ⟨g.val * 64 + d.val, by omega⟩)) (ang (x2 (ix2 b t))) d := by
  have e : ang (x2 (ix2 b t)) = fun i => val_main_v15 (F := Ideal) x2 (ix3 b t i) := funext fun i => (v15 x2 b t i).symm
  rw [e]
  unfold val_main_v51 val_main_v50 val_main_v49 val_main_v48 val_main_v47 val_main_v46 val_main_v45 val_main_v44 val_main_v43 val_main_v42 val_main_v41 val_main_v40 val_main_v39 val_main_v38 val_main_v21 val_main_v20 val_main_v19 val_main_v18 val_main_v17 val_main_v16
  generalize val_main_v15 (F := Ideal) x2 = z
  pointwise [rot]
  split
  · have e32 : 32 + d.val = d.val + 32 := Nat.add_comm _ _
    simp only [e32]
  · have e32 : 32 + (d.val - 32) = d.val := by omega
    simp only [e32]

theorem v52 (b : Fin 16) (t : Fin 2048) (g : Fin 2) (d : Fin 64) : val_main_v52 (F := Ideal) x1 (ix4 b t g d)
    = x1 (ix2 ⟨b.val * 2048 + t.val, by omega⟩ ⟨128 + (g.val * 64 + d.val), by omega⟩) := by
  unfold val_main_v52 val_main_v22 val_main_v20
  pointwise []

/-- Row `x` of the window of block `c`: the block before, or zeros before the first, then the block itself. -/
def wrow (z : Fin 2048 → EReal) (c : Fin 16) (x : Fin 256) : EReal :=
  if h : x.val < 128 then (if hc : c.val = 0 then 0 else z ⟨(c.val - 1) * 128 + x.val, by omega⟩) else z ⟨c.val * 128 + (x.val - 128), by omega⟩

theorem zero_word : (FloatOps.sitofp (F := Ideal) FTy.f32 (0#32) : EReal) = 0 := by
  simp [FloatOps.sitofp]

theorem wcase (z : FVec Ideal S16x2048x2x64 .f32) (b c : Fin 16) (x : Fin 256) (g : Fin 2) (d : Fin 64) (y : EReal) (hy : y = 0) :
    (if h : x.val < 128 then (if h' : (1 ≤ c.val ∧ c.val - 1 < 16) ∧ x.val < 128 then z (ix4 b ⟨(c.val - 1) * 128 + x.val, by omega⟩ g d) else y)
      else z (ix4 b ⟨c.val * 128 + (x.val - 128), by omega⟩ g d)) = wrow (fun t => z (ix4 b t g d)) c x := by
  unfold wrow
  split
  · by_cases hc : c.val = 0
    · rw [dif_neg (by omega), dif_pos hc, hy]
    · rw [dif_pos (by omega), dif_neg hc]
  · rfl

theorem v58 (b c : Fin 16) (x : Fin 256) (g : Fin 2) (d : Fin 64) : val_main_v58 (F := Ideal) x1 x2 (ix5 b c x g d)
    = wrow (fun t => val_main_v51 (F := Ideal) x1 x2 (ix4 b t g d)) c x := by
  unfold val_main_v58 val_main_v57 val_main_v56 val_main_v54
  generalize val_main_v51 (F := Ideal) x1 x2 = z
  pointwise [wrow]
  exact wcase z b c x g d _ zero_word

theorem v53 (b c : Fin 16) (a : Fin 128) (g : Fin 2) (h : Fin 8) (d : Fin 64) : val_main_v53 (F := Ideal) x0 x2 (ix6 b c a g h d)
    = val_main_v37 (F := Ideal) x0 x2 (ix4 b ⟨c.val * 128 + a.val, by omega⟩ ⟨g.val * 8 + h.val, by omega⟩ d) := by
  unfold val_main_v53
  generalize val_main_v37 (F := Ideal) x0 x2 = z
  pointwise []

theorem v82 (b c : Fin 16) (g : Fin 2) (h : Fin 8) (a : Fin 128) (x : Fin 256) : val_main_v82 (F := Ideal) x0 x1 x2 (ix6 b c g h a x)
    = (∑ d : Fin 64, val_main_v58 (F := Ideal) x1 x2 (ix5 b c x g d) * val_main_v53 (F := Ideal) x0 x2 (ix6 b c a g h d)) * Ideal.ofBits FTy.f32 0x3E000000#32 := by
  unfold val_main_v82 val_main_v81 val_main_v80 val_main_v79
  generalize val_main_v58 (F := Ideal) x1 x2 = z
  generalize val_main_v53 (F := Ideal) x0 x2 = w
  pointwise [val_main_cst_7]

theorem v94 (c : Fin 16) (a : Fin 128) (x : Fin 256) : val_main_v94 (F := Ideal) (ix6 0 c 0 0 a x) = seen (BitVec.ofNat 32 c.val) a x := by
  unfold val_main_v94 val_main_v93 val_main_v92 val_main_v91 val_main_v90 val_main_v89 val_main_v88 val_main_v87 val_main_v86 val_main_v85 val_main_v84 val_main_v83 val_main_v78 val_main_v77 val_main_v75 val_main_v74 val_main_v73 val_main_v72 val_main_v71 val_main_v70 val_main_v69 val_main_v68 val_main_v67 val_main_v66 val_main_v65 val_main_v64 val_main_v63 val_main_v62
  pointwise [seen, val_main_c_4, val_main_c_5, val_main_c_6, val_main_c_8, val_main_c_9]

theorem v61 (b c : Fin 16) (x : Fin 256) (g : Fin 2) (d : Fin 64) : val_main_v61 (F := Ideal) x1 (ix5 b c x g d)
    = wrow (fun t => val_main_v52 (F := Ideal) x1 (ix4 b t g d)) c x := by
  unfold val_main_v61 val_main_v60 val_main_v59 val_main_v55
  generalize val_main_v52 (F := Ideal) x1 = z
  pointwise []
  exact wcase z b c x g d _ zero_word

theorem v95 (b c : Fin 16) (g : Fin 2) (h : Fin 8) (a : Fin 128) (x : Fin 256) : val_main_v95 (F := Ideal) x0 x1 x2 (ix6 b c g h a x)
    = Scalar.select (seen (BitVec.ofNat 32 c.val) a x) (val_main_v82 (F := Ideal) x0 x1 x2 (ix6 b c g h a x)) (Ideal.ofBits FTy.f32 0xFF800000#32) := by
  rw [← v94]
  unfold val_main_v95 val_main_call2_v1 val_main_call2_v2
  generalize val_main_v82 (F := Ideal) x0 x1 x2 = z
  generalize val_main_v94 (F := Ideal) = w
  pointwise []
  rfl

/-- The maximum along the last axis, as a fold over that axis. -/
theorem v96 (b c : Fin 16) (g : Fin 2) (h : Fin 8) (a : Fin 128) : val_main_v96 (F := Ideal) x0 x1 x2 (ix5 b c g h a)
    = (Finset.univ : Finset (Fin 256)).fold max (Ideal.ofBits FTy.f32 0xFF800000#32) fun x => val_main_v95 (F := Ideal) x0 x1 x2 (ix6 b c g h a x) := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  unfold val_main_v96 val_main_cst_11
  generalize val_main_v95 (F := Ideal) x0 x1 x2 = z
  rw [Host.reduce_eq_fold_single _ z _ _ (by decide : S16x16x2x8x128x256.Reduces [5] S16x16x2x8x128)]
  refine Finset.fold_congr fun x _ => congrArg z ?_
  funext a
  fin_cases a <;> rfl

theorem v97 (b c : Fin 16) (g : Fin 2) (h : Fin 8) (a : Fin 128) : val_main_v97 (F := Ideal) x0 x1 x2 (ix6 b c g h a 0)
    = val_main_v96 (F := Ideal) x0 x1 x2 (ix5 b c g h a) := by
  unfold val_main_v97
  generalize val_main_v96 (F := Ideal) x0 x1 x2 = z
  pointwise []

theorem v98 (b c : Fin 16) (g : Fin 2) (h : Fin 8) (a : Fin 128) : val_main_v98 (F := Ideal) x3 (ix6 b c g h a 0) = x3 (ix1 ⟨g.val * 8 + h.val, by omega⟩) := by
  unfold val_main_v98 val_main_v76
  pointwise []

theorem v99 (b c : Fin 16) (g : Fin 2) (h : Fin 8) (a : Fin 128) : val_main_v99 (F := Ideal) x0 x1 x2 x3 (ix6 b c g h a 0)
    = top (fun x => val_main_v95 (F := Ideal) x0 x1 x2 (ix6 b c g h a x)) (x3 (ix1 ⟨g.val * 8 + h.val, by omega⟩)) := by
  rw [val_main_v99_apply, v97, v96, v98]
  unfold top
  generalize Finset.fold max (Ideal.ofBits FTy.f32 0xFF800000#32) _ _ = z
  rfl

theorem v102 (b c : Fin 16) (g : Fin 2) (h : Fin 8) (a : Fin 128) (x : Fin 256) : val_main_v102 (F := Ideal) x0 x1 x2 x3 (ix6 b c g h a x)
    = wt (fun x => val_main_v95 (F := Ideal) x0 x1 x2 (ix6 b c g h a x)) (x3 (ix1 ⟨g.val * 8 + h.val, by omega⟩)) x := by
  unfold wt
  rw [← v99]
  unfold val_main_v102 val_main_v101 val_main_v100
  generalize val_main_v99 (F := Ideal) x0 x1 x2 x3 = z
  generalize val_main_v95 (F := Ideal) x0 x1 x2 = w
  pointwise []

theorem v103 (b c : Fin 16) (g : Fin 2) (h : Fin 8) (a : Fin 128) : val_main_v103 (F := Ideal) x0 x1 x2 x3 (ix5 b c g h a)
    = ∑ x : Fin 256, val_main_v102 (F := Ideal) x0 x1 x2 x3 (ix6 b c g h a x) := by
  have e0 : (val_main_cst_12 (F := Ideal)) (Shape.Idx.first h_S_) = (0 : EReal) := Ideal.ofBits_zero_f32
  rw [val_main_v103_apply, e0, zero_add]
  generalize val_main_v102 (F := Ideal) x0 x1 x2 x3 = z
  refine Finset.sum_congr rfl fun x _ => congrArg z ?_
  funext a
  fin_cases a <;> rfl

theorem v108 (b c : Fin 16) (g : Fin 2) (h : Fin 8) (a : Fin 128) : val_main_v108 (F := Ideal) x0 x1 x2 x3 (ix6 b c g h a 0)
    = den (fun x => val_main_v95 (F := Ideal) x0 x1 x2 (ix6 b c g h a x)) (x3 (ix1 ⟨g.val * 8 + h.val, by omega⟩)) := by
  unfold den
  simp only [← v102]
  rw [← v99, ← v103]
  unfold val_main_v108 val_main_v107 val_main_v106 val_main_v105 val_main_v104 val_main_v76
  generalize val_main_v99 (F := Ideal) x0 x1 x2 x3 = z
  generalize val_main_v103 (F := Ideal) x0 x1 x2 x3 = w
  pointwise []

/-- The result's entry: the values of the window, weighted. -/
theorem v114 (b c : Fin 16) (g : Fin 2) (h : Fin 8) (a : Fin 128) (d : Fin 64) :
    val_main_v114 (F := Ideal) x0 x1 x2 x3 (ix2 ⟨b.val * 2048 + c.val * 128 + a.val, by omega⟩ ⟨g.val * 512 + h.val * 64 + d.val, by omega⟩)
    = ∑ x : Fin 256, val_main_v61 (F := Ideal) x1 (ix5 b c x g d)
        * Ideal.div (val_main_v102 (F := Ideal) x0 x1 x2 x3 (ix6 b c g h a x)) (val_main_v108 (F := Ideal) x0 x1 x2 x3 (ix6 b c g h a 0)) := by
  unfold val_main_v114 val_main_v113 val_main_v112 val_main_v111 val_main_v110 val_main_v109
  generalize val_main_v102 (F := Ideal) x0 x1 x2 x3 = z
  generalize val_main_v108 (F := Ideal) x0 x1 x2 x3 = w
  generalize val_main_v61 (F := Ideal) x1 = u
  pointwise []

end Cert.Swa

end
-- ==== Proof.SwaReads.lean ====
/- Which entries of the arguments the sliding-window kernel's blocks hold. -/
module

public import proofs.«01_k».proof.Proof.SwaPoint
public import proofs.«01_k».proof.Proof.SwaRef
public import Idealize.ShloMosaic.Lib.StableHlo.ReadAt

@[expose] public section

set_option maxRecDepth 16384

noncomputable section

namespace Cert.Swa

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-! The four arguments at their shapes. -/

abbrev XQ (c : Dev nD) : FVec Ideal S32768x1024 .bf16 := m ((c : Thread nD τ).loc main_arg0)
abbrev XK (c : Dev nD) : FVec Ideal S32768x256 .bf16 := m ((c : Thread nD τ).loc main_arg1)
abbrev XP (c : Dev nD) : IVec S16x2048 32 := m ((c : Thread nD τ).loc main_arg2)
abbrev XS (c : Dev nD) : FVec Ideal S16 .f32 := m ((c : Thread nD τ).loc main_arg3)

/-- Which block each window holds at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- A point's second coordinate is the block's number in its sequence. -/
theorem crd : ∀ t : Fin cfg0.N, (grid0.coords t 1).val = t.val % 16 :=
  (by decide +kernel : ∀ t : Fin grid0.N, _)

theorem freq (i : Fin 32) : Cert.Reference3Ideal.Read.val_main_v9 (F := Ideal) (ix1 i)
    = Ideal.pow (Ideal.ofBits FTy.f32 0x461C4000#32) (Ideal.div (-(0 + Ideal.ofBits FTy.f32 0x40000000#32 * (FloatOps.sitofp (F := Ideal) FTy.f32 (BitVec.ofNat 32 i.val) : EReal))) (Ideal.ofBits FTy.f32 0x42800000#32)) := by
  pointwise [Cert.Reference3Ideal.Read.val_main_v9, Cert.Reference3Ideal.Read.val_main_v8, Cert.Reference3Ideal.Read.val_main_v7, Cert.Reference3Ideal.Read.val_main_v6, Cert.Reference3Ideal.Read.val_main_v5, Cert.Reference3Ideal.Read.val_main_v4, Cert.Reference3Ideal.Read.val_main_v3, Cert.Reference3Ideal.Read.val_main_v2, Cert.Reference3Ideal.Read.val_main_v1, Cert.Reference3Ideal.Read.val_main_v0, Cert.Reference3Ideal.Read.val_main_cst, Cert.Reference3Ideal.Read.val_main_cst_0, Cert.Reference3Ideal.Read.val_main_cst_1, Cert.Reference3Ideal.Read.val_main_cst_2]

/-- The kernel's table holds the reference's frequencies four times. -/
theorem v13 (c : Dev nD) (l : Fin 128) : V m c main_v13 (ix2 (0 : Fin 1) l) = Cert.Reference3Ideal.Read.val_main_v9 (F := Ideal) (ix1 (⟨l.val % 32, by omega⟩ : Fin 32)) := by
  rw [freq]
  unfold V
  simp only [hostOps0, hostOps0_1, hostOps0_2, List.flatten_cons, List.flatten_nil, List.append_nil, List.cons_append, List.nil_append]
  after_reads_at

theorem v15s (c : Dev nD) (i : ℕ) (hi : i < 16) : V m c main_v15 (ix2 (0 : Fin 1) (⟨i, by omega⟩ : Fin 128)) = XS m c (ix1 (⟨i, hi⟩ : Fin 16)) := by
  unfold V
  simp only [hostOps0, hostOps0_1, hostOps0_2, List.flatten_cons, List.flatten_nil, List.append_nil, List.cons_append, List.nil_append]
  after_reads_at
  rw [dif_pos hi]

theorem v16p (c : Dev nD) (r : Fin 32768) : V m c main_v16 (ix2 r (0 : Fin 1)) = XP m c (ix2 (⟨r.val / 2048, by omega⟩ : Fin 16) (⟨r.val % 2048, by omega⟩ : Fin 2048)) := by
  unfold V
  simp only [hostOps0, hostOps0_1, hostOps0_2, List.flatten_cons, List.flatten_nil, List.append_nil, List.cons_append, List.nil_append]
  after_reads_at

section Reads
variable (c : Dev nD) (t : Fin cfg0.N) (a : Fin 128) (ht : t.val < 256)

theorem r0 (j : Fin 1024) : iblk m c 0 t (ix2 a j) = XQ m c (ix2 (⟨t.val * 128 + a.val, by omega⟩ : Fin 32768) j) := by
  unfold iblk XQ
  rw [← V_main_arg0 m c]
  change ((cfg0.win 0).blk t).view.read (Elt Ideal) (V m c main_arg0) _ = _
  generalize V m c main_arg0 = z
  blk_point [idx t]

theorem r1 (j : Fin 256) : iblk m c 1 t (ix2 a j) = XK m c (ix2 (⟨t.val * 128 + a.val, by omega⟩ : Fin 32768) j) := by
  unfold iblk XK
  rw [← V_main_arg1 m c]
  change ((cfg0.win 1).blk t).view.read (Elt Ideal) (V m c main_arg1) _ = _
  generalize V m c main_arg1 = z
  blk_point [idx t]

theorem r2 : iblk m c 2 t (ix2 a (0 : Fin 1)) = V m c main_v16 (ix2 (⟨t.val * 128 + a.val, by omega⟩ : Fin 32768) (0 : Fin 1)) := by
  unfold iblk
  change ((cfg0.win 2).blk t).view.read (Elt Ideal) (V m c main_v16) _ = _
  generalize V m c main_v16 = z
  blk_point [idx t]

theorem r3 (l : Fin 128) : iblk m c 3 t (ix2 (0 : Fin 1) l) = V m c main_v13 (ix2 (0 : Fin 1) l) := by
  unfold iblk
  change ((cfg0.win 3).blk t).view.read (Elt Ideal) (V m c main_v13) _ = _
  generalize V m c main_v13 = z
  blk_point [idx t]

theorem r4 (l : Fin 128) : iblk m c 4 t (ix2 (0 : Fin 1) l) = V m c main_v15 (ix2 (0 : Fin 1) l) := by
  unfold iblk
  change ((cfg0.win 4).blk t).view.read (Elt Ideal) (V m c main_v15) _ = _
  generalize V m c main_v15 = z
  blk_point [idx t]

theorem e5 (j : Fin 1024) : ((cfg0.win 5).blk t).view.emb (ix2 a j) = (ix2 (⟨t.val * 128 + a.val, by omega⟩ : Fin 32768) j) := by
  blk_point [idx t]

end Reads

end Cert.Swa

end
-- ==== Proof.SwaMath.lean ====
/- Real arithmetic inside the sliding-window attention: when the sum of the weights is a positive real number, and the sums over lanes. -/
module

public import proofs.«01_k».proof.Proof.SwaSpec

@[expose] public section

noncomputable section

namespace Cert.Swa

open Idealize.ShloMosaic

/-- A value that is a real number. -/
def IsR (x : EReal) : Prop := ∃ r : ℝ, x = (r : EReal)

theorem IsR.add {x y : EReal} (hx : IsR x) (hy : IsR y) : IsR (x + y) := by
  obtain ⟨r, rfl⟩ := hx; obtain ⟨s, rfl⟩ := hy
  exact ⟨r + s, (EReal.coe_add r s).symm⟩
theorem IsR.sub {x y : EReal} (hx : IsR x) (hy : IsR y) : IsR (x - y) := by
  obtain ⟨r, rfl⟩ := hx; obtain ⟨s, rfl⟩ := hy
  exact ⟨r - s, (EReal.coe_sub r s).symm⟩
theorem IsR.mul {x y : EReal} (hx : IsR x) (hy : IsR y) : IsR (x * y) := by
  obtain ⟨r, rfl⟩ := hx; obtain ⟨s, rfl⟩ := hy
  exact ⟨r * s, (EReal.coe_mul r s).symm⟩
theorem IsR.cos {x : EReal} (hx : IsR x) : IsR (Ideal.cos x) := by
  obtain ⟨r, rfl⟩ := hx
  exact ⟨Real.cos r, rfl⟩
theorem IsR.sin {x : EReal} (hx : IsR x) : IsR (Ideal.sin x) := by
  obtain ⟨r, rfl⟩ := hx
  exact ⟨Real.sin r, rfl⟩
theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih
theorem IsR.ne_top {x : EReal} (hx : IsR x) : x ≠ ⊤ := by
  obtain ⟨r, rfl⟩ := hx
  exact EReal.coe_ne_top r
theorem IsR.ne_bot {x : EReal} (hx : IsR x) : x ≠ ⊥ := by
  obtain ⟨r, rfl⟩ := hx
  exact EReal.coe_ne_bot r
theorem isR_of {x : EReal} (ht : x ≠ ⊤) (hb : x ≠ ⊥) : IsR x := ⟨x.toReal, (EReal.coe_toReal ht hb).symm⟩
theorem isR_of_abs {x : EReal} (h : max x (-x) < ⊤) : IsR x := by
  refine isR_of (fun e => ?_) (fun e => ?_)
  · subst e; simp at h
  · subst e; simp at h

/-- A rotated head of real numbers is one of real numbers. -/
theorem rot_real (x : Fin 64 → EReal) (θ : Fin 32 → EReal) (hx : ∀ d, IsR (x d)) (hθ : ∀ i, IsR (θ i)) (d : Fin 64) : IsR (rot x θ d) := by
  unfold rot
  split
  · exact ((hx _).mul (hθ _).cos).sub ((hx _).mul (hθ _).sin)
  · exact ((hx _).mul (hθ _).cos).add ((hx _).mul (hθ _).sin)

theorem ninf : Ideal.ofBits FTy.f32 0xFF800000#32 = ⊥ := by
  simp [Ideal.ofBits, Ideal.ieee]

theorem eighth : Ideal.ofBits FTy.f32 0x3E000000#32 = ((1 / 8 : ℝ) : EReal) := by
  simp [Ideal.ofBits, Ideal.ieee]
  rw [← EReal.coe_mul]
  norm_num

theorem top_real (s : Fin 256 → EReal) (k : EReal) (hs : ∀ x, s x ≠ ⊤) (hk : IsR k) : IsR (top s k) := by
  refine isR_of (ne_of_lt ?_) (ne_of_gt ?_)
  · unfold top
    rw [max_lt_iff]
    refine ⟨?_, lt_top_iff_ne_top.2 hk.ne_top⟩
    rw [Finset.fold_max_lt]
    exact ⟨by rw [ninf]; exact bot_lt_top, fun x _ => lt_top_iff_ne_top.2 (hs x)⟩
  · exact lt_of_lt_of_le (bot_lt_iff_ne_bot.2 hk.ne_bot) (le_max_right _ _)

theorem exp_real (x : EReal) (h : x ≠ ⊤) : ∃ r : ℝ, 0 ≤ r ∧ Ideal.exp x = (r : EReal) := by
  induction x with
  | bot => exact ⟨0, le_rfl, rfl⟩
  | top => exact absurd rfl h
  | coe r => exact ⟨Real.exp r, (Real.exp_pos r).le, rfl⟩

theorem wt_real (s : Fin 256 → EReal) (k : EReal) (hs : ∀ x, s x ≠ ⊤) (hk : IsR k) (x : Fin 256) : ∃ r : ℝ, 0 ≤ r ∧ wt s k x = (r : EReal) := by
  obtain ⟨M, hM⟩ := top_real s k hs hk
  unfold wt
  rw [hM]
  refine exp_real _ ?_
  have h := hs x
  generalize s x = y at h
  induction y with
  | bot => simp
  | top => exact absurd rfl h
  | coe r => rw [← EReal.coe_sub]; exact EReal.coe_ne_top _

theorem sum_real {ι : Type} (s : Finset ι) (f : ι → EReal) (h : ∀ i, ∃ r : ℝ, 0 ≤ r ∧ f i = (r : EReal)) : ∃ r : ℝ, 0 ≤ r ∧ ∑ i ∈ s, f i = (r : EReal) := by
  classical
  induction s using Finset.induction_on with
  | empty => exact ⟨0, le_rfl, by simp⟩
  | insert a s ha ih =>
    obtain ⟨u, hu, eu⟩ := ih
    obtain ⟨v, hv, ev⟩ := h a
    exact ⟨v + u, add_nonneg hv hu, by rw [Finset.sum_insert ha, eu, ev, EReal.coe_add]⟩

/-- The sum of the weights is a positive real number. -/
theorem den_real (s : Fin 256 → EReal) (k : EReal) (hs : ∀ x, s x ≠ ⊤) (hk : IsR k) : ∃ D : ℝ, 0 < D ∧ den s k = (D : EReal) := by
  obtain ⟨u, hu, eu⟩ := sum_real Finset.univ (wt s k) (wt_real s k hs hk)
  obtain ⟨M, hM⟩ := top_real s k hs hk
  obtain ⟨r, rfl⟩ := hk
  refine ⟨u + Real.exp (r - M), add_pos_of_nonneg_of_pos hu (Real.exp_pos _), ?_⟩
  unfold den
  rw [eu, hM, ← EReal.coe_sub, Ideal.exp_coe, ← EReal.coe_add]

theorem sum_mul_coe {ι : Type} (s : Finset ι) (f : ι → EReal) (e : ℝ) (he : 0 ≤ e) : (∑ i ∈ s, f i) * (e : EReal) = ∑ i ∈ s, f i * (e : EReal) := by
  classical
  induction s using Finset.induction_on with
  | empty => simp
  | insert a s ha ih =>
    rw [Finset.sum_insert ha, Finset.sum_insert ha, EReal.right_distrib_of_nonneg_of_ne_top (EReal.coe_nonneg.2 he) (EReal.coe_ne_top e), ih]

/-- Dividing the weighted sum once is dividing every weight. -/
theorem weigh (s : Fin 256 → EReal) (k : EReal) (v : Fin 256 → EReal) (hs : ∀ x, s x ≠ ⊤) (hk : IsR k) :
    (∑ x, wt s k x * v x) * Ideal.div 1 (den s k) = ∑ x, v x * Ideal.div (wt s k x) (den s k) := by
  obtain ⟨D, hD, eD⟩ := den_real s k hs hk
  rw [eD, Ideal.div_coe hD.ne', one_mul, sum_mul_coe _ _ _ (by positivity)]
  refine Finset.sum_congr rfl fun x _ => ?_
  rw [Ideal.div_coe hD.ne', mul_comm (wt s k x) (v x), mul_assoc]

/-- A sum over 128 lanes of a row that is zero in the other half is one over 64 lanes. -/
theorem half (f : Fin 128 → EReal) (s : ℕ) (hs : s < 2) (h0 : ∀ l : Fin 128, l.val / 64 ≠ s → f l = 0) :
    ∑ l, f l = ∑ d : Fin 64, f ⟨s * 64 + d.val, by omega⟩ := by
  have e : ∑ l : Fin (64 + 64), f l = ∑ d : Fin 64, f (Fin.castAdd 64 d) + ∑ d : Fin 64, f (Fin.natAdd 64 d) := Fin.sum_univ_add (a := 64) (b := 64) f
  refine e.trans ?_
  rcases (by omega : s = 0 ∨ s = 1) with rfl | rfl
  · rw [Finset.sum_eq_zero (s := Finset.univ) (f := fun d : Fin 64 => f (Fin.natAdd 64 d)) (fun d _ => h0 _ (by show (64 + d.val) / 64 ≠ 0; omega)), add_zero]
    refine Finset.sum_congr rfl fun d _ => congrArg f (Fin.ext ?_)
    show d.val = 0 * 64 + d.val
    omega
  · rw [Finset.sum_eq_zero (s := Finset.univ) (f := fun d : Fin 64 => f (Fin.castAdd 64 d)) (fun d _ => h0 _ (by show d.val / 64 ≠ 1; omega)), zero_add]
    refine Finset.sum_congr rfl fun d _ => congrArg f (Fin.ext ?_)
    show 64 + d.val = 1 * 64 + d.val
    omega

/-- Adding a mask of zeros and minus infinities is selecting. -/
theorem masked (z : BitVec 1) (x : EReal) : x + Scalar.select z 0 (Ideal.ofBits FTy.f32 0xFF800000#32) = Scalar.select z x (Ideal.ofBits FTy.f32 0xFF800000#32) := by
  unfold Scalar.select
  split
  · exact add_zero x
  · rw [ninf]; exact EReal.add_bot x

theorem masked_ne_top (z : BitVec 1) (x : EReal) (hx : IsR x) : Scalar.select z x (Ideal.ofBits FTy.f32 0xFF800000#32) ≠ ⊤ := by
  unfold Scalar.select
  split
  · exact hx.ne_top
  · rw [ninf]; exact bot_ne_top

/-- A lane turned by cosine and signed sine is the lane of its rotated head. -/
theorem turned (x : Fin 128 → EReal) (θ : Fin 32 → EReal) (l : Fin 128) (z : BitVec 1) (hz : z = if l.val % 64 < 32 then 1#1 else 0#1) :
    x l * Ideal.cos (θ ⟨l.val % 32, by omega⟩) + Scalar.select z (x ⟨(l.val + 128 - 96) % 128, by omega⟩) (x ⟨(l.val + 128 - 32) % 128, by omega⟩)
        * Scalar.select z (0 - Ideal.sin (θ ⟨l.val % 32, by omega⟩)) (Ideal.sin (θ ⟨l.val % 32, by omega⟩))
      = rot (fun d => x ⟨l.val / 64 * 64 + d.val, by omega⟩) θ ⟨l.val % 64, by omega⟩ := by
  subst hz
  unfold rot
  have e0 : (⟨l.val / 64 * 64 + l.val % 64, by omega⟩ : Fin 128) = l := Fin.ext (by show l.val / 64 * 64 + l.val % 64 = l.val; omega)
  by_cases h : l.val % 64 < 32
  · have e1 : (⟨l.val / 64 * 64 + (l.val % 64 + 32), by omega⟩ : Fin 128) = ⟨(l.val + 128 - 96) % 128, by omega⟩ := Fin.ext (by show l.val / 64 * 64 + (l.val % 64 + 32) = (l.val + 128 - 96) % 128; omega)
    have e2 : (⟨l.val % 64, h⟩ : Fin 32) = ⟨l.val % 32, by omega⟩ := Fin.ext (by show l.val % 64 = l.val % 32; omega)
    rw [if_pos h, dif_pos h]
    simp only [e0, e1, e2]
    show _ + x _ * (0 - Ideal.sin _) = _
    rw [zero_sub, mul_neg, ← sub_eq_add_neg]
  · have e1 : (⟨l.val / 64 * 64 + (l.val % 64 - 32), by omega⟩ : Fin 128) = ⟨(l.val + 128 - 32) % 128, by omega⟩ := Fin.ext (by show l.val / 64 * 64 + (l.val % 64 - 32) = (l.val + 128 - 32) % 128; omega)
    have e2 : (⟨l.val % 64 - 32, by omega⟩ : Fin 32) = ⟨l.val % 32, by omega⟩ := Fin.ext (by show l.val % 64 - 32 = l.val % 32; omega)
    rw [if_neg h, dif_neg h]
    simp only [e0, e1, e2]
    rfl

/-- A scale carried by cosine and sine is one of the turned lane. -/
theorem scaled (x c y s e : EReal) (he : e = ((1 / 8 : ℝ) : EReal)) : x * (c * e) + y * (s * e) = (x * c + y * s) * e := by
  subst he
  rw [EReal.right_distrib_of_nonneg_of_ne_top (EReal.coe_nonneg.2 (by norm_num)) (EReal.coe_ne_top _), mul_assoc, mul_assoc]

end Cert.Swa

end
-- ==== Proof.Swa.lean ====
/- The sliding-window kernel leaves the plain attention's result in its array. -/
module

public import proofs.«01_k».proof.Proof.SwaReads
public import proofs.«01_k».proof.Proof.SwaMath

@[expose] public section

set_option maxRecDepth 16384

noncomputable section

namespace Cert.Swa

open Idealize.ShloMosaic Idealize.ShloMosaic.TcCoe Idealize.SL.Sem
open Idealize.ShloMosaic.Pipeline (Dat)
open Cert.Kernel3Ideal Cert.Kernel3Ideal.Gen
open Cert.Reference3Ideal.Read

/-- The rotation's frequencies are real numbers. -/
theorem freq_real (i : Fin 32) : IsR (val_main_v9 (F := Ideal) (ix1 i)) := by
  have h2 : Ideal.ofBits FTy.f32 0x40000000#32 = ((2 : ℝ) : EReal) := by
    simp [Ideal.ofBits, Ideal.ieee]
    rw [← EReal.coe_mul]
    norm_num
  have h64 : Ideal.ofBits FTy.f32 0x42800000#32 = ((64 : ℝ) : EReal) := by
    simp [Ideal.ofBits, Ideal.ieee]
    rw [← EReal.coe_mul]
    norm_num
  have h10 : Ideal.ofBits FTy.f32 0x461C4000#32 = ((10000 : ℝ) : EReal) := by
    simp [Ideal.ofBits, Ideal.ieee]
    rw [← EReal.coe_mul]
    norm_num
  have hi : (FloatOps.sitofp (F := Ideal) FTy.f32 (BitVec.ofNat 32 i.val) : EReal) = (((BitVec.ofNat 32 i.val).toInt : ℝ) : EReal) := rfl
  rw [freq, h2, h64, h10, hi, zero_add, ← EReal.coe_mul, ← EReal.coe_neg, Ideal.div_coe (by norm_num), ← EReal.coe_mul, Ideal.pow_coe_coe]
  exact ⟨_, rfl⟩

theorem ang_real (p : BitVec 32) (i : Fin 32) : IsR (ang p i) :=
  IsR.mul ⟨((p.toInt : ℝ)), rfl⟩ (freq_real i)

variable (m : (ℓ : Loc nD τ sig) → Buf (Elt Ideal) ℓ) (c : Dev nD)

/-- The sequence of a point. -/
abbrev sq (t : Fin cfg0.N) (ht : t.val < 256) : Fin 16 := ⟨t.val / 16, by omega⟩
/-- The block of a point in its sequence. -/
abbrev bk (t : Fin cfg0.N) (ht : t.val < 256) : Fin 16 := ⟨t.val % 16, by omega⟩

/-- A rotated key, two heads side by side. -/
def KT (b : Fin 16) (s : Fin 2048) (l : Fin 128) : EReal := val_main_v51 (F := Ideal) (XK m c) (XP m c) (ix4 b s (⟨l.val / 64, by omega⟩ : Fin 2) (⟨l.val % 64, by omega⟩ : Fin 64))
/-- A value, two heads side by side. -/
def VT (b : Fin 16) (s : Fin 2048) (l : Fin 128) : EReal := val_main_v52 (F := Ideal) (XK m c) (ix4 b s (⟨l.val / 64, by omega⟩ : Fin 2) (⟨l.val % 64, by omega⟩ : Fin 64))

section Point
variable (t : Fin cfg0.N) (ht : t.val < 256)

/-- The angle at a lane of the block's row. -/
theorem angle (a l : Fin 128) : (FloatOps.sitofp (F := Ideal) FTy.f32 (iblk m c 2 t (ix2 a (0 : Fin 1))) : EReal) * iblk m c 3 t (ix2 (0 : Fin 1) l)
    = ang (XP m c (ix2 (sq t ht) (⟨t.val % 16 * 128 + a.val, by omega⟩ : Fin 2048))) ⟨l.val % 32, by omega⟩ := by
  have e2 : iblk m c 2 t (ix2 a (0 : Fin 1)) = XP m c (ix2 (sq t ht) (⟨t.val % 16 * 128 + a.val, by omega⟩ : Fin 2048)) := by
    refine (r2 m c t a ht).trans ((v16p m c _).trans (congrArg (XP m c) ?_))
    exact congrArg₂ (fun (u : Fin 16) (v : Fin 2048) => ix2 u v) (Fin.ext (by show (t.val * 128 + a.val) / 2048 = t.val / 16; omega)) (Fin.ext (by show (t.val * 128 + a.val) % 2048 = t.val % 16 * 128 + a.val; omega))
  have e3 : iblk m c 3 t (ix2 (0 : Fin 1) l) = val_main_v9 (F := Ideal) (ix1 (⟨l.val % 32, by omega⟩ : Fin 32)) := (r3 m c t l).trans (v13 m c l)
  unfold ang
  exact congrArg₂ (fun u v : EReal => u * v) (congrArg (fun p => (FloatOps.sitofp (F := Ideal) FTy.f32 p : EReal)) e2) e3

theorem cosine (a l : Fin 128) : k0_pay10 (iblk m c 2 t) (iblk m c 3 t) (ix2 a l)
    = Ideal.cos (ang (XP m c (ix2 (sq t ht) (⟨t.val % 16 * 128 + a.val, by omega⟩ : Fin 2048))) ⟨l.val % 32, by omega⟩) :=
  (p10 a _ _ l).trans (congrArg Ideal.cos (angle m c t ht a l))

theorem sine (a l : Fin 128) : k0_pay13 k0_pay7 (k0_pay11 (iblk m c 2 t) (iblk m c 3 t)) (k0_pay12 (iblk m c 2 t) (iblk m c 3 t)) (ix2 a l)
    = Scalar.select (k0_pay7 (ix2 a l)) (0 - Ideal.sin (ang (XP m c (ix2 (sq t ht) (⟨t.val % 16 * 128 + a.val, by omega⟩ : Fin 2048))) ⟨l.val % 32, by omega⟩))
      (Ideal.sin (ang (XP m c (ix2 (sq t ht) (⟨t.val % 16 * 128 + a.val, by omega⟩ : Fin 2048))) ⟨l.val % 32, by omega⟩)) :=
  (p13 a _ _ _ l).trans (congrArg₂ (fun u v : EReal => Scalar.select (k0_pay7 (ix2 a l)) (0 - Ideal.sin u) (Ideal.sin v)) (angle m c t ht a l) (angle m c t ht a l))

theorem kturn_eq (a l : Fin 128) : kturn (iblk m c 1 t) (iblk m c 2 t) (iblk m c 3 t) a l = KT m c (sq t ht) (⟨t.val % 16 * 128 + a.val, by omega⟩ : Fin 2048) l := by
  unfold kturn turn KT
  rw [cosine m c t ht, sine m c t ht, v51]
  generalize ang _ = θ
  have ex : ∀ l : Fin 128, View.ld (iblk m c 1 t) (Rect.unit ![0, 0] ![128, 128] inb_S128x256_S128x128_0_0) (ix2 a l) = XK m c (ix2 (⟨t.val * 128 + a.val, by omega⟩ : Fin 32768) (⟨l.val, by omega⟩ : Fin 256)) := fun l => by
    refine (congrArg (iblk m c 1 t) (idx2 (n := 256) 0 inb_S128x256_S128x128_0_0 a l (by omega))).trans ((r1 m c t a ht _).trans (congrArg (XK m c) ?_))
    exact congrArg (fun u : Fin 256 => ix2 (⟨t.val * 128 + a.val, by omega⟩ : Fin 32768) u) (Fin.ext (Nat.zero_add _))
  have h := turned (fun l => View.ld (iblk m c 1 t) (Rect.unit ![0, 0] ![128, 128] inb_S128x256_S128x128_0_0) (ix2 a l)) θ l (k0_pay7 (ix2 a l)) (p7 a l)
  refine h.trans ?_
  refine congrArg (fun f => rot f θ (⟨l.val % 64, by omega⟩ : Fin 64)) (funext fun d => ?_)
  refine (ex _).trans (congrArg (XK m c) ?_)
  exact congrArg (fun u : Fin 32768 => ix2 u (⟨l.val / 64 * 64 + d.val, by omega⟩ : Fin 256)) (Fin.ext (by show t.val * 128 + a.val = t.val / 16 * 2048 + (t.val % 16 * 128 + a.val); omega))

theorem val_eq (a l : Fin 128) : View.ld (iblk m c 1 t) (Rect.unit ![0, 128] ![128, 128] inb_S128x256_S128x128_0_128) (ix2 a l) = VT m c (sq t ht) (⟨t.val % 16 * 128 + a.val, by omega⟩ : Fin 2048) l := by
  unfold VT
  rw [v52]
  refine (congrArg (iblk m c 1 t) (idx2 (n := 256) 128 inb_S128x256_S128x128_0_128 a l (by omega))).trans ((r1 m c t a ht _).trans (congrArg (XK m c) ?_))
  exact congrArg₂ (fun (u : Fin 32768) (v : Fin 256) => ix2 u v) (Fin.ext (by show t.val * 128 + a.val = t.val / 16 * 2048 + (t.val % 16 * 128 + a.val); omega))
    (Fin.ext (by show 128 + l.val = 128 + (l.val / 64 * 64 + l.val % 64); omega))

theorem keys_new (r : Fin 4) (a l : Fin 128) : (outsAt0 m c t.val t.isLt).2.1 (ix3 r (⟨128 + a.val, by omega⟩ : Fin 256) l)
    = place (KT m c (sq t ht) (⟨t.val % 16 * 128 + a.val, by omega⟩ : Fin 2048)) r l := by
  have e : kturn (iblk m c 1 t) (iblk m c 2 t) (iblk m c 3 t) a = KT m c (sq t ht) (⟨t.val % 16 * 128 + a.val, by omega⟩ : Fin 2048) := funext fun l => kturn_eq m c t ht a l
  rw [← e]
  by_cases h0 : t.val % 16 = 0
  · rw [keysA m c t h0 (by omega)]
    exact KC_new _ _ _ _ r a l
  · rw [keysB m c t h0 (by omega)]
    exact KC_new _ _ _ _ r a l

theorem vals_new (r : Fin 4) (a l : Fin 128) : (outsAt0 m c t.val t.isLt).2.2 (ix3 r (⟨128 + a.val, by omega⟩ : Fin 256) l)
    = place (VT m c (sq t ht) (⟨t.val % 16 * 128 + a.val, by omega⟩ : Fin 2048)) r l := by
  have e : (fun l => View.ld (iblk m c 1 t) (Rect.unit ![0, 128] ![128, 128] inb_S128x256_S128x128_0_128) (ix2 a l)) = VT m c (sq t ht) (⟨t.val % 16 * 128 + a.val, by omega⟩ : Fin 2048) := funext fun l => val_eq m c t ht a l
  rw [← e]
  by_cases h0 : t.val % 16 = 0
  · rw [valsA m c t h0 (by omega)]
    exact VC_new _ _ r a l
  · rw [valsB m c t h0 (by omega)]
    exact VC_new _ _ r a l

end Point

theorem pay3_zero (r : Fin 4) (a l : Fin 128) : k0_pay3 (F := Ideal) (ix3 r a l) = (0 : EReal) := by
  pointwise [k0_pay3]
theorem pay4_zero (r : Fin 4) (a l : Fin 128) : k0_pay4 (F := Ideal) (ix3 r a l) = (0 : EReal) := by
  pointwise [k0_pay4]
theorem pay5_same (z : Vec Ideal S4x128x128 .bf16) (r : Fin 4) (a l : Fin 128) : k0_pay5 z (ix3 r a l) = z (ix3 r a l) := by
  pointwise [k0_pay5]
theorem pay6_same (z : Vec Ideal S4x128x128 .bf16) (r : Fin 4) (a l : Fin 128) : k0_pay6 z (ix3 r a l) = z (ix3 r a l) := by
  pointwise [k0_pay6]
theorem idxo (inb) (r : Fin 4) (a l : Fin 128) : (Rect.unit (s := S4x256x128) ![0, 128, 0] ![4, 128, 128] inb).idx (ix3 r a l) = ix3 r (⟨128 + a.val, by omega⟩ : Fin 256) l := by
  funext i
  fin_cases i <;> apply Fin.ext <;> simp [LoadRect.idx, Rect.unit]
theorem place_zero (r : Fin 4) (l : Fin 128) : place (fun _ => 0) r l = 0 := by
  unfold place
  split <;> rfl

theorem wrow_new (z : Fin 2048 → EReal) (b : Fin 16) (a : Fin 128) : wrow z b (⟨128 + a.val, by omega⟩ : Fin 256) = z ⟨b.val * 128 + a.val, by omega⟩ := by
  unfold wrow
  rw [dif_neg (by show ¬ 128 + a.val < 128; omega)]
  exact congrArg z (Fin.ext (by show b.val * 128 + (128 + a.val - 128) = b.val * 128 + a.val; omega))
theorem wrow_first (z : Fin 2048 → EReal) (b : Fin 16) (hb : b.val = 0) (a : Fin 128) : wrow z b (⟨a.val, by omega⟩ : Fin 256) = 0 := by
  unfold wrow
  rw [dif_pos a.isLt, dif_pos hb]
theorem wrow_old (z : Fin 2048 → EReal) (b : Fin 16) (hb : ¬ b.val = 0) (a : Fin 128) : wrow z b (⟨a.val, by omega⟩ : Fin 256) = z ⟨(b.val - 1) * 128 + a.val, by omega⟩ := by
  unfold wrow
  rw [dif_pos a.isLt, dif_neg hb]

section Window
variable (t : Fin cfg0.N) (ht : t.val < 256)

/-- The kept keys after a point are the keys of its window. -/
theorem keys (r : Fin 4) (x : Fin 256) (l : Fin 128) : (outsAt0 m c t.val t.isLt).2.1 (ix3 r x l)
    = place (fun l => wrow (fun s => KT m c (sq t ht) s l) (bk t ht) x) r l := by
  rcases (by omega : x.val < 128 ∨ 128 ≤ x.val) with hx | hx
  · obtain ⟨a, rfl⟩ : ∃ a : Fin 128, x = ⟨a.val, Nat.lt_trans a.isLt (by decide)⟩ := ⟨⟨x.val, hx⟩, rfl⟩
    by_cases h0 : t.val % 16 = 0
    · rw [keysA m c t h0 (by omega)]
      simp only [wrow_first _ (bk t ht) h0, place_zero]
      exact (KC_old _ _ _ _ r a l).trans (pay3_zero r a l)
    · rw [keysB m c t h0 (by omega)]
      simp only [wrow_old _ (bk t ht) h0]
      refine (KC_old _ _ _ _ r a l).trans ((pay5_same _ r a l).trans ?_)
      refine (congrArg (outsAt0 m c (t.val - 1) (Nat.lt_of_le_of_lt (Nat.sub_le _ _) t.isLt)).2.1 (idxo _ r a l)).trans ?_
      refine (keys_new m c ⟨t.val - 1, Nat.lt_of_le_of_lt (Nat.sub_le _ _) t.isLt⟩ (by show t.val - 1 < 256; omega) r a l).trans ?_
      refine congrArg (fun f => place f r l) (funext fun l => ?_)
      exact congrArg₂ (fun (u : Fin 16) (v : Fin 2048) => KT m c u v l) (Fin.ext (by show (t.val - 1) / 16 = t.val / 16; omega)) (Fin.ext (by show (t.val - 1) % 16 * 128 + a.val = (t.val % 16 - 1) * 128 + a.val; omega))
  · obtain ⟨a, rfl⟩ : ∃ a : Fin 128, x = ⟨128 + a.val, Nat.add_lt_add_left a.isLt 128⟩ := ⟨⟨x.val - 128, by omega⟩, Fin.ext (by show x.val = 128 + (x.val - 128); omega)⟩
    simp only [wrow_new]
    exact keys_new m c t ht r a l

/-- The kept values after a point are the values of its window. -/
theorem vals (r : Fin 4) (x : Fin 256) (l : Fin 128) : (outsAt0 m c t.val t.isLt).2.2 (ix3 r x l)
    = place (fun l => wrow (fun s => VT m c (sq t ht) s l) (bk t ht) x) r l := by
  rcases (by omega : x.val < 128 ∨ 128 ≤ x.val) with hx | hx
  · obtain ⟨a, rfl⟩ : ∃ a : Fin 128, x = ⟨a.val, Nat.lt_trans a.isLt (by decide)⟩ := ⟨⟨x.val, hx⟩, rfl⟩
    by_cases h0 : t.val % 16 = 0
    · rw [valsA m c t h0 (by omega)]
      simp only [wrow_first _ (bk t ht) h0, place_zero]
      exact (VC_old _ _ r a l).trans (pay4_zero r a l)
    · rw [valsB m c t h0 (by omega)]
      simp only [wrow_old _ (bk t ht) h0]
      refine (VC_old _ _ r a l).trans ((pay6_same _ r a l).trans ?_)
      refine (congrArg (outsAt0 m c (t.val - 1) (Nat.lt_of_le_of_lt (Nat.sub_le _ _) t.isLt)).2.2 (idxo _ r a l)).trans ?_
      refine (vals_new m c ⟨t.val - 1, Nat.lt_of_le_of_lt (Nat.sub_le _ _) t.isLt⟩ (by show t.val - 1 < 256; omega) r a l).trans ?_
      refine congrArg (fun f => place f r l) (funext fun l => ?_)
      exact congrArg₂ (fun (u : Fin 16) (v : Fin 2048) => VT m c u v l) (Fin.ext (by show (t.val - 1) / 16 = t.val / 16; omega)) (Fin.ext (by show (t.val - 1) % 16 * 128 + a.val = (t.val % 16 - 1) * 128 + a.val; omega))
  · obtain ⟨a, rfl⟩ : ∃ a : Fin 128, x = ⟨128 + a.val, Nat.add_lt_add_left a.isLt 128⟩ := ⟨⟨x.val - 128, by omega⟩, Fin.ext (by show x.val = 128 + (x.val - 128); omega)⟩
    simp only [wrow_new]
    exact vals_new m c t ht r a l

/-- A lane of the queries, turned and scaled. -/
theorem qturn_eq (n : ℕ) (hn : n < 8) (a l : Fin 128) : qturn k0_pay7 (CQ (iblk m c 2 t) (iblk m c 3 t)) (SQ (iblk m c 2 t) (iblk m c 3 t)) (iblk m c 0 t) n hn a l
    = val_main_v37 (F := Ideal) (XQ m c) (XP m c) (ix4 (sq t ht) (⟨t.val % 16 * 128 + a.val, by omega⟩ : Fin 2048) (⟨2 * n + l.val / 64, by omega⟩ : Fin 16) (⟨l.val % 64, by omega⟩ : Fin 64))
      * Ideal.ofBits FTy.f32 0x3E000000#32 := by
  have hc : CQ (iblk m c 2 t) (iblk m c 3 t) (ix2 a l) = _ := (p27 a (k0_pay10 (iblk m c 2 t) (iblk m c 3 t)) l).trans (congrArg (fun u : EReal => u * Ideal.ofBits FTy.f32 0x3E000000#32) (cosine m c t ht a l))
  have hs : SQ (iblk m c 2 t) (iblk m c 3 t) (ix2 a l) = _ := (p28 a (k0_pay13 k0_pay7 (k0_pay11 (iblk m c 2 t) (iblk m c 3 t)) (k0_pay12 (iblk m c 2 t) (iblk m c 3 t))) l).trans (congrArg (fun u : EReal => u * Ideal.ofBits FTy.f32 0x3E000000#32) (sine m c t ht a l))
  unfold qturn
  rw [hc, hs, v37, scaled _ _ _ _ _ eighth]
  refine congrArg (fun u : EReal => u * Ideal.ofBits FTy.f32 0x3E000000#32) ?_
  generalize ang _ = θ
  have ex : ∀ (j : ℕ) (hj : j < 128), iblk m c 0 t (ix2 a (⟨128 * n + j, by omega⟩ : Fin 1024)) = XQ m c (ix2 (⟨t.val * 128 + a.val, by omega⟩ : Fin 32768) (⟨128 * n + j, by omega⟩ : Fin 1024)) := fun j hj => r0 m c t a ht _
  have h := turned (fun l => iblk m c 0 t (ix2 a (⟨128 * n + l.val, by omega⟩ : Fin 1024))) θ l (k0_pay7 (ix2 a l)) (p7 a l)
  refine h.trans ?_
  refine congrArg (fun f => rot f θ (⟨l.val % 64, by omega⟩ : Fin 64)) (funext fun d => ?_)
  refine (ex _ (by omega)).trans (congrArg (XQ m c) ?_)
  exact congrArg₂ (fun (u : Fin 32768) (v : Fin 1024) => ix2 u v) (Fin.ext (by show t.val * 128 + a.val = t.val / 16 * 2048 + (t.val % 16 * 128 + a.val); omega))
    (Fin.ext (by show 128 * n + (l.val / 64 * 64 + d.val) = (2 * n + l.val / 64) * 64 + d.val; omega))

/-- A row of the kernel's scores is one of the plain attention's. -/
theorem score_eq (n : ℕ) (hn : n < 8) (s : ℕ) (hs : s < 2) (a : Fin 128) :
    score (CQ (iblk m c 2 t) (iblk m c 3 t)) (SQ (iblk m c 2 t) (iblk m c 3 t)) (BIAS (BitVec.ofNat 32 (grid0.coords t 1).val)) (iblk m c 0 t) (outsAt0 m c t.val t.isLt).2.1 n hn ⟨2 * (n / 4) + s, by omega⟩ a
    = fun x => val_main_v95 (F := Ideal) (XQ m c) (XK m c) (XP m c) (ix6 (sq t ht) (bk t ht) (⟨n / 4, by omega⟩ : Fin 2) (⟨2 * (n % 4) + s, by omega⟩ : Fin 8) a x) := by
  funext x
  unfold score
  have e1 : ∀ l : Fin 128, l.val / 64 ≠ s → place (fun l => wrow (fun u => KT m c (sq t ht) u l) (bk t ht) x) (⟨2 * (n / 4) + s, by omega⟩ : Fin 4) l = 0 := fun l hl => by
    unfold place
    exact if_neg (by show ¬ l.val / 64 = (2 * (n / 4) + s) % 2; omega)
  have e2 : ∀ d : Fin 64, place (fun l => wrow (fun u => KT m c (sq t ht) u l) (bk t ht) x) (⟨2 * (n / 4) + s, by omega⟩ : Fin 4) (⟨s * 64 + d.val, by omega⟩ : Fin 128)
      = val_main_v58 (F := Ideal) (XK m c) (XP m c) (ix5 (sq t ht) (bk t ht) x (⟨n / 4, by omega⟩ : Fin 2) d) := fun d => by
    unfold place
    rw [v58]
    refine (if_pos (by show (s * 64 + d.val) / 64 = (2 * (n / 4) + s) % 2; omega)).trans ?_
    refine congrArg (fun f => wrow f (bk t ht) x) (funext fun u => ?_)
    unfold KT
    refine congrArg₂ (fun (g : Fin 2) (d : Fin 64) => val_main_v51 (F := Ideal) (XK m c) (XP m c) (ix4 (sq t ht) u g d)) (Fin.ext ?_) (Fin.ext ?_)
    · show ((2 * (n / 4) + s) / 2 * 64 + (s * 64 + d.val) % 64) / 64 = n / 4
      omega
    · show ((2 * (n / 4) + s) / 2 * 64 + (s * 64 + d.val) % 64) % 64 = d.val
      omega
  have e3 : ∀ d : Fin 64, val_main_v37 (F := Ideal) (XQ m c) (XP m c) (ix4 (sq t ht) (⟨t.val % 16 * 128 + a.val, by omega⟩ : Fin 2048) (⟨2 * n + (s * 64 + d.val) / 64, by omega⟩ : Fin 16) (⟨(s * 64 + d.val) % 64, by omega⟩ : Fin 64))
      = val_main_v53 (F := Ideal) (XQ m c) (XP m c) (ix6 (sq t ht) (bk t ht) a (⟨n / 4, by omega⟩ : Fin 2) (⟨2 * (n % 4) + s, by omega⟩ : Fin 8) d) := fun d => by
    rw [v53]
    refine congrArg₂ (fun (g : Fin 16) (d : Fin 64) => val_main_v37 (F := Ideal) (XQ m c) (XP m c) (ix4 (sq t ht) (⟨t.val % 16 * 128 + a.val, by omega⟩ : Fin 2048) g d)) (Fin.ext ?_) (Fin.ext ?_)
    · show 2 * n + (s * 64 + d.val) / 64 = n / 4 * 8 + (2 * (n % 4) + s)
      omega
    · show (s * 64 + d.val) % 64 = d.val
      omega
  have e4 : (grid0.coords t 1).val = t.val % 16 := crd t
  rw [e4, v95, v82]
  refine (congrArg (fun u : EReal => _ + u) (p30 a (BitVec.ofNat 32 (t.val % 16)) x)).trans ((masked _ _).trans ?_)
  refine congrArg (fun u : EReal => Scalar.select (seen (BitVec.ofNat 32 (t.val % 16)) a x) u (Ideal.ofBits FTy.f32 0xFF800000#32)) ?_
  rw [eighth, sum_mul_coe _ _ _ (by norm_num)]
  refine (half _ s hs fun l hl => ?_).trans ?_
  · show qturn _ _ _ _ n hn a l * (outsAt0 m c t.val t.isLt).2.1 (ix3 _ x l) = 0
    rw [keys m c t ht, e1 l hl, mul_zero]
  · refine Finset.sum_congr rfl fun d _ => ?_
    show qturn _ _ _ _ n hn a _ * (outsAt0 m c t.val t.isLt).2.1 (ix3 _ x _) = _
    rw [keys m c t ht, e2 d, qturn_eq m c t ht, ← e3 d, eighth]
    rw [mul_right_comm, mul_comm (val_main_v37 (F := Ideal) (XQ m c) (XP m c) _)]

/-- A lane of the kept values is the window's value of that head, or zero. -/
theorem val_lane (g : Fin 2) (r : Fin 4) (hr : r.val / 2 = g.val) (j : Fin 128) (x : Fin 256) : (outsAt0 m c t.val t.isLt).2.2 (ix3 r x j)
    = if j.val / 64 = r.val % 2 then val_main_v61 (F := Ideal) (XK m c) (ix5 (sq t ht) (bk t ht) x g (⟨j.val % 64, by omega⟩ : Fin 64)) else 0 := by
  rw [vals m c t ht, v61]
  unfold place
  refine congrArg (fun u : EReal => if j.val / 64 = r.val % 2 then u else 0) ?_
  refine congrArg (fun f => wrow f (bk t ht) x) (funext fun u => ?_)
  unfold VT
  refine congrArg₂ (fun (g : Fin 2) (d : Fin 64) => val_main_v52 (F := Ideal) (XK m c) (ix4 (sq t ht) u g d)) (Fin.ext ?_) (Fin.ext ?_)
  · show (r.val / 2 * 64 + j.val % 64) / 64 = g.val
    omega
  · show (r.val / 2 * 64 + j.val % 64) % 64 = j.val % 64
    omega

end Window

/-- Column block `n` of the result of a block. -/
theorem outn (cq sq : FVec Ideal S128x128 .f32) (b : FVec Ideal S128x256 .f32) (q : Vec Ideal S128x1024 .bf16) (skb : Vec Ideal S1x128 .f32) (Ks Vs : Vec Ideal S4x256x128 .bf16)
    (n : ℕ) (hn : n < 8) (a j : Fin 128) : OUT cq sq b q skb Ks Vs (ix2 a (⟨128 * n + j.val, by omega⟩ : Fin 1024))
    = mix (k0_pay8 (ix2 a j)) (score cq sq b q Ks n hn ⟨2 * (n / 4) + 0, by omega⟩ a) (skb (ix2 0 (⟨2 * n + 0, by omega⟩ : Fin 128))) (fun x => Vs (ix3 (⟨2 * (n / 4) + 0, by omega⟩ : Fin 4) x j))
      (score cq sq b q Ks n hn ⟨2 * (n / 4) + 1, by omega⟩ a) (skb (ix2 0 (⟨2 * n + 1, by omega⟩ : Fin 128))) (fun x => Vs (ix3 (⟨2 * (n / 4) + 1, by omega⟩ : Fin 4) x j)) := by
  rcases (by omega : n = 0 ∨ n = 1 ∨ n = 2 ∨ n = 3 ∨ n = 4 ∨ n = 5 ∨ n = 6 ∨ n = 7) with rfl | rfl | rfl | rfl | rfl | rfl | rfl | rfl
  · exact out0 cq sq b q skb Ks Vs a j
  · exact out1 cq sq b q skb Ks Vs a j
  · exact out2 cq sq b q skb Ks Vs a j
  · exact out3 cq sq b q skb Ks Vs a j
  · exact out4 cq sq b q skb Ks Vs a j
  · exact out5 cq sq b q skb Ks Vs a j
  · exact out6 cq sq b q skb Ks Vs a j
  · exact out7 cq sq b q skb Ks Vs a j

theorem mix_left (s0 : Fin 256 → EReal) (k0 : EReal) (v0 : Fin 256 → EReal) (s1 : Fin 256 → EReal) (k1 : EReal) :
    mix 1#1 s0 k0 v0 s1 k1 (fun _ => 0) = (∑ x, wt s0 k0 x * v0 x) * Ideal.div 1 (den s0 k0) := by
  unfold mix inv
  simp only [mul_zero, Finset.sum_const_zero, add_zero]
  rfl
theorem mix_right (s0 : Fin 256 → EReal) (k0 : EReal) (s1 : Fin 256 → EReal) (k1 : EReal) (v1 : Fin 256 → EReal) :
    mix 0#1 s0 k0 (fun _ => 0) s1 k1 v1 = (∑ x, wt s1 k1 x * v1 x) * Ideal.div 1 (den s1 k1) := by
  unfold mix inv
  simp only [mul_zero, Finset.sum_const_zero, zero_add]
  rfl

/-- The plain attention's result at a lane of column block `n`. -/
theorem plain (t : Fin cfg0.N) (ht : t.val < 256) (n : ℕ) (hn : n < 8) (s : Fin 2) (a j : Fin 128) (h : j.val / 64 = s.val) :
    val_main_v114 (F := Ideal) (XQ m c) (XK m c) (XP m c) (XS m c) (ix2 (⟨t.val * 128 + a.val, by omega⟩ : Fin 32768) (⟨128 * n + j.val, by omega⟩ : Fin 1024))
    = ∑ x, val_main_v61 (F := Ideal) (XK m c) (ix5 (sq t ht) (bk t ht) x (⟨n / 4, by omega⟩ : Fin 2) (⟨j.val % 64, by omega⟩ : Fin 64))
        * Ideal.div (wt (fun x => val_main_v95 (F := Ideal) (XQ m c) (XK m c) (XP m c) (ix6 (sq t ht) (bk t ht) (⟨n / 4, by omega⟩ : Fin 2) (⟨2 * (n % 4) + s.val, by omega⟩ : Fin 8) a x)) (XS m c (ix1 (⟨2 * n + s.val, by omega⟩ : Fin 16))) x)
          (den (fun x => val_main_v95 (F := Ideal) (XQ m c) (XK m c) (XP m c) (ix6 (sq t ht) (bk t ht) (⟨n / 4, by omega⟩ : Fin 2) (⟨2 * (n % 4) + s.val, by omega⟩ : Fin 8) a x)) (XS m c (ix1 (⟨2 * n + s.val, by omega⟩ : Fin 16)))) := by
  have ei : (⟨n / 4 * 8 + (2 * (n % 4) + s.val), by omega⟩ : Fin 16) = ⟨2 * n + s.val, by omega⟩ := Fin.ext (by show n / 4 * 8 + (2 * (n % 4) + s.val) = 2 * n + s.val; omega)
  rw [← ei]
  refine Eq.trans (congrArg (val_main_v114 (F := Ideal) (XQ m c) (XK m c) (XP m c) (XS m c)) ?_) ((v114 (XQ m c) (XK m c) (XP m c) (XS m c) (sq t ht) (bk t ht) (⟨n / 4, by omega⟩ : Fin 2) (⟨2 * (n % 4) + s.val, by omega⟩ : Fin 8) a (⟨j.val % 64, by omega⟩ : Fin 64)).trans ?_)
  · exact congrArg₂ (fun (u : Fin 32768) (v : Fin 1024) => ix2 u v) (Fin.ext (by show t.val * 128 + a.val = t.val / 16 * 2048 + t.val % 16 * 128 + a.val; omega))
      (Fin.ext (by show 128 * n + j.val = n / 4 * 512 + (2 * (n % 4) + s.val) * 64 + j.val % 64; omega))
  · refine Finset.sum_congr rfl fun x _ => ?_
    rw [v102, v108]

section Real
variable (hq : ∀ i, IsR (XQ m c i)) (hk : ∀ (r : Fin 32768) (j : Fin 128), IsR (XK m c (ix2 r (⟨j.val, by omega⟩ : Fin 256)))) (hs : ∀ i, IsR (XS m c i))
include hq hk

theorem scores_real (b d : Fin 16) (g : Fin 2) (h : Fin 8) (a : Fin 128) (x : Fin 256) : IsR (val_main_v82 (F := Ideal) (XQ m c) (XK m c) (XP m c) (ix6 b d g h a x)) := by
  rw [v82, eighth]
  refine IsR.mul (IsR.sum _ _ fun e => IsR.mul ?_ ?_) ⟨_, rfl⟩
  · rw [v58]
    have hr : ∀ u : Fin 2048, IsR (val_main_v51 (F := Ideal) (XK m c) (XP m c) (ix4 b u g e)) := fun u => by
      rw [v51]
      exact rot_real _ _ (fun d => hk _ (⟨g.val * 64 + d.val, by omega⟩ : Fin 128)) (fun i => ang_real _ i) _
    unfold wrow
    split
    · split
      · exact ⟨0, rfl⟩
      · exact hr _
    · exact hr _
  · rw [v53, v37]
    exact rot_real _ _ (fun d => hq _) (fun i => ang_real _ i) _

theorem rows_ne_top (b d : Fin 16) (g : Fin 2) (h : Fin 8) (a : Fin 128) (x : Fin 256) : val_main_v95 (F := Ideal) (XQ m c) (XK m c) (XP m c) (ix6 b d g h a x) ≠ ⊤ := by
  rw [v95]
  exact masked_ne_top _ _ (scores_real m c hq hk b d g h a x)

include hs
/-- What a point leaves in its block is the plain attention's. -/
theorem point (t : Fin cfg0.N) (ht : t.val < 256) (n : ℕ) (hn : n < 8) (a j : Fin 128) : (outsAt0 m c t.val t.isLt).1 (ix2 a (⟨128 * n + j.val, by omega⟩ : Fin 1024))
    = val_main_v114 (F := Ideal) (XQ m c) (XK m c) (XP m c) (XS m c) (ix2 (⟨t.val * 128 + a.val, by omega⟩ : Fin 32768) (⟨128 * n + j.val, by omega⟩ : Fin 1024)) := by
  rw [res m c t]
  refine (outn _ _ _ _ _ _ _ n hn a j).trans ?_
  have w0 := fun x => val_lane m c t ht (⟨n / 4, by omega⟩ : Fin 2) (⟨2 * (n / 4) + 0, by omega⟩ : Fin 4) (by show (2 * (n / 4) + 0) / 2 = n / 4; omega) j x
  have w1 := fun x => val_lane m c t ht (⟨n / 4, by omega⟩ : Fin 2) (⟨2 * (n / 4) + 1, by omega⟩ : Fin 4) (by show (2 * (n / 4) + 1) / 2 = n / 4; omega) j x
  have k (s : ℕ) (h : s < 2) : iblk m c 4 t (ix2 (0 : Fin 1) (⟨2 * n + s, by omega⟩ : Fin 128)) = XS m c (ix1 (⟨2 * n + s, by omega⟩ : Fin 16)) := (r4 m c t _).trans (v15s m c _ (by omega))
  rw [score_eq m c t ht n hn 0 (by omega), score_eq m c t ht n hn 1 (by omega), p8, k 0 (by omega), k 1 (by omega)]
  rcases (by omega : j.val / 64 = 0 ∨ j.val / 64 = 1) with h | h
  · rw [if_pos (by omega : j.val < 64), funext fun x => (w0 x).trans (if_pos (by show j.val / 64 = (2 * (n / 4) + 0) % 2; omega)),
      funext fun x => (w1 x).trans (if_neg (by show ¬ j.val / 64 = (2 * (n / 4) + 1) % 2; omega)), mix_left, weigh _ _ _ (fun x => rows_ne_top m c hq hk _ _ _ _ a x) (hs _)]
    exact (plain m c t ht n hn 0 a j h).symm
  · rw [if_neg (by omega : ¬ j.val < 64), funext fun x => (w0 x).trans (if_neg (by show ¬ j.val / 64 = (2 * (n / 4) + 0) % 2; omega)),
      funext fun x => (w1 x).trans (if_pos (by show j.val / 64 = (2 * (n / 4) + 1) % 2; omega)), mix_right, weigh _ _ _ (fun x => rows_ne_top m c hq hk _ _ _ _ a x) (hs _)]
    exact (plain m c t ht n hn 1 a j h).symm

/-- The kernel's array after its grid is the plain attention's result. -/
theorem final : (dats m 0 c).arrAt 5 (cfgs 0).N = val_main_v114 (F := Ideal) (XQ m c) (XK m c) (XP m c) (XS m c) := by
  refine (dats m 0 c).arrAt_eq_of_covers 5 _ (by decide +kernel) fun t _ y => ?_
  blk_simp
  rw [after0_5]
  have ht : t.val < 256 := t.isLt
  obtain ⟨a, b, rfl⟩ : ∃ (a : Fin 128) (b : Fin 1024), y = ix2 a b := ⟨y 0, y 1, by funext i; fin_cases i <;> rfl⟩
  refine Eq.trans ?_ (congrArg (val_main_v114 (F := Ideal) (XQ m c) (XK m c) (XP m c) (XS m c)) (e5 t a ht b).symm)
  have h := point m c hq hk hs t ht (b.val / 128) (by omega) a ⟨b.val % 128, by omega⟩
  have eb : (⟨128 * (b.val / 128) + b.val % 128, by omega⟩ : Fin 1024) = b := Fin.ext (by show 128 * (b.val / 128) + b.val % 128 = b.val; omega)
  simp only [eb] at h
  exact h

end Real

end Cert.Swa

end
-- ==== Proof.SwaClaim.lean ====
/- The claim about the sliding-window attention: with finite queries, keys and sinks, kernel and reference end with the same array. -/
module

public import proofs.«01_k».proof.Defs
public import proofs.«01_k».proof.Proof.Swa
public import proofs.«01_k».proof.Proof.Gen.Pre_finite_scores
public import Idealize.ShloMosaic.Lib.Claim

@[expose] public section

noncomputable section

namespace Cert.Swa

open Idealize.ShloMosaic Idealize.SL.Sem

/-- The reference runs to its end and leaves its arguments alone; it declares no semaphore. -/
theorem frame_r : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run m ρ)

/-- The same from finite queries, keys and sinks. -/
theorem frame_r_pre : Cert.quiescent_Reference3Ideal_pre_finite_scores (hPre_finite_scores := Cert.Pre_finite_scores.Gen.facts) := by
  intro m ρ _
  exact (θ_run Cert.Reference3Ideal.defs _ _).mono (fun r h => ⟨fun c => (h c).2, sem_eq_zero_of_no_sems (by decide) r.2⟩)
    (Cert.Reference3Ideal.Value.run m ρ)

theorem inf16 : Ideal.ofBits FTy.bf16 0x7F80#16 = ⊤ := by
  simp [Ideal.ofBits, Ideal.ieee]
theorem inf32 : Ideal.ofBits FTy.f32 0x7F800000#32 = ⊤ := by
  simp [Ideal.ofBits, Ideal.ieee]

/-- A number whose absolute value compares below infinity is a real number. -/
theorem real_of_lt (x y : EReal) (hy : y = ⊤) (h : BitVec.ofBool (decide (max x (-x) < y)) = 1#1) : IsR x := by
  subst hy
  refine isR_of_abs ?_
  by_contra hn
  rw [decide_eq_false hn] at h
  exact absurd h (by decide)

section Pre
variable (x0 : FVec Ideal Cert.Pre_finite_scores.S32768x1024 .bf16) (x1 : FVec Ideal Cert.Pre_finite_scores.S32768x256 .bf16)
  (x2 : IVec Cert.Pre_finite_scores.S16x2048 32) (x3 : FVec Ideal Cert.Pre_finite_scores.S16 .f32)

theorem pre0 (h : (Cert.Pre_finite_scores.fn (F := Ideal) x0 x1 x2 x3).1 = fun _ => 1#1) (i : Fin 32768) (j : Fin 1024) : IsR (x0 (ix2 i j)) := by
  have h := congrFun h (ix2 i j)
  pointwise [Cert.Pre_finite_scores.fn] at h
  exact real_of_lt _ _ inf16 h
theorem pre1 (h : (Cert.Pre_finite_scores.fn (F := Ideal) x0 x1 x2 x3).2.1 = fun _ => 1#1) (i : Fin 32768) (j : Fin 128) : IsR (x1 (ix2 i (⟨j.val, by omega⟩ : Fin 256))) := by
  have h := congrFun h (ix2 i j)
  pointwise [Cert.Pre_finite_scores.fn] at h
  exact real_of_lt _ _ inf16 h
theorem pre3 (h : (Cert.Pre_finite_scores.fn (F := Ideal) x0 x1 x2 x3).2.2 = fun _ => 1#1) (i : Fin 16) : IsR (x3 (ix1 i)) := by
  have h := congrFun h (ix1 i)
  pointwise [Cert.Pre_finite_scores.fn] at h
  exact real_of_lt _ _ inf32 h
end Pre

/-- Kernel and reference, run from the same finite queries, keys and sinks, end with the same result. -/
theorem algebraic : Cert.algebraic_Kernel3Ideal_Reference3Ideal_pre_finite_scores (hPre_finite_scores := Cert.Pre_finite_scores.Gen.facts) := by
  pair_intro
  · run_from Cert.Kernel3Ideal.Value.run_blocks m g
  · run_from Cert.Reference3Ideal.Value.run m' g'
    · obtain ⟨a0, a1, a2, a3⟩ := hagree c
      obtain ⟨h0, h1, h3⟩ := hpre c
      rw [Cert.Reference3Ideal.Read.val_main_v114_eq, a0, a1, a2, a3]
      refine (final m c (fun i => ?_) (fun r j => ?_) (fun i => ?_)).symm
      · obtain ⟨a, b, rfl⟩ : ∃ (a : Fin 32768) (b : Fin 1024), i = ix2 a b := ⟨i 0, i 1, by funext k; fin_cases k <;> rfl⟩
        exact pre0 _ _ _ _ h0 a b
      · exact pre1 _ _ _ _ h1 r j
      · obtain ⟨a, rfl⟩ : ∃ a : Fin 16, i = ix1 a := ⟨i 0, by funext k; fin_cases k; rfl⟩
        exact pre3 _ _ _ _ h3 a

end Cert.Swa

end
-- ==== Proof.InProj.lean ====
/- The input projection: what the blocked kernel leaves in its five result arrays. -/
module

public import proofs.«01_k».proof.Proof.Gen.Kernel4Ideal.Value
public import proofs.«01_k».proof.Proof.Gen.Reference4Ideal.Run
public import proofs.«01_k».proof.Proof.XattnSpec
public import Idealize.ShloMosaic.Lib.Pipeline.ValueKit
public import Idealize.ShloMosaic.Lib.Pointwise
public import Idealize.ShloMosaic.Lib.StableHlo.ReadAt

@[expose] public section

set_option maxRecDepth 16384

noncomputable section

namespace Cert.InProj

open Idealize.ShloMosaic Idealize.ShloMosaic.TcCoe Idealize.SL.Sem
open Idealize.ShloMosaic.Pipeline (Dat)
open Cert.Kernel4Ideal Cert.Kernel4Ideal.Gen
open Cert.Xattn (rms)

/-- The reference's projection of every row onto every column of the weights. -/
abbrev PROJ (x : FVec Ideal Cert.Reference4Ideal.S32768x1024 .f32) (g : FVec Ideal Cert.Reference4Ideal.S1024 .f32)
    (w : FVec Ideal Cert.Reference4Ideal.S1024x5384 .f32) : FVec Ideal Cert.Reference4Ideal.S32768x5384 .f32 :=
  Host.dotGeneral Cert.Reference4Ideal.dot_S32768x1024_S1024x5384_S32768x5384_1_0_0_1_n_n none (mulf (mulf x (broadcastInDim Cert.Reference4Ideal.S32768x1024 ![0, 1] Cert.Reference4Ideal.Gen.bcast_S32768x1_S32768x1024_0_1 (Host.rsqrt (addf (Host.divf (broadcastInDim Cert.Reference4Ideal.S32768x1 ![0] Cert.Reference4Ideal.Gen.bcast_S32768_S32768x1_0 (Host.reduceAdd (mulf x x) (constant Cert.Reference4Ideal.S_ .f32 0x00000000#32) Cert.Reference4Ideal.Gen.reducesTo_S32768x1024_S32768_d1 Cert.Reference4Ideal.Gen.h_S_)) (broadcastInDim Cert.Reference4Ideal.S32768x1 ![] Cert.Reference4Ideal.Gen.bcast_S_S32768x1 (constant Cert.Reference4Ideal.S_ .f32 0x44800000#32))) (broadcastInDim Cert.Reference4Ideal.S32768x1 ![] Cert.Reference4Ideal.Gen.bcast_S_S32768x1 (constant Cert.Reference4Ideal.S_ .f32 0x358637BD#32)))))) (broadcastInDim Cert.Reference4Ideal.S32768x1024 ![0, 1] Cert.Reference4Ideal.Gen.bcast_S1x1024_S32768x1024_0_1 (broadcastInDim Cert.Reference4Ideal.S1x1024 ![1] Cert.Reference4Ideal.Gen.bcast_S1024_S1x1024_1 g))) w

theorem proj_apply (x : FVec Ideal Cert.Reference4Ideal.S32768x1024 .f32) (g : FVec Ideal Cert.Reference4Ideal.S1024 .f32)
    (w : FVec Ideal Cert.Reference4Ideal.S1024x5384 .f32) (r : Fin 32768) (j : Fin 5384) :
    PROJ x g w (ix2 r j) = ∑ k, rms (fun i => x (ix2 r i)) (fun i => g (ix1 i)) k * w (ix2 k j) := by
  unfold PROJ
  pointwise [rms]

section Payloads
variable (x : Vec Ideal S512x1024 .f32) (g : Vec Ideal S1x1024 .f32) (W : Vec Ideal S1024x5504 .bf16) (a : Fin 512)

theorem row_apply (k : Fin 1024) : k0_pay3 x g (ix2 a k) = rms (fun i => x (ix2 a i)) (fun i => g (ix2 0 i)) k := by
  pointwise [k0_pay3, rms]

theorem pay4_apply (b : Fin 2048) : k0_pay4 x g (View.ld W r0_2) (ix2 a b) = ∑ k, k0_pay3 x g (ix2 a k) * W (ix2 k ⟨b.val, by omega⟩) := by
  unfold k0_pay4 r0_2
  generalize k0_pay3 x g = z
  pointwise []

theorem pay5_apply (b : Fin 2048) : k0_pay5 x g (View.ld W r0_4) (ix2 a b) = ∑ k, k0_pay3 x g (ix2 a k) * W (ix2 k ⟨2048 + b.val, by omega⟩) := by
  unfold k0_pay5 r0_4
  generalize k0_pay3 x g = z
  pointwise []

theorem pay6_apply (b : Fin 1024) : k0_pay6 x g (View.ld W r0_5) (ix2 a b) = ∑ k, k0_pay3 x g (ix2 a k) * W (ix2 k ⟨4096 + b.val, by omega⟩) := by
  unfold k0_pay6 r0_5
  generalize k0_pay3 x g = z
  pointwise []

theorem pay1_apply (z : FVec Ideal S512x1024 .bf16) (b : Fin 256) : k0_pay1 z (View.ld W r0_6) (ix2 a b) = ∑ k, z (ix2 a k) * W (ix2 k ⟨5120 + b.val, by omega⟩) := by
  unfold k0_pay1 r0_6
  pointwise []

theorem pay2_apply (z : FVec Ideal S512x1024 .bf16) (b : Fin 128) : k0_pay2 z (View.ld W r0_8) (ix2 a b) = ∑ k, z (ix2 a k) * W (ix2 k ⟨5376 + b.val, by omega⟩) := by
  unfold k0_pay2 r0_8
  pointwise []

end Payloads

variable (m : (ℓ : Loc nD τ sig) → Buf (Elt Ideal) ℓ)

/-- Which block each window holds at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/- The kernel's gathered weights by column: the mixers' columns, the attention's, the gates and the filling. -/

theorem v6 (c : Dev nD) (j : Fin 1024) : V m c main_v6 (ix2 (0 : Fin 1) j) = m ((c : Thread nD τ).loc main_arg1) (ix1 j) := by
  unfold V
  simp only [hostOps0, hostOps0_1, hostOps0_2, List.flatten_cons, List.flatten_nil, List.append_nil, List.cons_append, List.nil_append]
  after_reads_at

theorem v5a (c : Dev nD) (k : Fin 1024) (j : ℕ) (hj : j < 4096) : V m c main_v5 (ix2 k (⟨j, by omega⟩ : Fin 5504)) = m ((c : Thread nD τ).loc main_arg2) (ix2 k (⟨j, by omega⟩ : Fin 5384)) := by
  unfold V
  simp only [hostOps0, hostOps0_1, hostOps0_2, List.flatten_cons, List.flatten_nil, List.append_nil, List.cons_append, List.nil_append]
  after_reads_at
  rw [dif_pos hj]
  after_reads_at
theorem v5b (c : Dev nD) (k : Fin 1024) (j : ℕ) (hj : j < 1280) : V m c main_v5 (ix2 k (⟨4096 + j, by omega⟩ : Fin 5504)) = m ((c : Thread nD τ).loc main_arg2) (ix2 k (⟨4104 + j, by omega⟩ : Fin 5384)) := by
  unfold V
  simp only [hostOps0, hostOps0_1, hostOps0_2, List.flatten_cons, List.flatten_nil, List.append_nil, List.cons_append, List.nil_append]
  after_reads_at
  rw [dif_pos (by omega)]
  after_reads_at
theorem v5c (c : Dev nD) (k : Fin 1024) (j : ℕ) (hj : j < 8) : V m c main_v5 (ix2 k (⟨5376 + j, by omega⟩ : Fin 5504)) = m ((c : Thread nD τ).loc main_arg2) (ix2 k (⟨4096 + j, by omega⟩ : Fin 5384)) := by
  unfold V
  simp only [hostOps0, hostOps0_1, hostOps0_2, List.flatten_cons, List.flatten_nil, List.append_nil, List.cons_append, List.nil_append]
  after_reads_at
  rw [dif_neg (by omega), dif_neg (by omega)]
  after_reads_at
  rw [dif_pos (by omega)]
  exact congrArg (m (c, Proc.tc.devRef main_arg2)) (congrArg (ix2 k) (Fin.ext (by show 4096 + (5376 + j - 4096 - 1280) = 4096 + j; omega)))
theorem v5d (c : Dev nD) (k : Fin 1024) (j : ℕ) (hj : j < 128) (h8 : 8 ≤ j) : V m c main_v5 (ix2 k (⟨5376 + j, by omega⟩ : Fin 5504)) = (0 : EReal) := by
  unfold V
  simp only [hostOps0, hostOps0_1, hostOps0_2, List.flatten_cons, List.flatten_nil, List.append_nil, List.cons_append, List.nil_append]
  after_reads_at
  rw [dif_neg (by omega), dif_neg (by omega)]
  after_reads_at
  rw [dif_neg (by omega)]
  norm_num [FloatOps.sitofp]

section Reads
variable (c : Dev nD) (t : Fin cfg0.N) (a : Fin 512) (ht : t.val < 64)

theorem r0 (j : Fin 1024) : iblk m c 0 t (ix2 a j) = m ((c : Thread nD τ).loc main_arg0) (ix2 (⟨t.val * 512 + a.val, by omega⟩ : Fin 32768) j) := by
  blk_point [iblk, V, idx t]
theorem r1 (j : Fin 1024) : iblk m c 1 t (ix2 (0 : Fin 1) j) = V m c main_v6 (ix2 (0 : Fin 1) j) := by
  unfold iblk
  change ((cfg0.win 1).blk t).view.read (Elt Ideal) (V m c main_v6) _ = _
  generalize V m c main_v6 = z
  blk_point [idx t]
theorem r2 (k : Fin 1024) (j : Fin 5504) : iblk m c 2 t (ix2 k j) = V m c main_v5 (ix2 k j) := by
  unfold iblk
  change ((cfg0.win 2).blk t).view.read (Elt Ideal) (V m c main_v5) _ = _
  generalize V m c main_v5 = z
  blk_point [idx t]

theorem e3 (j : Fin 2048) : ((cfg0.win 3).blk t).view.emb (ix2 a j) = (ix2 (⟨t.val * 512 + a.val, by omega⟩ : Fin 32768) j) := by
  blk_point [idx t]
theorem e4 (j : Fin 2048) : ((cfg0.win 4).blk t).view.emb (ix2 a j) = (ix2 (⟨t.val * 512 + a.val, by omega⟩ : Fin 32768) j) := by
  blk_point [idx t]
theorem e5 (j : Fin 1024) : ((cfg0.win 5).blk t).view.emb (ix2 a j) = (ix2 (⟨t.val * 512 + a.val, by omega⟩ : Fin 32768) j) := by
  blk_point [idx t]
theorem e6 (j : Fin 256) : ((cfg0.win 6).blk t).view.emb (ix2 a j) = (ix2 (⟨t.val * 512 + a.val, by omega⟩ : Fin 32768) j) := by
  blk_point [idx t]
theorem e7 (j : Fin 128) : ((cfg0.win 7).blk t).view.emb (ix2 a j) = (ix2 (⟨t.val * 512 + a.val, by omega⟩ : Fin 32768) j) := by
  blk_point [idx t]

theorem pay7 (x : Vec Ideal S512x1024 .f32) (g : Vec Ideal S1x1024 .f32) (z : Vec Ideal S1024x5504 .bf16) : k0_pay7 x g z = k0_pay3 x g := by
  unfold k0_pay7 r0_0 r0_1
  rw [View.ld_unit_zero (by decide), View.ld_unit_zero (by decide)]
/-- A block's normalised row is the row's of the whole array. -/
theorem row (k : Fin 1024) : k0_pay3 (iblk m c 0 t) (iblk m c 1 t) (ix2 a k)
    = rms (fun i => m ((c : Thread nD τ).loc main_arg0) (ix2 (⟨t.val * 512 + a.val, by omega⟩ : Fin 32768) i)) (fun i => m ((c : Thread nD τ).loc main_arg1) (ix1 i)) k := by
  rw [row_apply]
  exact congrArg₂ (rms · · k) (funext fun i => r0 m c t a ht i) (funext fun i => (r1 m c t i).trans (v6 m c i))

end Reads

/-- The three arguments at their shapes. -/
abbrev X (c : Dev nD) : FVec Ideal Cert.Reference4Ideal.S32768x1024 .f32 := m ((c : Thread nD τ).loc main_arg0)
abbrev G (c : Dev nD) : FVec Ideal Cert.Reference4Ideal.S1024 .f32 := m ((c : Thread nD τ).loc main_arg1)
abbrev W (c : Dev nD) : FVec Ideal Cert.Reference4Ideal.S1024x5384 .f32 := m ((c : Thread nD τ).loc main_arg2)

/-- A padded gate column below 8 is the projection's, and one from 8 on is zero. -/
theorem gate_apply (z : FVec Ideal Cert.Reference4Ideal.S32768x5384 .f32) (r : Fin 32768) (b : Fin 128) (h : b.val < 8) :
    pad Cert.Reference4Ideal.S32768x128 ![0, 0] ![0, 120] ![0, 0] (extractStridedSlice Cert.Reference4Ideal.S32768x8 ![0, 4096] z Cert.Reference4Ideal.Gen.slices_S32768x5384_S32768x8_0_4096) (sitofp .f32 (constantI Cert.Reference4Ideal.S_ 32 0#32)) Cert.Reference4Ideal.Gen.pads_S32768x8_S32768x128_000_01200 Cert.Reference4Ideal.Gen.h_S_ (ix2 r b) = z (ix2 r ⟨4096 + b.val, by omega⟩) := by
  pointwise []
  rw [dif_pos h]
theorem fill_apply (z : FVec Ideal Cert.Reference4Ideal.S32768x5384 .f32) (r : Fin 32768) (b : Fin 128) (h : 8 ≤ b.val) :
    pad Cert.Reference4Ideal.S32768x128 ![0, 0] ![0, 120] ![0, 0] (extractStridedSlice Cert.Reference4Ideal.S32768x8 ![0, 4096] z Cert.Reference4Ideal.Gen.slices_S32768x5384_S32768x8_0_4096) (sitofp .f32 (constantI Cert.Reference4Ideal.S_ 32 0#32)) Cert.Reference4Ideal.Gen.pads_S32768x8_S32768x128_000_01200 Cert.Reference4Ideal.Gen.h_S_ (ix2 r b) = (0 : EReal) := by
  pointwise []
  rw [dif_neg (by omega)]
  norm_num [FloatOps.sitofp]

theorem pt3 (c : Dev nD) (t : Fin cfg0.N) (ht : t.val < 64) (a : Fin 512) (b : Fin 2048) : k0_pay4 (iblk m c 0 t) (iblk m c 1 t) (View.ld (iblk m c 2 t) r0_2) (ix2 a b)
    = (∑ k, rms (fun i => X m c (ix2 (⟨t.val * 512 + a.val, by omega⟩ : Fin 32768) i)) (fun i => G m c (ix1 i)) k * W m c (ix2 k ⟨b.val, by omega⟩) : EReal) := by
  rw [pay4_apply]
  refine Finset.sum_congr rfl fun k _ => congrArg₂ (fun u v : EReal => u * v) (row m c t a ht k) ?_
  rw [r2]
  exact v5a m c k b.val (by omega)

theorem pt4 (c : Dev nD) (t : Fin cfg0.N) (ht : t.val < 64) (a : Fin 512) (b : Fin 2048) : k0_pay5 (iblk m c 0 t) (iblk m c 1 t) (View.ld (iblk m c 2 t) r0_4) (ix2 a b)
    = (∑ k, rms (fun i => X m c (ix2 (⟨t.val * 512 + a.val, by omega⟩ : Fin 32768) i)) (fun i => G m c (ix1 i)) k * W m c (ix2 k ⟨2048 + b.val, by omega⟩) : EReal) := by
  rw [pay5_apply]
  refine Finset.sum_congr rfl fun k _ => congrArg₂ (fun u v : EReal => u * v) (row m c t a ht k) ?_
  rw [r2]
  exact v5a m c k (2048 + b.val) (by omega)

theorem pt5 (c : Dev nD) (t : Fin cfg0.N) (ht : t.val < 64) (a : Fin 512) (b : Fin 1024) : k0_pay6 (iblk m c 0 t) (iblk m c 1 t) (View.ld (iblk m c 2 t) r0_5) (ix2 a b)
    = (∑ k, rms (fun i => X m c (ix2 (⟨t.val * 512 + a.val, by omega⟩ : Fin 32768) i)) (fun i => G m c (ix1 i)) k * W m c (ix2 k ⟨4104 + b.val, by omega⟩) : EReal) := by
  rw [pay6_apply]
  refine Finset.sum_congr rfl fun k _ => congrArg₂ (fun u v : EReal => u * v) (row m c t a ht k) ?_
  rw [r2]
  exact v5b m c k b.val (by omega)

theorem pt6 (c : Dev nD) (t : Fin cfg0.N) (ht : t.val < 64) (a : Fin 512) (b : Fin 256) : k0_pay1 (k0_pay7 (iblk m c 0 t) (iblk m c 1 t) (iblk m c 2 t)) (View.ld (iblk m c 2 t) r0_6) (ix2 a b)
    = (∑ k, rms (fun i => X m c (ix2 (⟨t.val * 512 + a.val, by omega⟩ : Fin 32768) i)) (fun i => G m c (ix1 i)) k * W m c (ix2 k ⟨5128 + b.val, by omega⟩) : EReal) := by
  rw [pay7, pay1_apply]
  refine Finset.sum_congr rfl fun k _ => congrArg₂ (fun u v : EReal => u * v) (row m c t a ht k) ?_
  rw [r2]
  exact (congrArg (fun j => V m c main_v5 (ix2 k j)) (Fin.ext (by show 5120 + b.val = 4096 + (1024 + b.val); omega))).trans ((v5b m c k (1024 + b.val) (by omega)).trans (congrArg (fun j => W m c (ix2 k j)) (Fin.ext (by show 4104 + (1024 + b.val) = 5128 + b.val; omega))))

theorem pt7 (c : Dev nD) (t : Fin cfg0.N) (ht : t.val < 64) (a : Fin 512) (b : Fin 128) (h : b.val < 8) : k0_pay2 (k0_pay7 (iblk m c 0 t) (iblk m c 1 t) (iblk m c 2 t)) (View.ld (iblk m c 2 t) r0_8) (ix2 a b)
    = (∑ k, rms (fun i => X m c (ix2 (⟨t.val * 512 + a.val, by omega⟩ : Fin 32768) i)) (fun i => G m c (ix1 i)) k * W m c (ix2 k ⟨4096 + b.val, by omega⟩) : EReal) := by
  rw [pay7, pay2_apply]
  refine Finset.sum_congr rfl fun k _ => congrArg₂ (fun u v : EReal => u * v) (row m c t a ht k) ?_
  rw [r2]
  exact v5c m c k b.val h

theorem pt7z (c : Dev nD) (t : Fin cfg0.N) (ht : t.val < 64) (a : Fin 512) (b : Fin 128) (h : 8 ≤ b.val) : k0_pay2 (k0_pay7 (iblk m c 0 t) (iblk m c 1 t) (iblk m c 2 t)) (View.ld (iblk m c 2 t) r0_8) (ix2 a b) = (0 : EReal) := by
  rw [pay7, pay2_apply]
  refine Finset.sum_eq_zero fun k _ => ?_
  rw [r2, v5d m c k b.val b.isLt h]
  exact mul_zero _

/-- The reference's result 1. -/
abbrev REF3 (c : Dev nD) : FVec Ideal Cert.Reference4Ideal.S32768x2048 .bf16 :=
  truncf .bf16 (extractStridedSlice Cert.Reference4Ideal.S32768x2048 ![0, 0] (PROJ (X m c) (G m c) (W m c)) Cert.Reference4Ideal.Gen.slices_S32768x5384_S32768x2048_0_0) Cert.Reference4Ideal.Gen.bitsLt_bf16_f32

theorem cut3 (z : FVec Ideal Cert.Reference4Ideal.S32768x5384 .f32) (r : Fin 32768) (b : Fin 2048) :
    truncf .bf16 (extractStridedSlice Cert.Reference4Ideal.S32768x2048 ![0, 0] z Cert.Reference4Ideal.Gen.slices_S32768x5384_S32768x2048_0_0) Cert.Reference4Ideal.Gen.bitsLt_bf16_f32 (ix2 r b) = z (ix2 r ⟨b.val, by omega⟩) := by
  pointwise []

theorem final3 (c : Dev nD) : (dats m 0 c).arrAt 3 (cfgs 0).N = REF3 m c := by
  refine (dats m 0 c).arrAt_eq_of_covers 3 _ (by decide +kernel) fun t _ y => ?_
  blk_simp
  rw [after0_3]; frame_out
  have ht : t.val < 64 := t.isLt
  obtain ⟨a, b, rfl⟩ : ∃ (a : Fin 512) (b : Fin 2048), y = ix2 a b := ⟨y 0, y 1, by funext i; fin_cases i <;> rfl⟩
  refine Eq.trans ?_ (congrArg (REF3 m c) (e3 t a ht b).symm)
  refine Eq.trans ?_ ((cut3 (PROJ (X m c) (G m c) (W m c)) ⟨t.val * 512 + a.val, by omega⟩ b).trans (proj_apply (X m c) (G m c) (W m c) _ _)).symm
  exact pt3 m c t ht a b

/-- The reference's result 2. -/
abbrev REF4 (c : Dev nD) : FVec Ideal Cert.Reference4Ideal.S32768x2048 .bf16 :=
  truncf .bf16 (extractStridedSlice Cert.Reference4Ideal.S32768x2048 ![0, 2048] (PROJ (X m c) (G m c) (W m c)) Cert.Reference4Ideal.Gen.slices_S32768x5384_S32768x2048_0_2048) Cert.Reference4Ideal.Gen.bitsLt_bf16_f32

theorem cut4 (z : FVec Ideal Cert.Reference4Ideal.S32768x5384 .f32) (r : Fin 32768) (b : Fin 2048) :
    truncf .bf16 (extractStridedSlice Cert.Reference4Ideal.S32768x2048 ![0, 2048] z Cert.Reference4Ideal.Gen.slices_S32768x5384_S32768x2048_0_2048) Cert.Reference4Ideal.Gen.bitsLt_bf16_f32 (ix2 r b) = z (ix2 r ⟨2048 + b.val, by omega⟩) := by
  pointwise []

theorem final4 (c : Dev nD) : (dats m 0 c).arrAt 4 (cfgs 0).N = REF4 m c := by
  refine (dats m 0 c).arrAt_eq_of_covers 4 _ (by decide +kernel) fun t _ y => ?_
  blk_simp
  rw [after0_4]; frame_out
  have ht : t.val < 64 := t.isLt
  obtain ⟨a, b, rfl⟩ : ∃ (a : Fin 512) (b : Fin 2048), y = ix2 a b := ⟨y 0, y 1, by funext i; fin_cases i <;> rfl⟩
  refine Eq.trans ?_ (congrArg (REF4 m c) (e4 t a ht b).symm)
  refine Eq.trans ?_ ((cut4 (PROJ (X m c) (G m c) (W m c)) ⟨t.val * 512 + a.val, by omega⟩ b).trans (proj_apply (X m c) (G m c) (W m c) _ _)).symm
  exact pt4 m c t ht a b

/-- The reference's result 3. -/
abbrev REF5 (c : Dev nD) : FVec Ideal Cert.Reference4Ideal.S32768x1024 .bf16 :=
  truncf .bf16 (extractStridedSlice Cert.Reference4Ideal.S32768x1024 ![0, 4104] (PROJ (X m c) (G m c) (W m c)) Cert.Reference4Ideal.Gen.slices_S32768x5384_S32768x1024_0_4104) Cert.Reference4Ideal.Gen.bitsLt_bf16_f32

theorem cut5 (z : FVec Ideal Cert.Reference4Ideal.S32768x5384 .f32) (r : Fin 32768) (b : Fin 1024) :
    truncf .bf16 (extractStridedSlice Cert.Reference4Ideal.S32768x1024 ![0, 4104] z Cert.Reference4Ideal.Gen.slices_S32768x5384_S32768x1024_0_4104) Cert.Reference4Ideal.Gen.bitsLt_bf16_f32 (ix2 r b) = z (ix2 r ⟨4104 + b.val, by omega⟩) := by
  pointwise []

theorem final5 (c : Dev nD) : (dats m 0 c).arrAt 5 (cfgs 0).N = REF5 m c := by
  refine (dats m 0 c).arrAt_eq_of_covers 5 _ (by decide +kernel) fun t _ y => ?_
  blk_simp
  rw [after0_5]; frame_out
  have ht : t.val < 64 := t.isLt
  obtain ⟨a, b, rfl⟩ : ∃ (a : Fin 512) (b : Fin 1024), y = ix2 a b := ⟨y 0, y 1, by funext i; fin_cases i <;> rfl⟩
  refine Eq.trans ?_ (congrArg (REF5 m c) (e5 t a ht b).symm)
  refine Eq.trans ?_ ((cut5 (PROJ (X m c) (G m c) (W m c)) ⟨t.val * 512 + a.val, by omega⟩ b).trans (proj_apply (X m c) (G m c) (W m c) _ _)).symm
  exact pt5 m c t ht a b

/-- The reference's result 4. -/
abbrev REF6 (c : Dev nD) : FVec Ideal Cert.Reference4Ideal.S32768x256 .bf16 :=
  truncf .bf16 (extractStridedSlice Cert.Reference4Ideal.S32768x256 ![0, 5128] (PROJ (X m c) (G m c) (W m c)) Cert.Reference4Ideal.Gen.slices_S32768x5384_S32768x256_0_5128) Cert.Reference4Ideal.Gen.bitsLt_bf16_f32

theorem cut6 (z : FVec Ideal Cert.Reference4Ideal.S32768x5384 .f32) (r : Fin 32768) (b : Fin 256) :
    truncf .bf16 (extractStridedSlice Cert.Reference4Ideal.S32768x256 ![0, 5128] z Cert.Reference4Ideal.Gen.slices_S32768x5384_S32768x256_0_5128) Cert.Reference4Ideal.Gen.bitsLt_bf16_f32 (ix2 r b) = z (ix2 r ⟨5128 + b.val, by omega⟩) := by
  pointwise []

theorem final6 (c : Dev nD) : (dats m 0 c).arrAt 6 (cfgs 0).N = REF6 m c := by
  refine (dats m 0 c).arrAt_eq_of_covers 6 _ (by decide +kernel) fun t _ y => ?_
  blk_simp
  rw [after0_6]; frame_out
  have ht : t.val < 64 := t.isLt
  obtain ⟨a, b, rfl⟩ : ∃ (a : Fin 512) (b : Fin 256), y = ix2 a b := ⟨y 0, y 1, by funext i; fin_cases i <;> rfl⟩
  refine Eq.trans ?_ (congrArg (REF6 m c) (e6 t a ht b).symm)
  refine Eq.trans ?_ ((cut6 (PROJ (X m c) (G m c) (W m c)) ⟨t.val * 512 + a.val, by omega⟩ b).trans (proj_apply (X m c) (G m c) (W m c) _ _)).symm
  exact pt6 m c t ht a b

/-- The reference's result 5. -/
abbrev REF7 (c : Dev nD) : FVec Ideal Cert.Reference4Ideal.S32768x128 .f32 :=
  pad Cert.Reference4Ideal.S32768x128 ![0, 0] ![0, 120] ![0, 0] (extractStridedSlice Cert.Reference4Ideal.S32768x8 ![0, 4096] (PROJ (X m c) (G m c) (W m c)) Cert.Reference4Ideal.Gen.slices_S32768x5384_S32768x8_0_4096) (sitofp .f32 (constantI Cert.Reference4Ideal.S_ 32 0#32)) Cert.Reference4Ideal.Gen.pads_S32768x8_S32768x128_000_01200 Cert.Reference4Ideal.Gen.h_S_

theorem final7 (c : Dev nD) : (dats m 0 c).arrAt 7 (cfgs 0).N = REF7 m c := by
  refine (dats m 0 c).arrAt_eq_of_covers 7 _ (by decide +kernel) fun t _ y => ?_
  blk_simp
  rw [after0_7]; frame_out
  have ht : t.val < 64 := t.isLt
  obtain ⟨a, b, rfl⟩ : ∃ (a : Fin 512) (b : Fin 128), y = ix2 a b := ⟨y 0, y 1, by funext i; fin_cases i <;> rfl⟩
  refine Eq.trans ?_ (congrArg (REF7 m c) (e7 t a ht b).symm)
  by_cases h8 : b.val < 8
  · refine Eq.trans ?_ ((gate_apply (PROJ (X m c) (G m c) (W m c)) ⟨t.val * 512 + a.val, by omega⟩ b h8).trans (proj_apply (X m c) (G m c) (W m c) _ _)).symm
    exact pt7 m c t ht a b h8
  · refine Eq.trans ?_ (fill_apply (PROJ (X m c) (G m c) (W m c)) ⟨t.val * 512 + a.val, by omega⟩ b (by omega)).symm
    exact pt7z m c t ht a b (by omega)

end Cert.InProj

end
-- ==== Proof.InProjClaim.lean ====
/- The claim about the input projection: kernel and reference end with the same five arrays. -/
module

public import proofs.«01_k».proof.Defs
public import proofs.«01_k».proof.Proof.InProj
public import Idealize.ShloMosaic.Lib.Claim

@[expose] public section

noncomputable section

namespace Cert.InProj

open Idealize.ShloMosaic Idealize.SL.Sem

/-- The reference runs to its end and leaves its arguments alone; it declares no semaphore. -/
theorem frame_r : Cert.quiescent_Reference4Ideal := by
  intro m ρ _
  exact (θ_run Cert.Reference4Ideal.defs _ _).mono (fun r h => ⟨fun c => (h c).2.2.2.2.2, sem_eq_zero_of_no_sems (by decide) r.2⟩)
    (Cert.Reference4Ideal.Value.run m ρ)

/-- Kernel and reference, run from the same arguments, end with the same results. -/
theorem algebraic : Cert.algebraic_Kernel4Ideal_Reference4Ideal := by
  pair_intro
  · run_from Cert.Kernel4Ideal.Value.run_blocks m g
  · run_from Cert.Reference4Ideal.Value.run m' g'
    · exact (final3 m c).symm
    · exact (final4 m c).symm
    · exact (final5 m c).symm
    · exact (final6 m c).symm
    · exact (final7 m c).symm

end Cert.InProj

end
-- ==== Proof.MixOut.lean ====
/- The output of the mixers: what the blocked kernel leaves in its two result arrays. -/
module

public import proofs.«01_k».proof.Proof.Gen.Kernel5Ideal.Value
public import proofs.«01_k».proof.Proof.Gen.Reference5Ideal.Run
public import proofs.«01_k».proof.Proof.XattnSpec
public import Idealize.ShloMosaic.Lib.Pipeline.ValueKit
public import Idealize.ShloMosaic.Lib.Pointwise

@[expose] public section

set_option maxRecDepth 16384

noncomputable section

namespace Cert.MixOut

open Idealize.ShloMosaic Idealize.ShloMosaic.TcCoe Idealize.SL.Sem
open Idealize.ShloMosaic.Pipeline (Dat)
open Cert.Kernel5Ideal Cert.Kernel5Ideal.Gen
open Cert.Xattn (rms)

/-- The two mixers' outputs side by side, as the reference joins them. -/
abbrev CAT (p q : FVec Ideal Cert.Reference5Ideal.S32768x1024 .bf16) : FVec Ideal Cert.Reference5Ideal.S32768x2048 .f32 :=
  concatenate Cert.Reference5Ideal.S32768x2048 1 [⟨Cert.Reference5Ideal.S32768x1024, (extf .f32 p Cert.Reference5Ideal.Gen.bitsLt_bf16_f32)⟩, ⟨Cert.Reference5Ideal.S32768x1024, (extf .f32 q Cert.Reference5Ideal.Gen.bitsLt_bf16_f32)⟩] Cert.Reference5Ideal.Gen.concatenates_S32768x1024_S32768x1024_S32768x2048_d1

/-- The reference's output projection. -/
abbrev DOT (p q : FVec Ideal Cert.Reference5Ideal.S32768x1024 .bf16) (w : FVec Ideal Cert.Reference5Ideal.S2048x1024 .f32) : FVec Ideal Cert.Reference5Ideal.S32768x1024 .f32 :=
  Host.dotGeneral Cert.Reference5Ideal.dot_S32768x2048_S2048x1024_S32768x1024_1_0_0_1_n_n none (CAT p q) w

/-- The reference's first result. -/
abbrev REF8 (p q : FVec Ideal Cert.Reference5Ideal.S32768x1024 .bf16) (x : FVec Ideal Cert.Reference5Ideal.S32768x1024 .f32) (w : FVec Ideal Cert.Reference5Ideal.S2048x1024 .f32) (g : FVec Ideal Cert.Reference5Ideal.S1024 .f32) : FVec Ideal Cert.Reference5Ideal.S32768x1024 .f32 :=
  addf x (mulf (mulf (DOT p q w) (broadcastInDim Cert.Reference5Ideal.S32768x1024 ![0, 1] Cert.Reference5Ideal.Gen.bcast_S32768x1_S32768x1024_0_1 (Host.rsqrt (addf (Host.divf (broadcastInDim Cert.Reference5Ideal.S32768x1 ![0] Cert.Reference5Ideal.Gen.bcast_S32768_S32768x1_0 (Host.reduceAdd (mulf (DOT p q w) (DOT p q w)) (constant Cert.Reference5Ideal.S_ .f32 0x00000000#32) Cert.Reference5Ideal.Gen.reducesTo_S32768x1024_S32768_d1 Cert.Reference5Ideal.Gen.h_S_)) (broadcastInDim Cert.Reference5Ideal.S32768x1 ![] Cert.Reference5Ideal.Gen.bcast_S_S32768x1 (constant Cert.Reference5Ideal.S_ .f32 0x44800000#32))) (broadcastInDim Cert.Reference5Ideal.S32768x1 ![] Cert.Reference5Ideal.Gen.bcast_S_S32768x1 (constant Cert.Reference5Ideal.S_ .f32 0x358637BD#32)))))) (broadcastInDim Cert.Reference5Ideal.S32768x1024 ![0, 1] Cert.Reference5Ideal.Gen.bcast_S1x1024_S32768x1024_0_1 (broadcastInDim Cert.Reference5Ideal.S1x1024 ![1] Cert.Reference5Ideal.Gen.bcast_S1024_S1x1024_1 g)))

/-- The reference's second result from its first. -/
abbrev QRY (h : FVec Ideal Cert.Reference5Ideal.S32768x1024 .f32) (g : FVec Ideal Cert.Reference5Ideal.S1024 .f32) (w : FVec Ideal Cert.Reference5Ideal.S1024x1024 .f32) : FVec Ideal Cert.Reference5Ideal.S32768x1024 .bf16 :=
  truncf .bf16 (mulf (Host.dotGeneral Cert.Reference5Ideal.dot_S32768x1024_S1024x1024_S32768x1024_1_0_0_1_n_n none (mulf (mulf h (broadcastInDim Cert.Reference5Ideal.S32768x1024 ![0, 1] Cert.Reference5Ideal.Gen.bcast_S32768x1_S32768x1024_0_1 (Host.rsqrt (addf (Host.divf (broadcastInDim Cert.Reference5Ideal.S32768x1 ![0] Cert.Reference5Ideal.Gen.bcast_S32768_S32768x1_0 (Host.reduceAdd (mulf h h) (constant Cert.Reference5Ideal.S_ .f32 0x00000000#32) Cert.Reference5Ideal.Gen.reducesTo_S32768x1024_S32768_d1 Cert.Reference5Ideal.Gen.h_S_)) (broadcastInDim Cert.Reference5Ideal.S32768x1 ![] Cert.Reference5Ideal.Gen.bcast_S_S32768x1 (constant Cert.Reference5Ideal.S_ .f32 0x44800000#32))) (broadcastInDim Cert.Reference5Ideal.S32768x1 ![] Cert.Reference5Ideal.Gen.bcast_S_S32768x1 (constant Cert.Reference5Ideal.S_ .f32 0x358637BD#32)))))) (broadcastInDim Cert.Reference5Ideal.S32768x1024 ![0, 1] Cert.Reference5Ideal.Gen.bcast_S1x1024_S32768x1024_0_1 (broadcastInDim Cert.Reference5Ideal.S1x1024 ![1] Cert.Reference5Ideal.Gen.bcast_S1024_S1x1024_1 g))) w) (broadcastInDim Cert.Reference5Ideal.S32768x1024 ![] Cert.Reference5Ideal.Gen.bcast_S_S32768x1024 (constant Cert.Reference5Ideal.S_ .f32 0x3D800000#32))) Cert.Reference5Ideal.Gen.bitsLt_bf16_f32

/-- One row through the output projection in two halves. -/
def two (u v : Fin 1024 → EReal) (w : Fin 2048 → Fin 1024 → EReal) (j : Fin 1024) : EReal :=
  ∑ k, u k * w ⟨k.val, by omega⟩ j + ∑ k, v k * w ⟨1024 + k.val, by omega⟩ j

theorem cat_lo (p q : FVec Ideal Cert.Reference5Ideal.S32768x1024 .bf16) (r : Fin 32768) (k : Fin 1024) : CAT p q (ix2 r ⟨k.val, by omega⟩) = p (ix2 r k) := by
  unfold CAT
  pointwise []
theorem cat_hi (p q : FVec Ideal Cert.Reference5Ideal.S32768x1024 .bf16) (r : Fin 32768) (k : Fin 1024) : CAT p q (ix2 r ⟨1024 + k.val, by omega⟩) = q (ix2 r k) := by
  unfold CAT
  pointwise []

theorem dot_long (z : FVec Ideal Cert.Reference5Ideal.S32768x2048 .f32) (w : FVec Ideal Cert.Reference5Ideal.S2048x1024 .f32) (r : Fin 32768) (j : Fin 1024) :
    Host.dotGeneral Cert.Reference5Ideal.dot_S32768x2048_S2048x1024_S32768x1024_1_0_0_1_n_n none z w (ix2 r j) = ∑ k, z (ix2 r k) * w (ix2 k j) := by
  pointwise []

theorem dot_apply (p q : FVec Ideal Cert.Reference5Ideal.S32768x1024 .bf16) (w : FVec Ideal Cert.Reference5Ideal.S2048x1024 .f32) (r : Fin 32768) (j : Fin 1024) :
    DOT p q w (ix2 r j) = two (fun k => p (ix2 r k)) (fun k => q (ix2 r k)) (fun k i => w (ix2 k i)) j := by
  refine (dot_long _ w r j).trans ?_
  refine (Fin.sum_univ_add (a := 1024) (b := 1024) _).trans ?_
  refine congrArg₂ (fun u v : EReal => u + v) ?_ ?_
  · exact Finset.sum_congr rfl fun k _ => congrArg (fun u : EReal => u * w (ix2 (⟨k.val, by omega⟩ : Fin 2048) j)) (cat_lo p q r k)
  · exact Finset.sum_congr rfl fun k _ => congrArg (fun u : EReal => u * w (ix2 (⟨1024 + k.val, by omega⟩ : Fin 2048) j)) (cat_hi p q r k)

theorem norm_apply (z x : FVec Ideal Cert.Reference5Ideal.S32768x1024 .f32) (g : FVec Ideal Cert.Reference5Ideal.S1024 .f32) (r : Fin 32768) (j : Fin 1024) :
    addf x (mulf (mulf z (broadcastInDim Cert.Reference5Ideal.S32768x1024 ![0, 1] Cert.Reference5Ideal.Gen.bcast_S32768x1_S32768x1024_0_1 (Host.rsqrt (addf (Host.divf (broadcastInDim Cert.Reference5Ideal.S32768x1 ![0] Cert.Reference5Ideal.Gen.bcast_S32768_S32768x1_0 (Host.reduceAdd (mulf z z) (constant Cert.Reference5Ideal.S_ .f32 0x00000000#32) Cert.Reference5Ideal.Gen.reducesTo_S32768x1024_S32768_d1 Cert.Reference5Ideal.Gen.h_S_)) (broadcastInDim Cert.Reference5Ideal.S32768x1 ![] Cert.Reference5Ideal.Gen.bcast_S_S32768x1 (constant Cert.Reference5Ideal.S_ .f32 0x44800000#32))) (broadcastInDim Cert.Reference5Ideal.S32768x1 ![] Cert.Reference5Ideal.Gen.bcast_S_S32768x1 (constant Cert.Reference5Ideal.S_ .f32 0x358637BD#32)))))) (broadcastInDim Cert.Reference5Ideal.S32768x1024 ![0, 1] Cert.Reference5Ideal.Gen.bcast_S1x1024_S32768x1024_0_1 (broadcastInDim Cert.Reference5Ideal.S1x1024 ![1] Cert.Reference5Ideal.Gen.bcast_S1024_S1x1024_1 g))) (ix2 r j) = x (ix2 r j) + rms (fun k => z (ix2 r k)) (fun k => g (ix1 k)) j := by
  pointwise [rms]

theorem ref8_apply (p q : FVec Ideal Cert.Reference5Ideal.S32768x1024 .bf16) (x : FVec Ideal Cert.Reference5Ideal.S32768x1024 .f32) (w : FVec Ideal Cert.Reference5Ideal.S2048x1024 .f32) (g : FVec Ideal Cert.Reference5Ideal.S1024 .f32) (r : Fin 32768) (j : Fin 1024) :
    REF8 p q x w g (ix2 r j) = x (ix2 r j) + rms (two (fun k => p (ix2 r k)) (fun k => q (ix2 r k)) (fun k i => w (ix2 k i))) (fun k => g (ix1 k)) j := by
  refine (norm_apply (DOT p q w) x g r j).trans ?_
  exact congrArg (fun u => x (ix2 r j) + rms u (fun k => g (ix1 k)) j) (funext fun k => dot_apply p q w r k)

theorem qry_apply (h : FVec Ideal Cert.Reference5Ideal.S32768x1024 .f32) (g : FVec Ideal Cert.Reference5Ideal.S1024 .f32) (w : FVec Ideal Cert.Reference5Ideal.S1024x1024 .f32) (r : Fin 32768) (j : Fin 1024) :
    QRY h g w (ix2 r j) = (∑ k, rms (fun i => h (ix2 r i)) (fun i => g (ix1 i)) k * w (ix2 k j)) * Ideal.ofBits .f32 0x3D800000#32 := by
  unfold QRY
  pointwise [rms]

section Payloads
variable (p q : Vec Ideal S512x1024 .bf16) (wl wh : Vec Ideal S1024x1024 .bf16) (x : Vec Ideal S512x1024 .f32) (g gx : Vec Ideal S1x1024 .f32) (wq : Vec Ideal S1024x1024 .bf16) (a : Fin 512) (j : Fin 1024)

theorem pay2_apply : k0_pay2 p wl q wh x g (ix2 a j) = x (ix2 a j) + rms (fun j => ∑ k, p (ix2 a k) * wl (ix2 k j) + ∑ k, q (ix2 a k) * wh (ix2 k j)) (fun k => g (ix2 0 k)) j := by
  pointwise [k0_pay2, rms]

theorem pay1_apply : k0_pay1 (k0_pay2 p wl q wh x g) (k0_pay3 gx) (k0_pay4 p wl q wh x g) (k0_pay5 (F := Ideal)) wq (ix2 a j)
    = (∑ k, rms (fun i => k0_pay2 p wl q wh x g (ix2 a i)) (fun i => gx (ix2 0 i)) k * wq (ix2 k j)) * Ideal.ofBits .f32 0x3D800000#32 := by
  unfold k0_pay4
  generalize k0_pay2 p wl q wh x g = z
  pointwise [k0_pay1, k0_pay3, k0_pay5, rms]

end Payloads

variable (m : (ℓ : Loc nD τ sig) → Buf (Elt Ideal) ℓ)

/-- Which block each window holds at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] :=
  (by decide +kernel : ∀ t : Fin grid0.N, _)

/- The arguments at their shapes. -/
abbrev P (c : Dev nD) : FVec Ideal Cert.Reference5Ideal.S32768x1024 .bf16 := m ((c : Thread nD τ).loc main_arg0)
abbrev Q (c : Dev nD) : FVec Ideal Cert.Reference5Ideal.S32768x1024 .bf16 := m ((c : Thread nD τ).loc main_arg1)
abbrev X (c : Dev nD) : FVec Ideal Cert.Reference5Ideal.S32768x1024 .f32 := m ((c : Thread nD τ).loc main_arg2)
abbrev W (c : Dev nD) : FVec Ideal Cert.Reference5Ideal.S2048x1024 .f32 := m ((c : Thread nD τ).loc main_arg3)
abbrev G (c : Dev nD) : FVec Ideal Cert.Reference5Ideal.S1024 .f32 := m ((c : Thread nD τ).loc main_arg4)
abbrev GX (c : Dev nD) : FVec Ideal Cert.Reference5Ideal.S1024 .f32 := m ((c : Thread nD τ).loc main_arg5)
abbrev WQ (c : Dev nD) : FVec Ideal Cert.Reference5Ideal.S1024x1024 .f32 := m ((c : Thread nD τ).loc main_arg6)

section Reads
variable (c : Dev nD) (t : Fin cfg0.N) (a : Fin 512) (ht : t.val < 64)

theorem r0 (j : Fin 1024) : iblk m c 0 t (ix2 a j) = m ((c : Thread nD τ).loc main_arg0) (ix2 (⟨t.val * 512 + a.val, by omega⟩ : Fin 32768) j) := by
  blk_point [iblk, V, idx t]
theorem r1 (j : Fin 1024) : iblk m c 1 t (ix2 a j) = m ((c : Thread nD τ).loc main_arg1) (ix2 (⟨t.val * 512 + a.val, by omega⟩ : Fin 32768) j) := by
  blk_point [iblk, V, idx t]
theorem r2 (j : Fin 1024) : iblk m c 2 t (ix2 a j) = m ((c : Thread nD τ).loc main_arg2) (ix2 (⟨t.val * 512 + a.val, by omega⟩ : Fin 32768) j) := by
  blk_point [iblk, V, idx t]
theorem r3 (k j : Fin 1024) : iblk m c 3 t (ix2 k j) = m ((c : Thread nD τ).loc main_arg3) (ix2 (⟨k.val, by omega⟩ : Fin 2048) j) := by
  blk_point [iblk, V, idx t]
theorem r4 (k j : Fin 1024) : iblk m c 4 t (ix2 k j) = m ((c : Thread nD τ).loc main_arg3) (ix2 (⟨1024 + k.val, by omega⟩ : Fin 2048) j) := by
  blk_point [iblk, V, idx t]
theorem r5 (j : Fin 1024) : iblk m c 5 t (ix2 (0 : Fin 1) j) = m ((c : Thread nD τ).loc main_arg4) (ix1 j) := by
  blk_point [iblk, V, idx t]
theorem r6 (j : Fin 1024) : iblk m c 6 t (ix2 (0 : Fin 1) j) = m ((c : Thread nD τ).loc main_arg5) (ix1 j) := by
  blk_point [iblk, V, idx t]
theorem r7 (k j : Fin 1024) : iblk m c 7 t (ix2 k j) = m ((c : Thread nD τ).loc main_arg6) (ix2 k j) := by
  blk_point [iblk, V, idx t]
theorem e8 (j : Fin 1024) : ((cfg0.win 8).blk t).view.emb (ix2 a j) = (ix2 (⟨t.val * 512 + a.val, by omega⟩ : Fin 32768) j) := by
  blk_point [idx t]
theorem e9 (j : Fin 1024) : ((cfg0.win 9).blk t).view.emb (ix2 a j) = (ix2 (⟨t.val * 512 + a.val, by omega⟩ : Fin 32768) j) := by
  blk_point [idx t]

/-- A block of the first result, at an element. -/
theorem pt8 (j : Fin 1024) : k0_pay2 (iblk m c 0 t) (iblk m c 3 t) (iblk m c 1 t) (iblk m c 4 t) (iblk m c 2 t) (iblk m c 5 t) (ix2 a j)
    = REF8 (P m c) (Q m c) (X m c) (W m c) (G m c) (ix2 (⟨t.val * 512 + a.val, by omega⟩ : Fin 32768) j) := by
  refine (pay2_apply _ _ _ _ _ _ a j).trans (Eq.trans ?_ (ref8_apply (P m c) (Q m c) (X m c) (W m c) (G m c) _ j).symm)
  refine congrArg₂ (fun u v : EReal => u + v) (r2 m c t a ht j) (congrArg₂ (rms · · j) (funext fun i => ?_) (funext fun k => r5 m c t k))
  refine congrArg₂ (fun u v : EReal => u + v) (Finset.sum_congr rfl fun k _ => congrArg₂ (fun u v : EReal => u * v) ?_ ?_)
    (Finset.sum_congr rfl fun k _ => congrArg₂ (fun u v : EReal => u * v) ?_ ?_)
  · exact r0 m c t a ht k
  · exact r3 m c t k i
  · exact r1 m c t a ht k
  · exact r4 m c t k i

/-- A block of the second result, at an element. -/
theorem pt9 (j : Fin 1024) : k0_pay1 (k0_pay2 (iblk m c 0 t) (iblk m c 3 t) (iblk m c 1 t) (iblk m c 4 t) (iblk m c 2 t) (iblk m c 5 t)) (k0_pay3 (iblk m c 6 t)) (k0_pay4 (iblk m c 0 t) (iblk m c 3 t) (iblk m c 1 t) (iblk m c 4 t) (iblk m c 2 t) (iblk m c 5 t)) (k0_pay5 (F := Ideal)) (iblk m c 7 t) (ix2 a j)
    = QRY (REF8 (P m c) (Q m c) (X m c) (W m c) (G m c)) (GX m c) (WQ m c) (ix2 (⟨t.val * 512 + a.val, by omega⟩ : Fin 32768) j) := by
  refine (pay1_apply _ _ _ _ _ _ _ _ a j).trans (Eq.trans ?_ (qry_apply _ (GX m c) (WQ m c) _ j).symm)
  refine congrArg (fun u : EReal => u * _) (Finset.sum_congr rfl fun k _ => congrArg₂ (fun u v : EReal => u * v) ?_ (r7 m c t k j))
  exact congrArg₂ (rms · · k) (funext fun i => pt8 m c t a ht i) (funext fun i => r6 m c t i)

end Reads

/-- After the run the first result array holds the reference's term. -/
theorem final8 (c : Dev nD) : (dats m 0 c).arrAt 8 (cfgs 0).N = REF8 (P m c) (Q m c) (X m c) (W m c) (G m c) := by
  refine (dats m 0 c).arrAt_eq_of_covers 8 _ (by decide +kernel) fun t _ y => ?_
  blk_simp
  rw [after0_8]; frame_out
  have ht : t.val < 64 := t.isLt
  obtain ⟨a, b, rfl⟩ : ∃ (a : Fin 512) (b : Fin 1024), y = ix2 a b := ⟨y 0, y 1, by funext i; fin_cases i <;> rfl⟩
  exact (pt8 m c t a ht b).trans (congrArg (REF8 (P m c) (Q m c) (X m c) (W m c) (G m c)) (e8 t a ht b).symm)

/-- After the run the second result array holds the reference's term. -/
theorem final9 (c : Dev nD) : (dats m 0 c).arrAt 9 (cfgs 0).N = QRY (REF8 (P m c) (Q m c) (X m c) (W m c) (G m c)) (GX m c) (WQ m c) := by
  refine (dats m 0 c).arrAt_eq_of_covers 9 _ (by decide +kernel) fun t _ y => ?_
  blk_simp
  rw [after0_9]; frame_out
  have ht : t.val < 64 := t.isLt
  obtain ⟨a, b, rfl⟩ : ∃ (a : Fin 512) (b : Fin 1024), y = ix2 a b := ⟨y 0, y 1, by funext i; fin_cases i <;> rfl⟩
  exact (pt9 m c t a ht b).trans (congrArg (QRY (REF8 (P m c) (Q m c) (X m c) (W m c) (G m c)) (GX m c) (WQ m c)) (e9 t a ht b).symm)

end Cert.MixOut

end
-- ==== Proof.MixOutClaim.lean ====
/- The claim about the output projection of the mixers: kernel and reference end with the same two arrays. -/
module

public import proofs.«01_k».proof.Defs
public import proofs.«01_k».proof.Proof.MixOut
public import Idealize.ShloMosaic.Lib.Claim

@[expose] public section

noncomputable section

namespace Cert.MixOut

open Idealize.ShloMosaic Idealize.SL.Sem

/-- The reference runs to its end and leaves its arguments alone; it declares no semaphore. -/
theorem frame_r : Cert.quiescent_Reference5Ideal := by
  intro m ρ _
  exact (θ_run Cert.Reference5Ideal.defs _ _).mono (fun r h => ⟨fun c => (h c).2.2, sem_eq_zero_of_no_sems (by decide) r.2⟩)
    (Cert.Reference5Ideal.Value.run m ρ)

/-- Kernel and reference, run from the same arguments, end with the same results. -/
theorem algebraic : Cert.algebraic_Kernel5Ideal_Reference5Ideal := by
  pair_intro
  · run_from Cert.Kernel5Ideal.Value.run_blocks m g
  · run_from Cert.Reference5Ideal.Value.run m' g'
    · exact (final8 m c).symm
    · obtain ⟨a0, a1, a2, a3, a4, a5, a6⟩ := hagree c
      unfold Cert.Reference5Ideal.Value.res_main_v34
      rw [a0, a1, a2, a3, a4, a5, a6]
      exact (final9 m c).symm

end Cert.MixOut

end
-- ==== Proof.MemKv.lean ====
/- The keys and values of the memory: what the blocked projection leaves in its result array. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.MemKv

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- The reference's result as a function of the three argument arrays. -/
abbrev REF (x : FVec Ideal Cert.Reference6Ideal.S4096x1024 .f32) (g : FVec Ideal Cert.Reference6Ideal.S1024 .f32)
    (w : FVec Ideal Cert.Reference6Ideal.S1024x2048 .f32) : FVec Ideal Cert.Reference6Ideal.S4096x2048 .bf16 :=
  truncf .bf16 (Host.dotGeneral Cert.Reference6Ideal.dot_S4096x1024_S1024x2048_S4096x2048_1_0_0_1_n_n none (mulf (mulf (x) (broadcastInDim Cert.Reference6Ideal.S4096x1024 ![0, 1] Cert.Reference6Ideal.Gen.bcast_S4096x1_S4096x1024_0_1 (Host.rsqrt (addf (Host.divf (broadcastInDim Cert.Reference6Ideal.S4096x1 ![0] Cert.Reference6Ideal.Gen.bcast_S4096_S4096x1_0 (Host.reduceAdd (mulf (x) (x)) (constant Cert.Reference6Ideal.S_ .f32 0x00000000#32) Cert.Reference6Ideal.Gen.reducesTo_S4096x1024_S4096_d1 Cert.Reference6Ideal.Gen.h_S_)) (broadcastInDim Cert.Reference6Ideal.S4096x1 ![] Cert.Reference6Ideal.Gen.bcast_S_S4096x1 (constant Cert.Reference6Ideal.S_ .f32 0x44800000#32))) (broadcastInDim Cert.Reference6Ideal.S4096x1 ![] Cert.Reference6Ideal.Gen.bcast_S_S4096x1 (constant Cert.Reference6Ideal.S_ .f32 0x358637BD#32)))))) (broadcastInDim Cert.Reference6Ideal.S4096x1024 ![0, 1] Cert.Reference6Ideal.Gen.bcast_S1x1024_S4096x1024_0_1 (broadcastInDim Cert.Reference6Ideal.S1x1024 ![1] Cert.Reference6Ideal.Gen.bcast_S1024_S1x1024_1 (g)))) (w)) Cert.Reference6Ideal.Gen.bitsLt_bf16_f32

/-- Which block each window holds at a grid point. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2))
      (((cfg0.win 3).blk t).view.emb y) := by
  pointwise [k0_pay1, REF]
  blk_point [iblk, V, idx t]

/-- After the run the result array holds the reference's term. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.MemKv

end
-- ==== Proof.MemKvClaim.lean ====
/- The claim about the keys and values of the memory: kernel and reference end with the same array. -/
module

public import proofs.«01_k».proof.Defs
public import proofs.«01_k».proof.Proof.MemKv
public import Idealize.ShloMosaic.Lib.Claim

@[expose] public section

noncomputable section

namespace Cert.MemKv

open Idealize.ShloMosaic Idealize.SL.Sem

/-- The reference runs to its end and leaves its arguments alone; it declares no semaphore. -/
theorem frame_r : Cert.quiescent_Reference6Ideal := by
  intro m ρ _
  exact (θ_run Cert.Reference6Ideal.defs _ _).mono (fun r h => ⟨fun c => (h c).2, sem_eq_zero_of_no_sems (by decide) r.2⟩)
    (Cert.Reference6Ideal.Value.run m ρ)

/-- Kernel and reference, run from the same arguments, end with the same results. -/
theorem algebraic : Cert.algebraic_Kernel6Ideal_Reference6Ideal := by
  pair_intro
  · run_from Cert.Kernel6Ideal.Gen.run_main m g
  · run_from Cert.Reference6Ideal.Value.run m' g'
    exact (final m c).symm

end Cert.MemKv

end
-- ==== Proof.MlstmClaim.lean ====
/- The plain mLSTM runs to its end and leaves its arguments alone. -/
module

public import proofs.«01_k».proof.Defs
public import proofs.«01_k».proof.Proof.Gen.Reference2Ideal.Run
public import Idealize.ShloMosaic.Lib.Claim

@[expose] public section

noncomputable section

namespace Cert.Mlstm

open Idealize.ShloMosaic Idealize.SL.Sem

/-- The reference runs to its end and leaves its arguments alone; it declares no semaphore. -/
theorem frame_r : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run m ρ)

end Cert.Mlstm

end
-- ==== Proof.lean ====
/- The certificate: every program runs to its end and leaves its arguments alone, and each kernel's results are its reference's. -/
module

public import proofs.«01_k».proof.Defs
public import proofs.«01_k».proof.Proof.Gen.Kernel.Frame
public import proofs.«01_k».proof.Proof.XattnClaim
public import proofs.«01_k».proof.Proof.Gen.Kernel3.Frame
public import proofs.«01_k».proof.Proof.SwaClaim
public import proofs.«01_k».proof.Proof.Gen.Kernel4.Frame
public import proofs.«01_k».proof.Proof.InProjClaim
public import proofs.«01_k».proof.Proof.Gen.Kernel5.Frame
public import proofs.«01_k».proof.Proof.MixOutClaim
public import proofs.«01_k».proof.Proof.Gen.Kernel6.Frame
public import proofs.«01_k».proof.Proof.MemKvClaim
public import proofs.«01_k».proof.Proof.Gen.Kernel2.Frame
public import proofs.«01_k».proof.Proof.Gen.Kernel2Ideal.Frame
public import proofs.«01_k».proof.Proof.MlstmClaim
public import proofs.«01_k».proof.Proof.Gen.Pre_finite_scores

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel2.Gen.facts, Cert.Kernel2Ideal.Gen.facts, Cert.Reference2Ideal.Gen.facts,
  Cert.Pre_finite_scores.Gen.facts,
  fun m ρ _ => Cert.Kernel.Gen.frame m ρ, fun m ρ _ => Cert.KernelIdeal.Gen.frame m ρ, Cert.Xattn.frame_r,
  fun m ρ _ => Cert.Kernel3.Gen.frame m ρ, fun m ρ _ => Cert.Kernel3Ideal.Gen.frame m ρ, fun m ρ _ => Cert.Kernel3Ideal.Gen.frame m ρ, Cert.Swa.frame_r, Cert.Swa.frame_r_pre,
  fun m ρ _ => Cert.Kernel4.Gen.frame m ρ, fun m ρ _ => Cert.Kernel4Ideal.Gen.frame m ρ, Cert.InProj.frame_r,
  fun m ρ _ => Cert.Kernel5.Gen.frame m ρ, fun m ρ _ => Cert.Kernel5Ideal.Gen.frame m ρ, Cert.MixOut.frame_r,
  fun m ρ _ => Cert.Kernel6.Gen.frame m ρ, fun m ρ _ => Cert.Kernel6Ideal.Gen.frame m ρ, Cert.MemKv.frame_r,
  fun m ρ _ => Cert.Kernel2.Gen.frame m ρ, fun m ρ _ => Cert.Kernel2Ideal.Gen.frame m ρ, Cert.Mlstm.frame_r,
  trivial, Cert.Xattn.algebraic,
  trivial, Cert.Swa.algebraic,
  trivial, Cert.InProj.algebraic,
  trivial, Cert.MixOut.algebraic,
  trivial, Cert.MemKv.algebraic,
  trivial⟩

end Cert.Proof

end
